-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x16384 .f32) (main_arg2 : FVec F S1x2048x8x128 .f32) (main_arg3 : FVec F S1x2048x8x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .f32) (main_arg1 : FVec F S1024x16384 .f32) (main_arg2 : FVec F S1x2048x128x128 .f32) (main_arg3 : FVec F S1x2048x128x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x128x128 .f32 := Host.absf main_arg2
  let main_cst_2 : FVec F S_ .f32 := constant S_ .f32 0x7F800000#32
  let main_v10 : FVec F S1x2048x128x128 .f32 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩
abbrev S2048x1024 : Shape := ⟨2, ![2048, 1024]⟩
abbrev S1024x1024 : Shape := ⟨2, ![1024, 1024]⟩
abbrev S4x3x128x1024 : Shape := ⟨4, ![4, 3, 128, 1024]⟩
abbrev S3x128x1024 : Shape := ⟨3, ![3, 128, 1024]⟩
abbrev S128x1024 : Shape := ⟨2, ![128, 1024]⟩
abbrev S512x1024 : Shape := ⟨2, ![512, 1024]⟩
abbrev S12 : Shape := ⟨1, ![12]⟩
abbrev S3 : Shape := ⟨1, ![3]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1x128x1024 : Shape := ⟨4, ![1, 1, 128, 1024]⟩
abbrev S1024x128 : Shape := ⟨2, ![1024, 128]⟩
abbrev S1536x128 : Shape := ⟨2, ![1536, 128]⟩
abbrev S512x1536 : Shape := ⟨2, ![512, 1536]⟩
abbrev S1x128x1024 : Shape := ⟨3, ![1, 128, 1024]⟩

abbrev nBuf : Space → Nat
  | .hbm => 38
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x8x128, .f32⟩
  | .hbm, ⟨3, _⟩ => ⟨S1x2048x8x128, .f32⟩
  | .hbm, ⟨4, _⟩ => ⟨S16384x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1024x1024, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x1024, .f32⟩
  | .hbm, ⟨34, _⟩ => ⟨S1024x1024, .bf16⟩
  | .hbm, ⟨35, _⟩ => ⟨S1024x1024, .bf16⟩
  | .hbm, ⟨36, _⟩ => ⟨S2048x1024, .f32⟩
  | .hbm, ⟨37, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .f32⟩
  | .local _ .vmem, ⟨4, _⟩ => ⟨S1024x1024, .bf16⟩
  | .local _ .vmem, ⟨5, _⟩ => ⟨S2048x1024, .f32⟩
  | .local _ .vmem, ⟨6, _⟩ => ⟨S4x3x128x1024, .bf16⟩
  | .local _ .vmem, ⟨7, _⟩ => ⟨S3x128x1024, .bf16⟩
  | .local _ .vmem, ⟨8, _⟩ => ⟨S2048x1024, .bf16⟩
  | .local _ .vmem, ⟨9, _⟩ => ⟨S128x1024, .f32⟩
  | .local _ .vmem, ⟨10, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_v18 : Ref sig .tc := ⟨.hbm, 31, rfl⟩
abbrev main_c_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v2 c1_i32_6
  let c4_i32_7 : BitVec 32 := 4#32
  let v23 : BitVec 32 := Scalar.remsi v22 c4_i32_7
  let v24 : BitVec 32 := Scalar.addi v21 v23
  let c1_i32_15 : BitVec 32 := 1#32
  let v38 : BitVec 32 := Scalar.muli v24 c1_i32_15
  let v39 : BitVec 32 := Scalar.addi c0_i32_16 v38
  v39.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32 : BitVec 32 := 2#32
  let v25 : BitVec 32 := Scalar.addi v2 c2_i32
  let c4_i32_8 : BitVec 32 := 4#32
  let v26 : BitVec 32 := Scalar.remsi v25 c4_i32_8
  let v27 : BitVec 32 := Scalar.addi v21 v26
  let c1_i32_18 : BitVec 32 := 1#32
  let v40 : BitVec 32 := Scalar.muli v27 c1_i32_18
  let v41 : BitVec 32 := Scalar.addi c0_i32_19 v40
  v41.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v28 : BitVec 32 := Scalar.addi v2 c3_i32
  let c4_i32_9 : BitVec 32 := 4#32
  let v29 : BitVec 32 := Scalar.remsi v28 c4_i32_9
  let v30 : BitVec 32 := Scalar.addi v21 v29
  let c1_i32_21 : BitVec 32 := 1#32
  let v42 : BitVec 32 := Scalar.muli v30 c1_i32_21
  let v43 : BitVec 32 := Scalar.addi c0_i32_22 v42
  v43.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_10 : BitVec 32 := 4#32
  let v31 : BitVec 32 := Scalar.addi v2 c4_i32_10
  let c16_i32_11 : BitVec 32 := 16#32
  let v32 : BitVec 32 := Scalar.remsi v31 c16_i32_11
  let c1_i32_24 : BitVec 32 := 1#32
  let v44 : BitVec 32 := Scalar.muli v32 c1_i32_24
  let v45 : BitVec 32 := Scalar.addi c0_i32_25 v44
  v45.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_12 : BitVec 32 := 16#32
  let v34 : BitVec 32 := Scalar.remsi v33 c16_i32_12
  let c1_i32_27 : BitVec 32 := 1#32
  let v46 : BitVec 32 := Scalar.muli v34 c1_i32_27
  let v47 : BitVec 32 := Scalar.addi c0_i32_28 v46
  v47.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v35 : BitVec 32 := Scalar.addi v2 c12_i32
  let c16_i32_13 : BitVec 32 := 16#32
  let v36 : BitVec 32 := Scalar.remsi v35 c16_i32_13
  let c1_i32_30 : BitVec 32 := 1#32
  let v48 : BitVec 32 := Scalar.muli v36 c1_i32_30
  let v49 : BitVec 32 := Scalar.addi c0_i32_31 v48
  v49.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_154 : BitVec 32 := 4#32
  let v301 : BitVec 32 := Scalar.remsi v2 c4_i32_154
  let c0_i32_155 : BitVec 32 := 0#32
  let v302 : BitVec 1 := Scalar.cmpi .ne v301 c0_i32_155
  let v303 : BitVec 32 := Scalar.extui v302
  let c0_i32_157 : BitVec 32 := 0#32
  let v304 : BitVec 1 := Scalar.cmpi .ne v303 c0_i32_157
  v304

def k0_off1 (d0 : Dev nD) : Fin 1 → Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_148 : BitVec 32 := 0#32
  let v294 : BitVec 32 := Scalar.subi v2 c0_i32_148
  let c32_i32 : BitVec 32 := 32#32
  let v295 : BitVec 32 := Scalar.addi v294 c32_i32
  let c4_i32_149 : BitVec 32 := 4#32
  let v296 : BitVec 32 := Scalar.remsi v295 c4_i32_149
  let c1_i32_150 : BitVec 32 := 1#32
  let v297 : BitVec 32 := Scalar.maxsi v296 c1_i32_150
  let c1_i32_151 : BitVec 32 := 1#32
  let v298 : BitVec 32 := Scalar.subi v297 c1_i32_151
  let v299 : BitVec 32 := Scalar.addi c0_i32_152 v298
  ![v299.toNat]
def k0_off2 (d0 : Dev nD) : Fin 4 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_148 : BitVec 32 := 0#32
  let v294 : BitVec 32 := Scalar.subi v2 c0_i32_148
  let c32_i32 : BitVec 32 := 32#32
  let v295 : BitVec 32 := Scalar.addi v294 c32_i32
  let c4_i32_149 : BitVec 32 := 4#32
  let v296 : BitVec 32 := Scalar.remsi v295 c4_i32_149
  let c1_i32_150 : BitVec 32 := 1#32
  let v297 : BitVec 32 := Scalar.maxsi v296 c1_i32_150
  let c1_i32_151 : BitVec 32 := 1#32
  let v298 : BitVec 32 := Scalar.subi v297 c1_i32_151
  let c0_i32_1696 : BitVec 32 := 0#32
  let c0_i32_1697 : BitVec 32 := 0#32
  ![0, v298.toNat, 0, 0]
def k0_dev7 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c0_i32_153 : BitVec 32 := 0#32
  let v300 : BitVec 32 := Scalar.addi v21 c0_i32_153
  let c1_i32_1694 : BitVec 32 := 1#32
  let v2099 : BitVec 32 := Scalar.muli v300 c1_i32_1694
  let v2100 : BitVec 32 := Scalar.addi c0_i32_1695 v2099
  v2100.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_169 : BitVec 32 := 4#32
  let v318 : BitVec 32 := Scalar.remsi v2 c4_i32_169
  let c1_i32_170 : BitVec 32 := 1#32
  let v319 : BitVec 1 := Scalar.cmpi .ne v318 c1_i32_170
  let v320 : BitVec 32 := Scalar.extui v319
  let c0_i32_172 : BitVec 32 := 0#32
  let v321 : BitVec 1 := Scalar.cmpi .ne v320 c0_i32_172
  v321

def k0_off3 (d0 : Dev nD) : Fin 1 → Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_162 : BitVec 32 := 1#32
  let v311 : BitVec 32 := Scalar.subi v2 c1_i32_162
  let c32_i32_163 : BitVec 32 := 32#32
  let v312 : BitVec 32 := Scalar.addi v311 c32_i32_163
  let c4_i32_164 : BitVec 32 := 4#32
  let v313 : BitVec 32 := Scalar.remsi v312 c4_i32_164
  let c1_i32_165 : BitVec 32 := 1#32
  let v314 : BitVec 32 := Scalar.maxsi v313 c1_i32_165
  let c1_i32_166 : BitVec 32 := 1#32
  let v315 : BitVec 32 := Scalar.subi v314 c1_i32_166
  let v316 : BitVec 32 := Scalar.addi c0_i32_167 v315
  ![v316.toNat]
def k0_off4 (d0 : Dev nD) : Fin 4 → Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_162 : BitVec 32 := 1#32
  let v311 : BitVec 32 := Scalar.subi v2 c1_i32_162
  let c32_i32_163 : BitVec 32 := 32#32
  let v312 : BitVec 32 := Scalar.addi v311 c32_i32_163
  let c4_i32_164 : BitVec 32 := 4#32
  let v313 : BitVec 32 := Scalar.remsi v312 c4_i32_164
  let c1_i32_165 : BitVec 32 := 1#32
  let v314 : BitVec 32 := Scalar.maxsi v313 c1_i32_165
  let c1_i32_166 : BitVec 32 := 1#32
  let v315 : BitVec 32 := Scalar.subi v314 c1_i32_166
  let c0_i32_1696 : BitVec 32 := 0#32
  let c0_i32_1697 : BitVec 32 := 0#32
  ![0, v315.toNat, 0, 0]
def k0_dev8 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_168 : BitVec 32 := 1#32
  let v317 : BitVec 32 := Scalar.addi v21 c1_i32_168
  let c1_i32_1694 : BitVec 32 := 1#32
  let v2099 : BitVec 32 := Scalar.muli v317 c1_i32_1694
  let v2100 : BitVec 32 := Scalar.addi c0_i32_1695 v2099
  v2100.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_184 : BitVec 32 := 4#32
  let v335 : BitVec 32 := Scalar.remsi v2 c4_i32_184
  let c2_i32_185 : BitVec 32 := 2#32
  let v336 : BitVec 1 := Scalar.cmpi .ne v335 c2_i32_185
  let v337 : BitVec 32 := Scalar.extui v336
  let c0_i32_187 : BitVec 32 := 0#32
  let v338 : BitVec 1 := Scalar.cmpi .ne v337 c0_i32_187
  v338

def k0_off5 (d0 : Dev nD) : Fin 1 → Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_177 : BitVec 32 := 2#32
  let v328 : BitVec 32 := Scalar.subi v2 c2_i32_177
  let c32_i32_178 : BitVec 32 := 32#32
  let v329 : BitVec 32 := Scalar.addi v328 c32_i32_178
  let c4_i32_179 : BitVec 32 := 4#32
  let v330 : BitVec 32 := Scalar.remsi v329 c4_i32_179
  let c1_i32_180 : BitVec 32 := 1#32
  let v331 : BitVec 32 := Scalar.maxsi v330 c1_i32_180
  let c1_i32_181 : BitVec 32 := 1#32
  let v332 : BitVec 32 := Scalar.subi v331 c1_i32_181
  let v333 : BitVec 32 := Scalar.addi c0_i32_182 v332
  ![v333.toNat]
def k0_off6 (d0 : Dev nD) : Fin 4 → Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_177 : BitVec 32 := 2#32
  let v328 : BitVec 32 := Scalar.subi v2 c2_i32_177
  let c32_i32_178 : BitVec 32 := 32#32
  let v329 : BitVec 32 := Scalar.addi v328 c32_i32_178
  let c4_i32_179 : BitVec 32 := 4#32
  let v330 : BitVec 32 := Scalar.remsi v329 c4_i32_179
  let c1_i32_180 : BitVec 32 := 1#32
  let v331 : BitVec 32 := Scalar.maxsi v330 c1_i32_180
  let c1_i32_181 : BitVec 32 := 1#32
  let v332 : BitVec 32 := Scalar.subi v331 c1_i32_181
  let c0_i32_1696 : BitVec 32 := 0#32
  let c0_i32_1697 : BitVec 32 := 0#32
  ![0, v332.toNat, 0, 0]
def k0_dev9 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_183 : BitVec 32 := 2#32
  let v334 : BitVec 32 := Scalar.addi v21 c2_i32_183
  let c1_i32_1694 : BitVec 32 := 1#32
  let v2099 : BitVec 32 := Scalar.muli v334 c1_i32_1694
  let v2100 : BitVec 32 := Scalar.addi c0_i32_1695 v2099
  v2100.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_199 : BitVec 32 := 4#32
  let v352 : BitVec 32 := Scalar.remsi v2 c4_i32_199
  let c3_i32_200 : BitVec 32 := 3#32
  let v353 : BitVec 1 := Scalar.cmpi .ne v352 c3_i32_200
  let v354 : BitVec 32 := Scalar.extui v353
  let c0_i32_202 : BitVec 32 := 0#32
  let v355 : BitVec 1 := Scalar.cmpi .ne v354 c0_i32_202
  v355

def k0_off7 (d0 : Dev nD) : Fin 1 → Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_192 : BitVec 32 := 3#32
  let v345 : BitVec 32 := Scalar.subi v2 c3_i32_192
  let c32_i32_193 : BitVec 32 := 32#32
  let v346 : BitVec 32 := Scalar.addi v345 c32_i32_193
  let c4_i32_194 : BitVec 32 := 4#32
  let v347 : BitVec 32 := Scalar.remsi v346 c4_i32_194
  let c1_i32_195 : BitVec 32 := 1#32
  let v348 : BitVec 32 := Scalar.maxsi v347 c1_i32_195
  let c1_i32_196 : BitVec 32 := 1#32
  let v349 : BitVec 32 := Scalar.subi v348 c1_i32_196
  let v350 : BitVec 32 := Scalar.addi c0_i32_197 v349
  ![v350.toNat]
def k0_off8 (d0 : Dev nD) : Fin 4 → Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_192 : BitVec 32 := 3#32
  let v345 : BitVec 32 := Scalar.subi v2 c3_i32_192
  let c32_i32_193 : BitVec 32 := 32#32
  let v346 : BitVec 32 := Scalar.addi v345 c32_i32_193
  let c4_i32_194 : BitVec 32 := 4#32
  let v347 : BitVec 32 := Scalar.remsi v346 c4_i32_194
  let c1_i32_195 : BitVec 32 := 1#32
  let v348 : BitVec 32 := Scalar.maxsi v347 c1_i32_195
  let c1_i32_196 : BitVec 32 := 1#32
  let v349 : BitVec 32 := Scalar.subi v348 c1_i32_196
  let c0_i32_1696 : BitVec 32 := 0#32
  let c0_i32_1697 : BitVec 32 := 0#32
  ![0, v349.toNat, 0, 0]
def k0_dev10 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_198 : BitVec 32 := 3#32
  let v351 : BitVec 32 := Scalar.addi v21 c3_i32_198
  let c1_i32_1694 : BitVec 32 := 1#32
  let v2099 : BitVec 32 := Scalar.muli v351 c1_i32_1694
  let v2100 : BitVec 32 := Scalar.addi c0_i32_1695 v2099
  v2100.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_386 : BitVec 32 := 4#32
  let v660 : BitVec 32 := Scalar.remsi v2 c4_i32_386
  let c0_i32_387 : BitVec 32 := 0#32
  let v661 : BitVec 1 := Scalar.cmpi .ne v660 c0_i32_387
  let v662 : BitVec 32 := Scalar.extui v661
  let c0_i32_389 : BitVec 32 := 0#32
  let v663 : BitVec 1 := Scalar.cmpi .ne v662 c0_i32_389
  v663

def k0_off9 (d0 : Dev nD) : Fin 1 → Nat :=
  let c3_i32_384 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_379 : BitVec 32 := 4#32
  let v653 : BitVec 32 := Scalar.subi v2 c4_i32_379
  let c32_i32_380 : BitVec 32 := 32#32
  let v654 : BitVec 32 := Scalar.addi v653 c32_i32_380
  let c4_i32_381 : BitVec 32 := 4#32
  let v655 : BitVec 32 := Scalar.remsi v654 c4_i32_381
  let c1_i32_382 : BitVec 32 := 1#32
  let v656 : BitVec 32 := Scalar.maxsi v655 c1_i32_382
  let c1_i32_383 : BitVec 32 := 1#32
  let v657 : BitVec 32 := Scalar.subi v656 c1_i32_383
  let v658 : BitVec 32 := Scalar.addi c3_i32_384 v657
  ![v658.toNat]
def k0_off10 (d0 : Dev nD) : Fin 4 → Nat :=
  let c1_i32_388 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_379 : BitVec 32 := 4#32
  let v653 : BitVec 32 := Scalar.subi v2 c4_i32_379
  let c32_i32_380 : BitVec 32 := 32#32
  let v654 : BitVec 32 := Scalar.addi v653 c32_i32_380
  let c4_i32_381 : BitVec 32 := 4#32
  let v655 : BitVec 32 := Scalar.remsi v654 c4_i32_381
  let c1_i32_382 : BitVec 32 := 1#32
  let v656 : BitVec 32 := Scalar.maxsi v655 c1_i32_382
  let c1_i32_383 : BitVec 32 := 1#32
  let v657 : BitVec 32 := Scalar.subi v656 c1_i32_383
  let c0_i32_1696 : BitVec 32 := 0#32
  let c0_i32_1697 : BitVec 32 := 0#32
  ![1, v657.toNat, 0, 0]
def k0_dev11 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c0_i32_385 : BitVec 32 := 0#32
  let v659 : BitVec 32 := Scalar.addi v21 c0_i32_385
  let c1_i32_1694 : BitVec 32 := 1#32
  let v2099 : BitVec 32 := Scalar.muli v659 c1_i32_1694
  let v2100 : BitVec 32 := Scalar.addi c0_i32_1695 v2099
  v2100.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_400 : BitVec 32 := 4#32
  let v677 : BitVec 32 := Scalar.remsi v2 c4_i32_400
  let c1_i32_401 : BitVec 32 := 1#32
  let v678 : BitVec 1 := Scalar.cmpi .ne v677 c1_i32_401
  let v679 : BitVec 32 := Scalar.extui v678
  let c0_i32_403 : BitVec 32 := 0#32
  let v680 : BitVec 1 := Scalar.cmpi .ne v679 c0_i32_403
  v680

def k0_off11 (d0 : Dev nD) : Fin 1 → Nat :=
  let c3_i32_398 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v670 : BitVec 32 := Scalar.subi v2 c5_i32
  let c32_i32_394 : BitVec 32 := 32#32
  let v671 : BitVec 32 := Scalar.addi v670 c32_i32_394
  let c4_i32_395 : BitVec 32 := 4#32
  let v672 : BitVec 32 := Scalar.remsi v671 c4_i32_395
  let c1_i32_396 : BitVec 32 := 1#32
  let v673 : BitVec 32 := Scalar.maxsi v672 c1_i32_396
  let c1_i32_397 : BitVec 32 := 1#32
  let v674 : BitVec 32 := Scalar.subi v673 c1_i32_397
  let v675 : BitVec 32 := Scalar.addi c3_i32_398 v674
  ![v675.toNat]
def k0_off12 (d0 : Dev nD) : Fin 4 → Nat :=
  let c1_i32_402 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v670 : BitVec 32 := Scalar.subi v2 c5_i32
  let c32_i32_394 : BitVec 32 := 32#32
  let v671 : BitVec 32 := Scalar.addi v670 c32_i32_394
  let c4_i32_395 : BitVec 32 := 4#32
  let v672 : BitVec 32 := Scalar.remsi v671 c4_i32_395
  let c1_i32_396 : BitVec 32 := 1#32
  let v673 : BitVec 32 := Scalar.maxsi v672 c1_i32_396
  let c1_i32_397 : BitVec 32 := 1#32
  let v674 : BitVec 32 := Scalar.subi v673 c1_i32_397
  let c0_i32_1696 : BitVec 32 := 0#32
  let c0_i32_1697 : BitVec 32 := 0#32
  ![1, v674.toNat, 0, 0]
def k0_dev12 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_399 : BitVec 32 := 1#32
  let v676 : BitVec 32 := Scalar.addi v21 c1_i32_399
  let c1_i32_1694 : BitVec 32 := 1#32
  let v2099 : BitVec 32 := Scalar.muli v676 c1_i32_1694
  let v2100 : BitVec 32 := Scalar.addi c0_i32_1695 v2099
  v2100.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_415 : BitVec 32 := 4#32
  let v694 : BitVec 32 := Scalar.remsi v2 c4_i32_415
  let c2_i32_416 : BitVec 32 := 2#32
  let v695 : BitVec 1 := Scalar.cmpi .ne v694 c2_i32_416
  let v696 : BitVec 32 := Scalar.extui v695
  let c0_i32_418 : BitVec 32 := 0#32
  let v697 : BitVec 1 := Scalar.cmpi .ne v696 c0_i32_418
  v697

def k0_off13 (d0 : Dev nD) : Fin 1 → Nat :=
  let c3_i32_413 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_408 : BitVec 32 := 6#32
  let v687 : BitVec 32 := Scalar.subi v2 c6_i32_408
  let c32_i32_409 : BitVec 32 := 32#32
  let v688 : BitVec 32 := Scalar.addi v687 c32_i32_409
  let c4_i32_410 : BitVec 32 := 4#32
  let v689 : BitVec 32 := Scalar.remsi v688 c4_i32_410
  let c1_i32_411 : BitVec 32 := 1#32
  let v690 : BitVec 32 := Scalar.maxsi v689 c1_i32_411
  let c1_i32_412 : BitVec 32 := 1#32
  let v691 : BitVec 32 := Scalar.subi v690 c1_i32_412
  let v692 : BitVec 32 := Scalar.addi c3_i32_413 v691
  ![v692.toNat]
def k0_off14 (d0 : Dev nD) : Fin 4 → Nat :=
  let c1_i32_417 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_408 : BitVec 32 := 6#32
  let v687 : BitVec 32 := Scalar.subi v2 c6_i32_408
  let c32_i32_409 : BitVec 32 := 32#32
  let v688 : BitVec 32 := Scalar.addi v687 c32_i32_409
  let c4_i32_410 : BitVec 32 := 4#32
  let v689 : BitVec 32 := Scalar.remsi v688 c4_i32_410
  let c1_i32_411 : BitVec 32 := 1#32
  let v690 : BitVec 32 := Scalar.maxsi v689 c1_i32_411
  let c1_i32_412 : BitVec 32 := 1#32
  let v691 : BitVec 32 := Scalar.subi v690 c1_i32_412
  let c0_i32_1696 : BitVec 32 := 0#32
  let c0_i32_1697 : BitVec 32 := 0#32
  ![1, v691.toNat, 0, 0]
def k0_dev13 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_414 : BitVec 32 := 2#32
  let v693 : BitVec 32 := Scalar.addi v21 c2_i32_414
  let c1_i32_1694 : BitVec 32 := 1#32
  let v2099 : BitVec 32 := Scalar.muli v693 c1_i32_1694
  let v2100 : BitVec 32 := Scalar.addi c0_i32_1695 v2099
  v2100.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_429 : BitVec 32 := 4#32
  let v711 : BitVec 32 := Scalar.remsi v2 c4_i32_429
  let c3_i32_430 : BitVec 32 := 3#32
  let v712 : BitVec 1 := Scalar.cmpi .ne v711 c3_i32_430
  let v713 : BitVec 32 := Scalar.extui v712
  let c0_i32_432 : BitVec 32 := 0#32
  let v714 : BitVec 1 := Scalar.cmpi .ne v713 c0_i32_432
  v714

def k0_off15 (d0 : Dev nD) : Fin 1 → Nat :=
  let c3_i32_427 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v704 : BitVec 32 := Scalar.subi v2 c7_i32
  let c32_i32_423 : BitVec 32 := 32#32
  let v705 : BitVec 32 := Scalar.addi v704 c32_i32_423
  let c4_i32_424 : BitVec 32 := 4#32
  let v706 : BitVec 32 := Scalar.remsi v705 c4_i32_424
  let c1_i32_425 : BitVec 32 := 1#32
  let v707 : BitVec 32 := Scalar.maxsi v706 c1_i32_425
  let c1_i32_426 : BitVec 32 := 1#32
  let v708 : BitVec 32 := Scalar.subi v707 c1_i32_426
  let v709 : BitVec 32 := Scalar.addi c3_i32_427 v708
  ![v709.toNat]
def k0_off16 (d0 : Dev nD) : Fin 4 → Nat :=
  let c1_i32_431 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v704 : BitVec 32 := Scalar.subi v2 c7_i32
  let c32_i32_423 : BitVec 32 := 32#32
  let v705 : BitVec 32 := Scalar.addi v704 c32_i32_423
  let c4_i32_424 : BitVec 32 := 4#32
  let v706 : BitVec 32 := Scalar.remsi v705 c4_i32_424
  let c1_i32_425 : BitVec 32 := 1#32
  let v707 : BitVec 32 := Scalar.maxsi v706 c1_i32_425
  let c1_i32_426 : BitVec 32 := 1#32
  let v708 : BitVec 32 := Scalar.subi v707 c1_i32_426
  let c0_i32_1696 : BitVec 32 := 0#32
  let c0_i32_1697 : BitVec 32 := 0#32
  ![1, v708.toNat, 0, 0]
def k0_dev14 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_428 : BitVec 32 := 3#32
  let v710 : BitVec 32 := Scalar.addi v21 c3_i32_428
  let c1_i32_1694 : BitVec 32 := 1#32
  let v2099 : BitVec 32 := Scalar.muli v710 c1_i32_1694
  let v2100 : BitVec 32 := Scalar.addi c0_i32_1695 v2099
  v2100.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_615 : BitVec 32 := 4#32
  let v1019 : BitVec 32 := Scalar.remsi v2 c4_i32_615
  let c0_i32_616 : BitVec 32 := 0#32
  let v1020 : BitVec 1 := Scalar.cmpi .ne v1019 c0_i32_616
  let v1021 : BitVec 32 := Scalar.extui v1020
  let c0_i32_618 : BitVec 32 := 0#32
  let v1022 : BitVec 1 := Scalar.cmpi .ne v1021 c0_i32_618
  v1022

def k0_off17 (d0 : Dev nD) : Fin 1 → Nat :=
  let c6_i32_613 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_608 : BitVec 32 := 8#32
  let v1012 : BitVec 32 := Scalar.subi v2 c8_i32_608
  let c32_i32_609 : BitVec 32 := 32#32
  let v1013 : BitVec 32 := Scalar.addi v1012 c32_i32_609
  let c4_i32_610 : BitVec 32 := 4#32
  let v1014 : BitVec 32 := Scalar.remsi v1013 c4_i32_610
  let c1_i32_611 : BitVec 32 := 1#32
  let v1015 : BitVec 32 := Scalar.maxsi v1014 c1_i32_611
  let c1_i32_612 : BitVec 32 := 1#32
  let v1016 : BitVec 32 := Scalar.subi v1015 c1_i32_612
  let v1017 : BitVec 32 := Scalar.addi c6_i32_613 v1016
  ![v1017.toNat]
def k0_off18 (d0 : Dev nD) : Fin 4 → Nat :=
  let c2_i32_617 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_608 : BitVec 32 := 8#32
  let v1012 : BitVec 32 := Scalar.subi v2 c8_i32_608
  let c32_i32_609 : BitVec 32 := 32#32
  let v1013 : BitVec 32 := Scalar.addi v1012 c32_i32_609
  let c4_i32_610 : BitVec 32 := 4#32
  let v1014 : BitVec 32 := Scalar.remsi v1013 c4_i32_610
  let c1_i32_611 : BitVec 32 := 1#32
  let v1015 : BitVec 32 := Scalar.maxsi v1014 c1_i32_611
  let c1_i32_612 : BitVec 32 := 1#32
  let v1016 : BitVec 32 := Scalar.subi v1015 c1_i32_612
  let c0_i32_1696 : BitVec 32 := 0#32
  let c0_i32_1697 : BitVec 32 := 0#32
  ![2, v1016.toNat, 0, 0]
def k0_dev15 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c0_i32_614 : BitVec 32 := 0#32
  let v1018 : BitVec 32 := Scalar.addi v21 c0_i32_614
  let c1_i32_1694 : BitVec 32 := 1#32
  let v2099 : BitVec 32 := Scalar.muli v1018 c1_i32_1694
  let v2100 : BitVec 32 := Scalar.addi c0_i32_1695 v2099
  v2100.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_628 : BitVec 32 := 4#32
  let v1036 : BitVec 32 := Scalar.remsi v2 c4_i32_628
  let c1_i32_629 : BitVec 32 := 1#32
  let v1037 : BitVec 1 := Scalar.cmpi .ne v1036 c1_i32_629
  let v1038 : BitVec 32 := Scalar.extui v1037
  let c0_i32_631 : BitVec 32 := 0#32
  let v1039 : BitVec 1 := Scalar.cmpi .ne v1038 c0_i32_631
  v1039

def k0_off19 (d0 : Dev nD) : Fin 1 → Nat :=
  let c6_i32_626 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v1029 : BitVec 32 := Scalar.subi v2 c9_i32
  let c32_i32_622 : BitVec 32 := 32#32
  let v1030 : BitVec 32 := Scalar.addi v1029 c32_i32_622
  let c4_i32_623 : BitVec 32 := 4#32
  let v1031 : BitVec 32 := Scalar.remsi v1030 c4_i32_623
  let c1_i32_624 : BitVec 32 := 1#32
  let v1032 : BitVec 32 := Scalar.maxsi v1031 c1_i32_624
  let c1_i32_625 : BitVec 32 := 1#32
  let v1033 : BitVec 32 := Scalar.subi v1032 c1_i32_625
  let v1034 : BitVec 32 := Scalar.addi c6_i32_626 v1033
  ![v1034.toNat]
def k0_off20 (d0 : Dev nD) : Fin 4 → Nat :=
  let c2_i32_630 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v1029 : BitVec 32 := Scalar.subi v2 c9_i32
  let c32_i32_622 : BitVec 32 := 32#32
  let v1030 : BitVec 32 := Scalar.addi v1029 c32_i32_622
  let c4_i32_623 : BitVec 32 := 4#32
  let v1031 : BitVec 32 := Scalar.remsi v1030 c4_i32_623
  let c1_i32_624 : BitVec 32 := 1#32
  let v1032 : BitVec 32 := Scalar.maxsi v1031 c1_i32_624
  let c1_i32_625 : BitVec 32 := 1#32
  let v1033 : BitVec 32 := Scalar.subi v1032 c1_i32_625
  let c0_i32_1696 : BitVec 32 := 0#32
  let c0_i32_1697 : BitVec 32 := 0#32
  ![2, v1033.toNat, 0, 0]
def k0_dev16 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_627 : BitVec 32 := 1#32
  let v1035 : BitVec 32 := Scalar.addi v21 c1_i32_627
  let c1_i32_1694 : BitVec 32 := 1#32
  let v2099 : BitVec 32 := Scalar.muli v1035 c1_i32_1694
  let v2100 : BitVec 32 := Scalar.addi c0_i32_1695 v2099
  v2100.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_641 : BitVec 32 := 4#32
  let v1053 : BitVec 32 := Scalar.remsi v2 c4_i32_641
  let c2_i32_642 : BitVec 32 := 2#32
  let v1054 : BitVec 1 := Scalar.cmpi .ne v1053 c2_i32_642
  let v1055 : BitVec 32 := Scalar.extui v1054
  let c0_i32_644 : BitVec 32 := 0#32
  let v1056 : BitVec 1 := Scalar.cmpi .ne v1055 c0_i32_644
  v1056

def k0_off21 (d0 : Dev nD) : Fin 1 → Nat :=
  let c6_i32_639 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v1046 : BitVec 32 := Scalar.subi v2 c10_i32
  let c32_i32_635 : BitVec 32 := 32#32
  let v1047 : BitVec 32 := Scalar.addi v1046 c32_i32_635
  let c4_i32_636 : BitVec 32 := 4#32
  let v1048 : BitVec 32 := Scalar.remsi v1047 c4_i32_636
  let c1_i32_637 : BitVec 32 := 1#32
  let v1049 : BitVec 32 := Scalar.maxsi v1048 c1_i32_637
  let c1_i32_638 : BitVec 32 := 1#32
  let v1050 : BitVec 32 := Scalar.subi v1049 c1_i32_638
  let v1051 : BitVec 32 := Scalar.addi c6_i32_639 v1050
  ![v1051.toNat]
def k0_off22 (d0 : Dev nD) : Fin 4 → Nat :=
  let c2_i32_643 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v1046 : BitVec 32 := Scalar.subi v2 c10_i32
  let c32_i32_635 : BitVec 32 := 32#32
  let v1047 : BitVec 32 := Scalar.addi v1046 c32_i32_635
  let c4_i32_636 : BitVec 32 := 4#32
  let v1048 : BitVec 32 := Scalar.remsi v1047 c4_i32_636
  let c1_i32_637 : BitVec 32 := 1#32
  let v1049 : BitVec 32 := Scalar.maxsi v1048 c1_i32_637
  let c1_i32_638 : BitVec 32 := 1#32
  let v1050 : BitVec 32 := Scalar.subi v1049 c1_i32_638
  let c0_i32_1696 : BitVec 32 := 0#32
  let c0_i32_1697 : BitVec 32 := 0#32
  ![2, v1050.toNat, 0, 0]
def k0_dev17 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_640 : BitVec 32 := 2#32
  let v1052 : BitVec 32 := Scalar.addi v21 c2_i32_640
  let c1_i32_1694 : BitVec 32 := 1#32
  let v2099 : BitVec 32 := Scalar.muli v1052 c1_i32_1694
  let v2100 : BitVec 32 := Scalar.addi c0_i32_1695 v2099
  v2100.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_654 : BitVec 32 := 4#32
  let v1070 : BitVec 32 := Scalar.remsi v2 c4_i32_654
  let c3_i32_655 : BitVec 32 := 3#32
  let v1071 : BitVec 1 := Scalar.cmpi .ne v1070 c3_i32_655
  let v1072 : BitVec 32 := Scalar.extui v1071
  let c0_i32_657 : BitVec 32 := 0#32
  let v1073 : BitVec 1 := Scalar.cmpi .ne v1072 c0_i32_657
  v1073

def k0_off23 (d0 : Dev nD) : Fin 1 → Nat :=
  let c6_i32_652 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v1063 : BitVec 32 := Scalar.subi v2 c11_i32
  let c32_i32_648 : BitVec 32 := 32#32
  let v1064 : BitVec 32 := Scalar.addi v1063 c32_i32_648
  let c4_i32_649 : BitVec 32 := 4#32
  let v1065 : BitVec 32 := Scalar.remsi v1064 c4_i32_649
  let c1_i32_650 : BitVec 32 := 1#32
  let v1066 : BitVec 32 := Scalar.maxsi v1065 c1_i32_650
  let c1_i32_651 : BitVec 32 := 1#32
  let v1067 : BitVec 32 := Scalar.subi v1066 c1_i32_651
  let v1068 : BitVec 32 := Scalar.addi c6_i32_652 v1067
  ![v1068.toNat]
def k0_off24 (d0 : Dev nD) : Fin 4 → Nat :=
  let c2_i32_656 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v1063 : BitVec 32 := Scalar.subi v2 c11_i32
  let c32_i32_648 : BitVec 32 := 32#32
  let v1064 : BitVec 32 := Scalar.addi v1063 c32_i32_648
  let c4_i32_649 : BitVec 32 := 4#32
  let v1065 : BitVec 32 := Scalar.remsi v1064 c4_i32_649
  let c1_i32_650 : BitVec 32 := 1#32
  let v1066 : BitVec 32 := Scalar.maxsi v1065 c1_i32_650
  let c1_i32_651 : BitVec 32 := 1#32
  let v1067 : BitVec 32 := Scalar.subi v1066 c1_i32_651
  let c0_i32_1696 : BitVec 32 := 0#32
  let c0_i32_1697 : BitVec 32 := 0#32
  ![2, v1067.toNat, 0, 0]
def k0_dev18 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_653 : BitVec 32 := 3#32
  let v1069 : BitVec 32 := Scalar.addi v21 c3_i32_653
  let c1_i32_1694 : BitVec 32 := 1#32
  let v2099 : BitVec 32 := Scalar.muli v1069 c1_i32_1694
  let v2100 : BitVec 32 := Scalar.addi c0_i32_1695 v2099
  v2100.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_840 : BitVec 32 := 4#32
  let v1378 : BitVec 32 := Scalar.remsi v2 c4_i32_840
  let c0_i32_841 : BitVec 32 := 0#32
  let v1379 : BitVec 1 := Scalar.cmpi .ne v1378 c0_i32_841
  let v1380 : BitVec 32 := Scalar.extui v1379
  let c0_i32_843 : BitVec 32 := 0#32
  let v1381 : BitVec 1 := Scalar.cmpi .ne v1380 c0_i32_843
  v1381

def k0_off25 (d0 : Dev nD) : Fin 1 → Nat :=
  let c9_i32_838 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_833 : BitVec 32 := 12#32
  let v1371 : BitVec 32 := Scalar.subi v2 c12_i32_833
  let c32_i32_834 : BitVec 32 := 32#32
  let v1372 : BitVec 32 := Scalar.addi v1371 c32_i32_834
  let c4_i32_835 : BitVec 32 := 4#32
  let v1373 : BitVec 32 := Scalar.remsi v1372 c4_i32_835
  let c1_i32_836 : BitVec 32 := 1#32
  let v1374 : BitVec 32 := Scalar.maxsi v1373 c1_i32_836
  let c1_i32_837 : BitVec 32 := 1#32
  let v1375 : BitVec 32 := Scalar.subi v1374 c1_i32_837
  let v1376 : BitVec 32 := Scalar.addi c9_i32_838 v1375
  ![v1376.toNat]
def k0_off26 (d0 : Dev nD) : Fin 4 → Nat :=
  let c3_i32_842 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_833 : BitVec 32 := 12#32
  let v1371 : BitVec 32 := Scalar.subi v2 c12_i32_833
  let c32_i32_834 : BitVec 32 := 32#32
  let v1372 : BitVec 32 := Scalar.addi v1371 c32_i32_834
  let c4_i32_835 : BitVec 32 := 4#32
  let v1373 : BitVec 32 := Scalar.remsi v1372 c4_i32_835
  let c1_i32_836 : BitVec 32 := 1#32
  let v1374 : BitVec 32 := Scalar.maxsi v1373 c1_i32_836
  let c1_i32_837 : BitVec 32 := 1#32
  let v1375 : BitVec 32 := Scalar.subi v1374 c1_i32_837
  let c0_i32_1696 : BitVec 32 := 0#32
  let c0_i32_1697 : BitVec 32 := 0#32
  ![3, v1375.toNat, 0, 0]
def k0_dev19 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c0_i32_839 : BitVec 32 := 0#32
  let v1377 : BitVec 32 := Scalar.addi v21 c0_i32_839
  let c1_i32_1694 : BitVec 32 := 1#32
  let v2099 : BitVec 32 := Scalar.muli v1377 c1_i32_1694
  let v2100 : BitVec 32 := Scalar.addi c0_i32_1695 v2099
  v2100.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_853 : BitVec 32 := 4#32
  let v1395 : BitVec 32 := Scalar.remsi v2 c4_i32_853
  let c1_i32_854 : BitVec 32 := 1#32
  let v1396 : BitVec 1 := Scalar.cmpi .ne v1395 c1_i32_854
  let v1397 : BitVec 32 := Scalar.extui v1396
  let c0_i32_856 : BitVec 32 := 0#32
  let v1398 : BitVec 1 := Scalar.cmpi .ne v1397 c0_i32_856
  v1398

def k0_off27 (d0 : Dev nD) : Fin 1 → Nat :=
  let c9_i32_851 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v1388 : BitVec 32 := Scalar.subi v2 c13_i32
  let c32_i32_847 : BitVec 32 := 32#32
  let v1389 : BitVec 32 := Scalar.addi v1388 c32_i32_847
  let c4_i32_848 : BitVec 32 := 4#32
  let v1390 : BitVec 32 := Scalar.remsi v1389 c4_i32_848
  let c1_i32_849 : BitVec 32 := 1#32
  let v1391 : BitVec 32 := Scalar.maxsi v1390 c1_i32_849
  let c1_i32_850 : BitVec 32 := 1#32
  let v1392 : BitVec 32 := Scalar.subi v1391 c1_i32_850
  let v1393 : BitVec 32 := Scalar.addi c9_i32_851 v1392
  ![v1393.toNat]
def k0_off28 (d0 : Dev nD) : Fin 4 → Nat :=
  let c3_i32_855 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v1388 : BitVec 32 := Scalar.subi v2 c13_i32
  let c32_i32_847 : BitVec 32 := 32#32
  let v1389 : BitVec 32 := Scalar.addi v1388 c32_i32_847
  let c4_i32_848 : BitVec 32 := 4#32
  let v1390 : BitVec 32 := Scalar.remsi v1389 c4_i32_848
  let c1_i32_849 : BitVec 32 := 1#32
  let v1391 : BitVec 32 := Scalar.maxsi v1390 c1_i32_849
  let c1_i32_850 : BitVec 32 := 1#32
  let v1392 : BitVec 32 := Scalar.subi v1391 c1_i32_850
  let c0_i32_1696 : BitVec 32 := 0#32
  let c0_i32_1697 : BitVec 32 := 0#32
  ![3, v1392.toNat, 0, 0]
def k0_dev20 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_852 : BitVec 32 := 1#32
  let v1394 : BitVec 32 := Scalar.addi v21 c1_i32_852
  let c1_i32_1694 : BitVec 32 := 1#32
  let v2099 : BitVec 32 := Scalar.muli v1394 c1_i32_1694
  let v2100 : BitVec 32 := Scalar.addi c0_i32_1695 v2099
  v2100.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_866 : BitVec 32 := 4#32
  let v1412 : BitVec 32 := Scalar.remsi v2 c4_i32_866
  let c2_i32_867 : BitVec 32 := 2#32
  let v1413 : BitVec 1 := Scalar.cmpi .ne v1412 c2_i32_867
  let v1414 : BitVec 32 := Scalar.extui v1413
  let c0_i32_869 : BitVec 32 := 0#32
  let v1415 : BitVec 1 := Scalar.cmpi .ne v1414 c0_i32_869
  v1415

def k0_off29 (d0 : Dev nD) : Fin 1 → Nat :=
  let c9_i32_864 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v1405 : BitVec 32 := Scalar.subi v2 c14_i32
  let c32_i32_860 : BitVec 32 := 32#32
  let v1406 : BitVec 32 := Scalar.addi v1405 c32_i32_860
  let c4_i32_861 : BitVec 32 := 4#32
  let v1407 : BitVec 32 := Scalar.remsi v1406 c4_i32_861
  let c1_i32_862 : BitVec 32 := 1#32
  let v1408 : BitVec 32 := Scalar.maxsi v1407 c1_i32_862
  let c1_i32_863 : BitVec 32 := 1#32
  let v1409 : BitVec 32 := Scalar.subi v1408 c1_i32_863
  let v1410 : BitVec 32 := Scalar.addi c9_i32_864 v1409
  ![v1410.toNat]
def k0_off30 (d0 : Dev nD) : Fin 4 → Nat :=
  let c3_i32_868 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v1405 : BitVec 32 := Scalar.subi v2 c14_i32
  let c32_i32_860 : BitVec 32 := 32#32
  let v1406 : BitVec 32 := Scalar.addi v1405 c32_i32_860
  let c4_i32_861 : BitVec 32 := 4#32
  let v1407 : BitVec 32 := Scalar.remsi v1406 c4_i32_861
  let c1_i32_862 : BitVec 32 := 1#32
  let v1408 : BitVec 32 := Scalar.maxsi v1407 c1_i32_862
  let c1_i32_863 : BitVec 32 := 1#32
  let v1409 : BitVec 32 := Scalar.subi v1408 c1_i32_863
  let c0_i32_1696 : BitVec 32 := 0#32
  let c0_i32_1697 : BitVec 32 := 0#32
  ![3, v1409.toNat, 0, 0]
def k0_dev21 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_865 : BitVec 32 := 2#32
  let v1411 : BitVec 32 := Scalar.addi v21 c2_i32_865
  let c1_i32_1694 : BitVec 32 := 1#32
  let v2099 : BitVec 32 := Scalar.muli v1411 c1_i32_1694
  let v2100 : BitVec 32 := Scalar.addi c0_i32_1695 v2099
  v2100.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_879 : BitVec 32 := 4#32
  let v1429 : BitVec 32 := Scalar.remsi v2 c4_i32_879
  let c3_i32_880 : BitVec 32 := 3#32
  let v1430 : BitVec 1 := Scalar.cmpi .ne v1429 c3_i32_880
  let v1431 : BitVec 32 := Scalar.extui v1430
  let c0_i32_882 : BitVec 32 := 0#32
  let v1432 : BitVec 1 := Scalar.cmpi .ne v1431 c0_i32_882
  v1432

def k0_off31 (d0 : Dev nD) : Fin 1 → Nat :=
  let c9_i32_877 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v1422 : BitVec 32 := Scalar.subi v2 c15_i32
  let c32_i32_873 : BitVec 32 := 32#32
  let v1423 : BitVec 32 := Scalar.addi v1422 c32_i32_873
  let c4_i32_874 : BitVec 32 := 4#32
  let v1424 : BitVec 32 := Scalar.remsi v1423 c4_i32_874
  let c1_i32_875 : BitVec 32 := 1#32
  let v1425 : BitVec 32 := Scalar.maxsi v1424 c1_i32_875
  let c1_i32_876 : BitVec 32 := 1#32
  let v1426 : BitVec 32 := Scalar.subi v1425 c1_i32_876
  let v1427 : BitVec 32 := Scalar.addi c9_i32_877 v1426
  ![v1427.toNat]
def k0_off32 (d0 : Dev nD) : Fin 4 → Nat :=
  let c3_i32_881 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v1422 : BitVec 32 := Scalar.subi v2 c15_i32
  let c32_i32_873 : BitVec 32 := 32#32
  let v1423 : BitVec 32 := Scalar.addi v1422 c32_i32_873
  let c4_i32_874 : BitVec 32 := 4#32
  let v1424 : BitVec 32 := Scalar.remsi v1423 c4_i32_874
  let c1_i32_875 : BitVec 32 := 1#32
  let v1425 : BitVec 32 := Scalar.maxsi v1424 c1_i32_875
  let c1_i32_876 : BitVec 32 := 1#32
  let v1426 : BitVec 32 := Scalar.subi v1425 c1_i32_876
  let c0_i32_1696 : BitVec 32 := 0#32
  let c0_i32_1697 : BitVec 32 := 0#32
  ![3, v1426.toNat, 0, 0]
def k0_dev22 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_878 : BitVec 32 := 3#32
  let v1428 : BitVec 32 := Scalar.addi v21 c3_i32_878
  let c1_i32_1694 : BitVec 32 := 1#32
  let v2099 : BitVec 32 := Scalar.muli v1428 c1_i32_1694
  let v2100 : BitVec 32 := Scalar.addi c0_i32_1695 v2099
  v2100.toNat
def k0_off33 (d0 : Dev nD) (c0_i32_1015 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1517 : BitVec 32 := Scalar.addi c0_i32_1015 v3
  let c128_i32 : BitVec 32 := 128#32
  let v1518 : BitVec 32 := Scalar.muli v1517 c128_i32
  let v1519 : Index := Scalar.indexCast v1518
  let c0_1016 : Index := 0#32
  ![v1519.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_1038 : BitVec 32 := 0#32
  let v1550 : BitVec 1 := Scalar.cmpi .ne v20 c0_i32_1038
  let v1551 : BitVec 32 := Scalar.extui v1550
  let c0_i32_1039 : BitVec 32 := 0#32
  let v1552 : BitVec 1 := Scalar.cmpi .ne v1551 c0_i32_1039
  v1552

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_1031 : BitVec 32 := 0#32
  let v1543 : BitVec 32 := Scalar.subi v20 c0_i32_1031
  let c4_i32_1032 : BitVec 32 := 4#32
  let v1544 : BitVec 32 := Scalar.addi v1543 c4_i32_1032
  let c4_i32_1033 : BitVec 32 := 4#32
  let v1545 : BitVec 32 := Scalar.remsi v1544 c4_i32_1033
  let c1_i32_1034 : BitVec 32 := 1#32
  let v1546 : BitVec 32 := Scalar.maxsi v1545 c1_i32_1034
  let c1_i32_1035 : BitVec 32 := 1#32
  let v1547 : BitVec 32 := Scalar.subi v1546 c1_i32_1035
  ![v1547.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_1031 : BitVec 32 := 0#32
  let v1543 : BitVec 32 := Scalar.subi v20 c0_i32_1031
  let c4_i32_1032 : BitVec 32 := 4#32
  let v1544 : BitVec 32 := Scalar.addi v1543 c4_i32_1032
  let c4_i32_1033 : BitVec 32 := 4#32
  let v1545 : BitVec 32 := Scalar.remsi v1544 c4_i32_1033
  let c1_i32_1034 : BitVec 32 := 1#32
  let v1546 : BitVec 32 := Scalar.maxsi v1545 c1_i32_1034
  let c1_i32_1035 : BitVec 32 := 1#32
  let v1547 : BitVec 32 := Scalar.subi v1546 c1_i32_1035
  let c0_i32_1696 : BitVec 32 := 0#32
  let c0_i32_1697 : BitVec 32 := 0#32
  ![v1547.toNat, 0, 0]
def k0_off36 (d0 : Dev nD) : Fin 2 → Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1517 : BitVec 32 := Scalar.addi c0_i32_1015 v3
  let c128_i32_1036 : BitVec 32 := 128#32
  let v1548 : BitVec 32 := Scalar.muli v1517 c128_i32_1036
  let c0_i32_1698 : BitVec 32 := 0#32
  ![v1548.toNat, 0]
def k0_dev23 (d0 : Dev nD) : Nat :=
  let c0_i32_1695 : BitVec 32 := 0#32
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1549 : BitVec 32 := Scalar.addi c0_i32_1037 v3
  let c1_i32_1694 : BitVec 32 := 1#32
  let v2099 : BitVec 32 := Scalar.muli v1549 c1_i32_1694
  let v2100 : BitVec 32 := Scalar.addi c0_i32_1695 v2099
  v2100.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_1066 : BitVec 32 := 1#32
  let v1586 : BitVec 1 := Scalar.cmpi .ne v20 c1_i32_1066
  let v1587 : BitVec 32 := Scalar.extui v1586
  let c0_i32_1067 : BitVec 32 := 0#32
  let v1588 : BitVec 1 := Scalar.cmpi .ne v1587 c0_i32_1067
  v1588

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_1059 : BitVec 32 := 1#32
  let v1579 : BitVec 32 := Scalar.subi v20 c1_i32_1059
  let c4_i32_1060 : BitVec 32 := 4#32
  let v1580 : BitVec 32 := Scalar.addi v1579 c4_i32_1060
  let c4_i32_1061 : BitVec 32 := 4#32
  let v1581 : BitVec 32 := Scalar.remsi v1580 c4_i32_1061
  let c1_i32_1062 : BitVec 32 := 1#32
  let v1582 : BitVec 32 := Scalar.maxsi v1581 c1_i32_1062
  let c1_i32_1063 : BitVec 32 := 1#32
  let v1583 : BitVec 32 := Scalar.subi v1582 c1_i32_1063
  ![v1583.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_1059 : BitVec 32 := 1#32
  let v1579 : BitVec 32 := Scalar.subi v20 c1_i32_1059
  let c4_i32_1060 : BitVec 32 := 4#32
  let v1580 : BitVec 32 := Scalar.addi v1579 c4_i32_1060
  let c4_i32_1061 : BitVec 32 := 4#32
  let v1581 : BitVec 32 := Scalar.remsi v1580 c4_i32_1061
  let c1_i32_1062 : BitVec 32 := 1#32
  let v1582 : BitVec 32 := Scalar.maxsi v1581 c1_i32_1062
  let c1_i32_1063 : BitVec 32 := 1#32
  let v1583 : BitVec 32 := Scalar.subi v1582 c1_i32_1063
  let c0_i32_1696 : BitVec 32 := 0#32
  let c0_i32_1697 : BitVec 32 := 0#32
  ![v1583.toNat, 0, 0]
def k0_off39 (d0 : Dev nD) : Fin 2 → Nat :=
  let c4_i32_1040 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1553 : BitVec 32 := Scalar.addi c4_i32_1040 v3
  let c128_i32_1064 : BitVec 32 := 128#32
  let v1584 : BitVec 32 := Scalar.muli v1553 c128_i32_1064
  let c0_i32_1698 : BitVec 32 := 0#32
  ![v1584.toNat, 0]
def k0_dev24 (d0 : Dev nD) : Nat :=
  let c0_i32_1695 : BitVec 32 := 0#32
  let c4_i32_1065 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1585 : BitVec 32 := Scalar.addi c4_i32_1065 v3
  let c1_i32_1694 : BitVec 32 := 1#32
  let v2099 : BitVec 32 := Scalar.muli v1585 c1_i32_1694
  let v2100 : BitVec 32 := Scalar.addi c0_i32_1695 v2099
  v2100.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_1094 : BitVec 32 := 2#32
  let v1622 : BitVec 1 := Scalar.cmpi .ne v20 c2_i32_1094
  let v1623 : BitVec 32 := Scalar.extui v1622
  let c0_i32_1095 : BitVec 32 := 0#32
  let v1624 : BitVec 1 := Scalar.cmpi .ne v1623 c0_i32_1095
  v1624

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_1087 : BitVec 32 := 2#32
  let v1615 : BitVec 32 := Scalar.subi v20 c2_i32_1087
  let c4_i32_1088 : BitVec 32 := 4#32
  let v1616 : BitVec 32 := Scalar.addi v1615 c4_i32_1088
  let c4_i32_1089 : BitVec 32 := 4#32
  let v1617 : BitVec 32 := Scalar.remsi v1616 c4_i32_1089
  let c1_i32_1090 : BitVec 32 := 1#32
  let v1618 : BitVec 32 := Scalar.maxsi v1617 c1_i32_1090
  let c1_i32_1091 : BitVec 32 := 1#32
  let v1619 : BitVec 32 := Scalar.subi v1618 c1_i32_1091
  ![v1619.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_1087 : BitVec 32 := 2#32
  let v1615 : BitVec 32 := Scalar.subi v20 c2_i32_1087
  let c4_i32_1088 : BitVec 32 := 4#32
  let v1616 : BitVec 32 := Scalar.addi v1615 c4_i32_1088
  let c4_i32_1089 : BitVec 32 := 4#32
  let v1617 : BitVec 32 := Scalar.remsi v1616 c4_i32_1089
  let c1_i32_1090 : BitVec 32 := 1#32
  let v1618 : BitVec 32 := Scalar.maxsi v1617 c1_i32_1090
  let c1_i32_1091 : BitVec 32 := 1#32
  let v1619 : BitVec 32 := Scalar.subi v1618 c1_i32_1091
  let c0_i32_1696 : BitVec 32 := 0#32
  let c0_i32_1697 : BitVec 32 := 0#32
  ![v1619.toNat, 0, 0]
def k0_off42 (d0 : Dev nD) : Fin 2 → Nat :=
  let c8_i32_1068 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1589 : BitVec 32 := Scalar.addi c8_i32_1068 v3
  let c128_i32_1092 : BitVec 32 := 128#32
  let v1620 : BitVec 32 := Scalar.muli v1589 c128_i32_1092
  let c0_i32_1698 : BitVec 32 := 0#32
  ![v1620.toNat, 0]
def k0_dev25 (d0 : Dev nD) : Nat :=
  let c0_i32_1695 : BitVec 32 := 0#32
  let c8_i32_1093 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1621 : BitVec 32 := Scalar.addi c8_i32_1093 v3
  let c1_i32_1694 : BitVec 32 := 1#32
  let v2099 : BitVec 32 := Scalar.muli v1621 c1_i32_1694
  let v2100 : BitVec 32 := Scalar.addi c0_i32_1695 v2099
  v2100.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_1121 : BitVec 32 := 3#32
  let v1658 : BitVec 1 := Scalar.cmpi .ne v20 c3_i32_1121
  let v1659 : BitVec 32 := Scalar.extui v1658
  let c0_i32_1122 : BitVec 32 := 0#32
  let v1660 : BitVec 1 := Scalar.cmpi .ne v1659 c0_i32_1122
  v1660

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_1114 : BitVec 32 := 3#32
  let v1651 : BitVec 32 := Scalar.subi v20 c3_i32_1114
  let c4_i32_1115 : BitVec 32 := 4#32
  let v1652 : BitVec 32 := Scalar.addi v1651 c4_i32_1115
  let c4_i32_1116 : BitVec 32 := 4#32
  let v1653 : BitVec 32 := Scalar.remsi v1652 c4_i32_1116
  let c1_i32_1117 : BitVec 32 := 1#32
  let v1654 : BitVec 32 := Scalar.maxsi v1653 c1_i32_1117
  let c1_i32_1118 : BitVec 32 := 1#32
  let v1655 : BitVec 32 := Scalar.subi v1654 c1_i32_1118
  ![v1655.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_1114 : BitVec 32 := 3#32
  let v1651 : BitVec 32 := Scalar.subi v20 c3_i32_1114
  let c4_i32_1115 : BitVec 32 := 4#32
  let v1652 : BitVec 32 := Scalar.addi v1651 c4_i32_1115
  let c4_i32_1116 : BitVec 32 := 4#32
  let v1653 : BitVec 32 := Scalar.remsi v1652 c4_i32_1116
  let c1_i32_1117 : BitVec 32 := 1#32
  let v1654 : BitVec 32 := Scalar.maxsi v1653 c1_i32_1117
  let c1_i32_1118 : BitVec 32 := 1#32
  let v1655 : BitVec 32 := Scalar.subi v1654 c1_i32_1118
  let c0_i32_1696 : BitVec 32 := 0#32
  let c0_i32_1697 : BitVec 32 := 0#32
  ![v1655.toNat, 0, 0]
def k0_off45 (d0 : Dev nD) : Fin 2 → Nat :=
  let c12_i32_1096 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1625 : BitVec 32 := Scalar.addi c12_i32_1096 v3
  let c128_i32_1119 : BitVec 32 := 128#32
  let v1656 : BitVec 32 := Scalar.muli v1625 c128_i32_1119
  let c0_i32_1698 : BitVec 32 := 0#32
  ![v1656.toNat, 0]
def k0_dev26 (d0 : Dev nD) : Nat :=
  let c0_i32_1695 : BitVec 32 := 0#32
  let c12_i32_1120 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1657 : BitVec 32 := Scalar.addi c12_i32_1120 v3
  let c1_i32_1694 : BitVec 32 := 1#32
  let v2099 : BitVec 32 := Scalar.muli v1657 c1_i32_1694
  let v2100 : BitVec 32 := Scalar.addi c0_i32_1695 v2099
  v2100.toNat
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1123 : BitVec 32 := 128#32
  let v1661 : BitVec 32 := Scalar.muli v2 c128_i32_1123
  let v1697 : Index := Scalar.indexCast v1661
  let c0_1165 : Index := 0#32
  ![v1697.toNat, 0]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1123 : BitVec 32 := 128#32
  let v1661 : BitVec 32 := Scalar.muli v2 c128_i32_1123
  let c0_i32_1319 : BitVec 32 := 0#32
  ![v1661.toNat, 0]
def k0_dev27 (d0 : Dev nD) : Nat :=
  let c0_i32_1318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1313 : BitVec 32 := 4#32
  let v1776 : BitVec 32 := Scalar.addi v2 c4_i32_1313
  let c16_i32_1314 : BitVec 32 := 16#32
  let v1777 : BitVec 32 := Scalar.remsi v1776 c16_i32_1314
  let c1_i32_1317 : BitVec 32 := 1#32
  let v1778 : BitVec 32 := Scalar.muli v1777 c1_i32_1317
  let v1779 : BitVec 32 := Scalar.addi c0_i32_1318 v1778
  v1779.toNat
def k0_dev28 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1321 : BitVec 32 := 8#32
  let v1786 : BitVec 32 := Scalar.addi v2 c8_i32_1321
  let c16_i32_1322 : BitVec 32 := 16#32
  let v1787 : BitVec 32 := Scalar.remsi v1786 c16_i32_1322
  let c1_i32_1325 : BitVec 32 := 1#32
  let v1788 : BitVec 32 := Scalar.muli v1787 c1_i32_1325
  let v1789 : BitVec 32 := Scalar.addi c0_i32_1326 v1788
  v1789.toNat
def k0_dev29 (d0 : Dev nD) : Nat :=
  let c0_i32_1334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1329 : BitVec 32 := 12#32
  let v1796 : BitVec 32 := Scalar.addi v2 c12_i32_1329
  let c16_i32_1330 : BitVec 32 := 16#32
  let v1797 : BitVec 32 := Scalar.remsi v1796 c16_i32_1330
  let c1_i32_1333 : BitVec 32 := 1#32
  let v1798 : BitVec 32 := Scalar.muli v1797 c1_i32_1333
  let v1799 : BitVec 32 := Scalar.addi c0_i32_1334 v1798
  v1799.toNat
def k0_off48 (d0 : Dev nD) (c0_i32_1364 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1824 : BitVec 32 := Scalar.addi c0_i32_1364 v3
  let c128_i32_1365 : BitVec 32 := 128#32
  let v1825 : BitVec 32 := Scalar.muli v1824 c128_i32_1365
  let c0_i32_1372 : BitVec 32 := 0#32
  ![v1825.toNat, 0]
def k0_dev30 (d0 : Dev nD) : Nat :=
  let c0_i32_1371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_1366 : BitVec 32 := 1#32
  let v1826 : BitVec 32 := Scalar.addi v2 c1_i32_1366
  let c4_i32_1367 : BitVec 32 := 4#32
  let v1827 : BitVec 32 := Scalar.remsi v1826 c4_i32_1367
  let v1828 : BitVec 32 := Scalar.addi v21 v1827
  let c1_i32_1370 : BitVec 32 := 1#32
  let v1829 : BitVec 32 := Scalar.muli v1828 c1_i32_1370
  let v1830 : BitVec 32 := Scalar.addi c0_i32_1371 v1829
  v1830.toNat
def k0_dev31 (d0 : Dev nD) : Nat :=
  let c0_i32_1379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_1374 : BitVec 32 := 2#32
  let v1837 : BitVec 32 := Scalar.addi v2 c2_i32_1374
  let c4_i32_1375 : BitVec 32 := 4#32
  let v1838 : BitVec 32 := Scalar.remsi v1837 c4_i32_1375
  let v1839 : BitVec 32 := Scalar.addi v21 v1838
  let c1_i32_1378 : BitVec 32 := 1#32
  let v1840 : BitVec 32 := Scalar.muli v1839 c1_i32_1378
  let v1841 : BitVec 32 := Scalar.addi c0_i32_1379 v1840
  v1841.toNat
def k0_dev32 (d0 : Dev nD) : Nat :=
  let c0_i32_1387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_1382 : BitVec 32 := 3#32
  let v1848 : BitVec 32 := Scalar.addi v2 c3_i32_1382
  let c4_i32_1383 : BitVec 32 := 4#32
  let v1849 : BitVec 32 := Scalar.remsi v1848 c4_i32_1383
  let v1850 : BitVec 32 := Scalar.addi v21 v1849
  let c1_i32_1386 : BitVec 32 := 1#32
  let v1851 : BitVec 32 := Scalar.muli v1850 c1_i32_1386
  let v1852 : BitVec 32 := Scalar.addi c0_i32_1387 v1851
  v1852.toNat
def k0_dev33 (d0 : Dev nD) : Nat :=
  let c0_i32_1397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_1392 : BitVec 32 := 1#32
  let v1861 : BitVec 32 := Scalar.addi v2 c1_i32_1392
  let c4_i32_1393 : BitVec 32 := 4#32
  let v1862 : BitVec 32 := Scalar.remsi v1861 c4_i32_1393
  let v1863 : BitVec 32 := Scalar.addi v21 v1862
  let c1_i32_1396 : BitVec 32 := 1#32
  let v1864 : BitVec 32 := Scalar.muli v1863 c1_i32_1396
  let v1865 : BitVec 32 := Scalar.addi c0_i32_1397 v1864
  v1865.toNat
def k0_dev34 (d0 : Dev nD) : Nat :=
  let c0_i32_1405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_1400 : BitVec 32 := 2#32
  let v1872 : BitVec 32 := Scalar.addi v2 c2_i32_1400
  let c4_i32_1401 : BitVec 32 := 4#32
  let v1873 : BitVec 32 := Scalar.remsi v1872 c4_i32_1401
  let v1874 : BitVec 32 := Scalar.addi v21 v1873
  let c1_i32_1404 : BitVec 32 := 1#32
  let v1875 : BitVec 32 := Scalar.muli v1874 c1_i32_1404
  let v1876 : BitVec 32 := Scalar.addi c0_i32_1405 v1875
  v1876.toNat
def k0_dev35 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_1408 : BitVec 32 := 3#32
  let v1883 : BitVec 32 := Scalar.addi v2 c3_i32_1408
  let c4_i32_1409 : BitVec 32 := 4#32
  let v1884 : BitVec 32 := Scalar.remsi v1883 c4_i32_1409
  let v1885 : BitVec 32 := Scalar.addi v21 v1884
  let c1_i32_1412 : BitVec 32 := 1#32
  let v1886 : BitVec 32 := Scalar.muli v1885 c1_i32_1412
  let v1887 : BitVec 32 := Scalar.addi c0_i32_1413 v1886
  v1887.toNat
def k0_dev36 (d0 : Dev nD) : Nat :=
  let c0_i32_1423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_1418 : BitVec 32 := 1#32
  let v1896 : BitVec 32 := Scalar.addi v2 c1_i32_1418
  let c4_i32_1419 : BitVec 32 := 4#32
  let v1897 : BitVec 32 := Scalar.remsi v1896 c4_i32_1419
  let v1898 : BitVec 32 := Scalar.addi v21 v1897
  let c1_i32_1422 : BitVec 32 := 1#32
  let v1899 : BitVec 32 := Scalar.muli v1898 c1_i32_1422
  let v1900 : BitVec 32 := Scalar.addi c0_i32_1423 v1899
  v1900.toNat
def k0_dev37 (d0 : Dev nD) : Nat :=
  let c0_i32_1431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_1426 : BitVec 32 := 2#32
  let v1907 : BitVec 32 := Scalar.addi v2 c2_i32_1426
  let c4_i32_1427 : BitVec 32 := 4#32
  let v1908 : BitVec 32 := Scalar.remsi v1907 c4_i32_1427
  let v1909 : BitVec 32 := Scalar.addi v21 v1908
  let c1_i32_1430 : BitVec 32 := 1#32
  let v1910 : BitVec 32 := Scalar.muli v1909 c1_i32_1430
  let v1911 : BitVec 32 := Scalar.addi c0_i32_1431 v1910
  v1911.toNat
def k0_dev38 (d0 : Dev nD) : Nat :=
  let c0_i32_1439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_1434 : BitVec 32 := 3#32
  let v1918 : BitVec 32 := Scalar.addi v2 c3_i32_1434
  let c4_i32_1435 : BitVec 32 := 4#32
  let v1919 : BitVec 32 := Scalar.remsi v1918 c4_i32_1435
  let v1920 : BitVec 32 := Scalar.addi v21 v1919
  let c1_i32_1438 : BitVec 32 := 1#32
  let v1921 : BitVec 32 := Scalar.muli v1920 c1_i32_1438
  let v1922 : BitVec 32 := Scalar.addi c0_i32_1439 v1921
  v1922.toNat
def k0_dev39 (d0 : Dev nD) : Nat :=
  let c0_i32_1449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_1444 : BitVec 32 := 1#32
  let v1931 : BitVec 32 := Scalar.addi v2 c1_i32_1444
  let c4_i32_1445 : BitVec 32 := 4#32
  let v1932 : BitVec 32 := Scalar.remsi v1931 c4_i32_1445
  let v1933 : BitVec 32 := Scalar.addi v21 v1932
  let c1_i32_1448 : BitVec 32 := 1#32
  let v1934 : BitVec 32 := Scalar.muli v1933 c1_i32_1448
  let v1935 : BitVec 32 := Scalar.addi c0_i32_1449 v1934
  v1935.toNat
def k0_dev40 (d0 : Dev nD) : Nat :=
  let c0_i32_1457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32_1452 : BitVec 32 := 2#32
  let v1942 : BitVec 32 := Scalar.addi v2 c2_i32_1452
  let c4_i32_1453 : BitVec 32 := 4#32
  let v1943 : BitVec 32 := Scalar.remsi v1942 c4_i32_1453
  let v1944 : BitVec 32 := Scalar.addi v21 v1943
  let c1_i32_1456 : BitVec 32 := 1#32
  let v1945 : BitVec 32 := Scalar.muli v1944 c1_i32_1456
  let v1946 : BitVec 32 := Scalar.addi c0_i32_1457 v1945
  v1946.toNat
def k0_dev41 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32_1460 : BitVec 32 := 3#32
  let v1953 : BitVec 32 := Scalar.addi v2 c3_i32_1460
  let c4_i32_1461 : BitVec 32 := 4#32
  let v1954 : BitVec 32 := Scalar.remsi v1953 c4_i32_1461
  let v1955 : BitVec 32 := Scalar.addi v21 v1954
  let c1_i32_1464 : BitVec 32 := 1#32
  let v1956 : BitVec 32 := Scalar.muli v1955 c1_i32_1464
  let v1957 : BitVec 32 := Scalar.addi c0_i32_1465 v1956
  v1957.toNat
def k0_dev42 (d0 : Dev nD) : Nat :=
  let c0_i32_1696_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v2 c1_i32_6
  let c4_i32_7 : BitVec 32 := 4#32
  let v23 : BitVec 32 := Scalar.remsi v22 c4_i32_7
  let v24 : BitVec 32 := Scalar.addi v21 v23
  let c1_i32_1695_r0 : BitVec 32 := 1#32
  let v2100_r0 : BitVec 32 := Scalar.muli v24 c1_i32_1695_r0
  let v2101_r0 : BitVec 32 := Scalar.addi c0_i32_1696_r0 v2100_r0
  v2101_r0.toNat
def k0_dev43 (d0 : Dev nD) : Nat :=
  let c0_i32_1699_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32 : BitVec 32 := 2#32
  let v25 : BitVec 32 := Scalar.addi v2 c2_i32
  let c4_i32_8 : BitVec 32 := 4#32
  let v26 : BitVec 32 := Scalar.remsi v25 c4_i32_8
  let v27 : BitVec 32 := Scalar.addi v21 v26
  let c1_i32_1698_r0 : BitVec 32 := 1#32
  let v2102_r0 : BitVec 32 := Scalar.muli v27 c1_i32_1698_r0
  let v2103_r0 : BitVec 32 := Scalar.addi c0_i32_1699_r0 v2102_r0
  v2103_r0.toNat
def k0_dev44 (d0 : Dev nD) : Nat :=
  let c0_i32_1702_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v28 : BitVec 32 := Scalar.addi v2 c3_i32
  let c4_i32_9 : BitVec 32 := 4#32
  let v29 : BitVec 32 := Scalar.remsi v28 c4_i32_9
  let v30 : BitVec 32 := Scalar.addi v21 v29
  let c1_i32_1701_r0 : BitVec 32 := 1#32
  let v2104_r0 : BitVec 32 := Scalar.muli v30 c1_i32_1701_r0
  let v2105_r0 : BitVec 32 := Scalar.addi c0_i32_1702_r0 v2104_r0
  v2105_r0.toNat
def k0_dev45 (d0 : Dev nD) : Nat :=
  let c0_i32_1705_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_10 : BitVec 32 := 4#32
  let v31 : BitVec 32 := Scalar.addi v2 c4_i32_10
  let c16_i32_11 : BitVec 32 := 16#32
  let v32 : BitVec 32 := Scalar.remsi v31 c16_i32_11
  let c1_i32_1704_r0 : BitVec 32 := 1#32
  let v2106_r0 : BitVec 32 := Scalar.muli v32 c1_i32_1704_r0
  let v2107_r0 : BitVec 32 := Scalar.addi c0_i32_1705_r0 v2106_r0
  v2107_r0.toNat
def k0_dev46 (d0 : Dev nD) : Nat :=
  let c0_i32_1708_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 32 := Scalar.addi v2 c8_i32
  let c16_i32_12 : BitVec 32 := 16#32
  let v34 : BitVec 32 := Scalar.remsi v33 c16_i32_12
  let c1_i32_1707_r0 : BitVec 32 := 1#32
  let v2108_r0 : BitVec 32 := Scalar.muli v34 c1_i32_1707_r0
  let v2109_r0 : BitVec 32 := Scalar.addi c0_i32_1708_r0 v2108_r0
  v2109_r0.toNat
def k0_dev47 (d0 : Dev nD) : Nat :=
  let c0_i32_1711_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v35 : BitVec 32 := Scalar.addi v2 c12_i32
  let c16_i32_13 : BitVec 32 := 16#32
  let v36 : BitVec 32 := Scalar.remsi v35 c16_i32_13
  let c1_i32_1710_r0 : BitVec 32 := 1#32
  let v2110_r0 : BitVec 32 := Scalar.muli v36 c1_i32_1710_r0
  let v2111_r0 : BitVec 32 := Scalar.addi c0_i32_1711_r0 v2110_r0
  v2111_r0.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x2048x16384, .f32⟩
  | .hbm, ⟨6, _⟩ => ⟨S1x2048x128x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S1x128x2048x2048, .f32⟩
  | .hbm, ⟨51, _⟩ => ⟨S_, .f32⟩
  | .hbm, ⟨52, _⟩ => ⟨S1x128x2048x2048, .f32⟩
  | .hbm, ⟨53, _⟩ => ⟨S1x128x2048x2048, .f32⟩
  | .hbm, ⟨54, _⟩ => ⟨S1x1x2048x2048, .i1⟩
  | .hbm, ⟨55, _⟩ => ⟨S_, .f32⟩
  | .hbm, ⟨56, _⟩ => ⟨S_, .f32⟩
  | .hbm, ⟨57, _⟩ => ⟨S1x128x2048x2048, .i1⟩
  | .hbm, ⟨58, _⟩ => ⟨S1x128x2048x2048, .f32⟩
  | .hbm, ⟨59, _⟩ => ⟨S1x128x2048x2048, .f32⟩
  | .hbm, ⟨60, _⟩ => ⟨S_, .f32⟩
  | .hbm, ⟨61, _⟩ => ⟨S1x128x2048, .f32⟩
  | .hbm, ⟨62, _⟩ => ⟨S1x128x2048x1, .f32⟩
  | .hbm, ⟨63, _⟩ => ⟨S1x128x2048x2048, .f32⟩
  | .hbm, ⟨64, _⟩ => ⟨S1x128x2048x2048, .f32⟩
  | .hbm, ⟨65, _⟩ => ⟨S1x128x2048x2048, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S1x128x2048, .f32⟩
  | .hbm, ⟨71, _⟩ => ⟨S1x128x2048x1, .f32⟩
  | .hbm, ⟨72, _⟩ => ⟨S_, .f32⟩
  | .hbm, ⟨73, _⟩ => ⟨S_, .f32⟩
  | .hbm, ⟨74, _⟩ => ⟨S1x128x2048x1, .i1⟩
  | .hbm, ⟨75, _⟩ => ⟨S1x128x2048x1, .f32⟩
  | .hbm, ⟨76, _⟩ => ⟨S1x128x2048x1, .f32⟩
  | .hbm, ⟨77, _⟩ => ⟨S1x128x2048x2048, .f32⟩
  | .hbm, ⟨78, _⟩ => ⟨S1x128x2048x2048, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S1x128x2048x2048, .i1⟩
  | .hbm, ⟨83, _⟩ => ⟨S1x128x2048x2048, .f32⟩
  | .hbm, ⟨84, _⟩ => ⟨S1x128x2048x2048, .f32⟩
  | .hbm, ⟨85, _⟩ => ⟨S1x128x128x2048, .f32⟩
  | .hbm, ⟨86, _⟩ => ⟨S1x2048x128x128, .f32⟩
  | .hbm, ⟨87, _⟩ => ⟨S1x2048x16384, .f32⟩
  | .hbm, ⟨88, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Base.lean ====
/-
  The vocabulary of the proof: the kernel's buffers on one device, what it means to hold them, and the rules by which one
  memory operation of the body takes what is held before it to what is held after it.
-/
module

public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Memref
public import Idealize.ShloMosaic.Lib.Tactic

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's copy of the rounds algebra, and the kernel's own protocol's (six duties at most on a cell). -/
abbrev UU : Type := UR sig nD τ × URounds (GSem nD τ sig) (Fin 6)

local notation "𝕄" => MT nD τ sig Unit (Elt F) ℕ UU ℕ

abbrev EP : Emb (UR sig nD τ) (MT nD τ sig Unit (Elt F) ℕ UU ℕ) := embL
abbrev ER : Emb (URounds (GSem nD τ sig) (Fin 6)) (MT nD τ sig Unit (Elt F) ℕ UU ℕ) := embR

abbrev 𝒱₀ : Variants := Variants.none

/-- The body's execution on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The buffers -/

abbrev M0 : Memref sig .tc .vmem S2048x1024 .bf16 := Memref.whole cc0_stg0_0
abbrev M1 : Memref sig .tc .vmem S1024x1024 .bf16 := Memref.whole cc0_stg1_0
abbrev M2 : Memref sig .tc .vmem S2048x1024 .bf16 := Memref.whole cc0_stg2_0
abbrev M3 : Memref sig .tc .vmem S2048x1024 .f32 := Memref.whole cc0_stg3_0
abbrev M4 : Memref sig .tc .vmem S1024x1024 .bf16 := Memref.whole cc0_stg4_0
abbrev M5 : Memref sig .tc .vmem S2048x1024 .f32 := Memref.whole cc0_stg5_0
abbrev M6 : Memref sig .tc .vmem S4x3x128x1024 .bf16 := Memref.whole cc0_scratch0
abbrev M7 : Memref sig .tc .vmem S3x128x1024 .bf16 := Memref.whole cc0_scratch1
abbrev M8 : Memref sig .tc .vmem S2048x1024 .bf16 := Memref.whole cc0_scratch2
abbrev M9 : Memref sig .tc .vmem S128x1024 .f32 := Memref.whole cc0_scratch3
abbrev M10 : Memref sig .tc .vmem S512x1024 .bf16 := Memref.whole cc0_scratch4

/-- A printed part of the body, at the buffers and semaphores the launch passes it. -/
abbrev on {β : Type 1}
    (f : (arg0 : Memref sig .tc .vmem S2048x1024 .bf16) → (harg0 : arg0.IsWhole) → (arg1 : Memref sig .tc .vmem S1024x1024 .bf16) → (harg1 : arg1.IsWhole) → (arg2 : Memref sig .tc .vmem S2048x1024 .bf16) → (harg2 : arg2.IsWhole) → (arg3 : Memref sig .tc .vmem S2048x1024 .f32) → (harg3 : arg3.IsWhole) → (arg4 : Memref sig .tc .vmem S1024x1024 .bf16) → (harg4 : arg4.IsWhole) → (arg5 : Memref sig .tc .vmem S2048x1024 .f32) → (harg5 : arg5.IsWhole) → (arg6 : Memref sig .tc .vmem S4x3x128x1024 .bf16) → (harg6 : arg6.IsWhole) → (arg7 : Memref sig .tc .vmem S3x128x1024 .bf16) → (harg7 : arg7.IsWhole) → (arg8 : Memref sig .tc .vmem S2048x1024 .bf16) → (harg8 : arg8.IsWhole) → (arg9 : Memref sig .tc .vmem S128x1024 .f32) → (harg9 : arg9.IsWhole) → (arg10 : Memref sig .tc .vmem S512x1024 .bf16) → (harg10 : arg10.IsWhole) → (arg11 : DmaSems sig S12) → (arg12 : DmaSems sig S12) → (arg13 : DmaSems sig S3) → (arg14 : DmaSems sig S3) → (arg15 : DmaSems sig S3) → (arg16 : DmaSems sig S3) → (arg17 : DmaSems sig S12) → (arg18 : DmaSems sig S12) → (v2099_r0 : Sems sig S_) → β) : β :=
  f M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) cc0_scratch5 cc0_scratch6 cc0_scratch7 cc0_scratch8 cc0_scratch9 cc0_scratch10 cc0_scratch11 cc0_scratch12 cc0_scoped0

/-! ## Deterministic steps

`Step c P p v P'`: run on device `c` from `P`, the program `p` returns `v` and leaves `P'`. -/

def Step (c : Dev nD) {α : Type} (P : sProp 𝕄) (p : Prog (TpuEff nD τ sig (Elt F) Λ₀ .tc) α) (v : α) (P' : sProp 𝕄) : Prop :=
  ∀ Q : α → sProp 𝕄, P ⊢ iprop((P' -∗ Q v) -∗ run c p Q)

theorem run_bind (c : Dev nD) {α β : Type} (p : Prog (TpuEff nD τ sig (Elt F) Λ₀ .tc) α) (k : α → Prog (TpuEff nD τ sig (Elt F) Λ₀ .tc) β)
    (Q : β → sProp 𝕄) : run c (p >>= k) Q = run c p (fun v => run c (k v) Q) := by
  unfold run; rw [wp_bind]

theorem run_ret (c : Dev nD) {α : Type} (v : α) (Q : α → sProp 𝕄) :
    run c (pure v : Prog (TpuEff nD τ sig (Elt F) Λ₀ .tc) α) Q = iprop(|={Set.univ}=> Q v) := by
  unfold run; show wp frame _ Set.univ (.ret v) Q = _; rw [wp_ret]

namespace Step

variable {c : Dev nD} {α β : Type}

theorem bind {P P' P'' : sProp 𝕄} {p : Prog (TpuEff nD τ sig (Elt F) Λ₀ .tc) α} {k : α → Prog (TpuEff nD τ sig (Elt F) Λ₀ .tc) β} {v : α} {w : β}
    (h : Step c P p v P') (h' : Step c P' (k v) w P'') : Step c P (p >>= k) w P'' := by
  intro Q
  iintro HP HQ
  rw [run_bind]
  iapply (h _) $$ HP
  iintro HP'
  iapply (h' _) $$ HP'
  iexact HQ

theorem ret {P : sProp 𝕄} (v : α) : Step c P (pure v : Prog (TpuEff nD τ sig (Elt F) Λ₀ .tc) α) v P := by
  intro Q
  iintro HP HQ
  rw [run_ret]
  imodintro
  iapply HQ $$ HP

theorem pre {P P' R : sProp 𝕄} {p : Prog (TpuEff nD τ sig (Elt F) Λ₀ .tc) α} {v : α} (e : R ⊢ P) (h : Step c P p v P') : Step c R p v P' :=
  fun Q => e.trans (h Q)

theorem post {P P' R : sProp 𝕄} {p : Prog (TpuEff nD τ sig (Elt F) Λ₀ .tc) α} {v : α} (h : Step c P p v P') (e : P' ⊢ R) : Step c P p v R := by
  intro Q
  iintro HP HQ
  iapply (h _) $$ HP
  iintro HP'
  iapply HQ
  iapply e $$ HP'

/-- What the program does not touch stays. -/
theorem left {P P' R : sProp 𝕄} {p : Prog (TpuEff nD τ sig (Elt F) Λ₀ .tc) α} {v : α} (h : Step c P p v P') : Step c iprop(P ∗ R) p v iprop(P' ∗ R) := by
  intro Q
  iintro ⟨HP, HR⟩ HQ
  iapply (h _) $$ HP
  iintro HP'
  iapply HQ
  isplitl [HP']
  · iexact HP'
  iexact HR

theorem right {P P' R : sProp 𝕄} {p : Prog (TpuEff nD τ sig (Elt F) Λ₀ .tc) α} {v : α} (h : Step c P p v P') : Step c iprop(R ∗ P) p v iprop(R ∗ P') := by
  intro Q
  iintro ⟨HR, HP⟩ HQ
  iapply (h _) $$ HP
  iintro HP'
  iapply HQ
  isplitl [HR]
  · iexact HR
  iexact HP'

end Step

/-! ## Loads and stores of what is owned by value -/

section Ops

variable (c : Dev nD) {s : Shape} {e : EltTy} {cs : CoreSpace}

/-- What a rectangle's load reads off contents `X`. -/
abbrev sub {s : Shape} {α : Type} (X : s.Idx → α) (r : Rect s) : r.shape.Idx → α := fun j => X (r.emb j)

theorem step_load (m : Memref sig .tc cs s e) (q : PosShare TreeShare) (X : s.Idx → Elt F e) (r : Rect s)
    {hl : m.view.LoadsAt r.toLoadRect} :
    Step c (owns (c : Thread nD τ) m q X : sProp 𝕄) (Prog.lift (.load m r.toLoadRect hl)) (sub X r) (owns (c : Thread nD τ) m q X) := by
  intro Q
  unfold owns
  iintro ⟨%f, %hf, H⟩ Hk
  iapply (wp_load_rect 𝒱₀ (c : Thread nD τ) none Set.univ (m := m) (r := r) (f := f) (q := q) (View.set_slice_subset _ _)) $$ H
  iintro H
  rw [wp_ret]
  imodintro
  subst hf
  rw [show sub (m.view.read (Elt F) f) r = (m.access r).read (Elt F) f from rfl]
  iapply Hk
  iexists f
  isplitr; · ipureintro; rfl
  iexact H

/-- A load of exactly the piece owned. -/
theorem step_load_piece (m : Memref sig .tc cs s e) (q : PosShare TreeShare) (r : Rect s) (hr : ∀ a, r.stride a = 1) (v : r.shape.Idx → Elt F e)
    {hl : m.view.LoadsAt r.toLoadRect} :
    Step c (owns (c : Thread nD τ) (m.slice r hr) q v : sProp 𝕄) (Prog.lift (.load m r.toLoadRect hl)) v (owns (c : Thread nD τ) (m.slice r hr) q v) := by
  intro Q
  unfold owns
  iintro ⟨%f, %hf, H⟩ Hk
  iapply (wp_load_rect 𝒱₀ (c : Thread nD τ) none Set.univ (m := m) (r := r) (f := f) (q := q) (Finset.Subset.refl _)) $$ H
  iintro H
  rw [wp_ret]
  imodintro
  subst hf
  iapply Hk
  iexists f
  isplitr; · ipureintro; rfl
  iexact H

/-- A store over exactly the piece owned. -/
theorem step_store_piece (m : Memref sig .tc cs s e) (r : Rect s) (hr : ∀ a, r.stride a = 1) (v w : r.shape.Idx → Elt F e)
    {hx : (m.access r).Stores Finset.univ} {hm : (Finset.univ : Finset r.shape.Idx) = Finset.univ ∨ ∀ a, r.stride a = 1} :
    Step c (owns (c : Thread nD τ) (m.slice r hr) fullShare v : sProp 𝕄) (Prog.lift (.store m r w Finset.univ hx hm)) ⟨⟩
      (owns (c : Thread nD τ) (m.slice r hr) fullShare w) := by
  intro Q
  unfold owns
  iintro ⟨%f, %hf, H⟩ Hk
  iapply (wp_store 𝒱₀ (c : Thread nD τ) none Set.univ (m := m) (r := r) (f := f) (w := w) (Mk := Finset.univ) (S := (m.slice r hr).view.set) (Finset.Subset.refl _)) $$ H
  iintro H
  rw [wp_ret]
  imodintro
  iapply Hk
  iexists ((m.access r).write (Elt F) f w Finset.univ)
  isplitr
  · ipureintro; exact View.read_write_univ f w
  iexact H

/-- A store into a memref owned whole: the contents, the rectangle's replaced. -/
theorem step_store (m : Memref sig .tc cs s e) (r : Rect s) (hr : ∀ a, r.stride a = 1) (X : s.Idx → Elt F e) (w : r.shape.Idx → Elt F e)
    {hx : (m.access r).Stores Finset.univ} {hm : (Finset.univ : Finset r.shape.Idx) = Finset.univ ∨ ∀ a, r.stride a = 1} :
    Step c (owns (c : Thread nD τ) m fullShare X : sProp 𝕄) (Prog.lift (.store m r w Finset.univ hx hm)) ⟨⟩
      (owns (c : Thread nD τ) m fullShare (r.overlay X w)) := by
  intro Q
  iintro H Hk
  ihave H := (owns_slice_split (c : Thread nD τ) m fullShare r hr X) $$ H
  icases H with ⟨Hs, %f, %hf, Hr⟩
  iapply (step_store_piece c m r hr _ w _) $$ Hs
  iintro Hs
  iapply Hk
  subst hf
  iapply (owns_slice_join (c : Thread nD τ) m fullShare r hr w f)
  isplitl [Hs]; · iexact Hs
  iexact Hr

end Ops

end Cert.Attn
-- ==== Proof.Local.lean ====
/-
  The part of the body that talks to no one: the attention of the four tiles, over the inputs, the result and the context scratch.
-/
module

public import proofs.«01_k».proof.Proof.Base

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- One device's five operands, as the kernel's windows hold them. -/
structure Ins (F : FTy → Type) [FloatOps F] where
  x0 : Vec F S2048x1024 .bf16
  x1 : Vec F S1024x1024 .bf16
  x2 : Vec F S2048x1024 .bf16
  x3 : Vec F S2048x1024 .f32
  x4 : Vec F S1024x1024 .bf16

abbrev Out (F : FTy → Type) [FloatOps F] := Vec F S2048x1024 .f32
abbrev Ctx (F : FTy → Type) [FloatOps F] := Vec F S512x1024 .bf16

/-- The operands at `X`. -/
def opers (c : Dev nD) (X : Ins F) : sProp 𝕄 :=
  iprop(owns (c : Thread nD τ) M0 fullShare X.x0 ∗ owns (c : Thread nD τ) M1 fullShare X.x1 ∗ owns (c : Thread nD τ) M2 fullShare X.x2
    ∗ owns (c : Thread nD τ) M3 fullShare X.x3 ∗ owns (c : Thread nD τ) M4 fullShare X.x4)

/-- The operands at `X`, the result at `o`, the context scratch at `x`. -/
def loc (c : Dev nD) (X : Ins F) (o : Out F) (x : Ctx F) : sProp 𝕄 :=
  iprop(opers c X ∗ owns (c : Thread nD τ) M5 fullShare o ∗ owns (c : Thread nD τ) M10 fullShare x)

namespace Local

variable {c : Dev nD} {X : Ins F} {o : Out F} {x : Ctx F} {R : sProp (MT nD τ sig Unit (Elt F) ℕ UU ℕ)} {α : Type}

theorem ld0 {Z : sProp 𝕄} {r : Rect S2048x1024} {hl : (M0 : Memref sig .tc .vmem S2048x1024 .bf16).view.LoadsAt r.toLoadRect}
    {k : (r.shape.Idx → Elt F .bf16) → Prog (TpuEff nD τ sig (Elt F) Λ₀ .tc) α} {w : α}
    (h : Step c iprop(loc c X o x ∗ R) (k (sub X.x0 r)) w Z) : Step c iprop(loc c X o x ∗ R) (Prog.lift (.load M0 r.toLoadRect hl) >>= k) w Z := by
  refine Step.bind (Step.left ?_) h
  unfold loc opers
  exact Step.left (Step.left (step_load c M0 fullShare X.x0 r))
theorem ld1 {Z : sProp 𝕄} {r : Rect S1024x1024} {hl : (M1 : Memref sig .tc .vmem S1024x1024 .bf16).view.LoadsAt r.toLoadRect}
    {k : (r.shape.Idx → Elt F .bf16) → Prog (TpuEff nD τ sig (Elt F) Λ₀ .tc) α} {w : α}
    (h : Step c iprop(loc c X o x ∗ R) (k (sub X.x1 r)) w Z) : Step c iprop(loc c X o x ∗ R) (Prog.lift (.load M1 r.toLoadRect hl) >>= k) w Z := by
  refine Step.bind (Step.left ?_) h
  unfold loc opers
  exact Step.left (Step.right (Step.left (step_load c M1 fullShare X.x1 r)))
theorem ld2 {Z : sProp 𝕄} {r : Rect S2048x1024} {hl : (M2 : Memref sig .tc .vmem S2048x1024 .bf16).view.LoadsAt r.toLoadRect}
    {k : (r.shape.Idx → Elt F .bf16) → Prog (TpuEff nD τ sig (Elt F) Λ₀ .tc) α} {w : α}
    (h : Step c iprop(loc c X o x ∗ R) (k (sub X.x2 r)) w Z) : Step c iprop(loc c X o x ∗ R) (Prog.lift (.load M2 r.toLoadRect hl) >>= k) w Z := by
  refine Step.bind (Step.left ?_) h
  unfold loc opers
  exact Step.left (Step.right (Step.right (Step.left (step_load c M2 fullShare X.x2 r))))
theorem ld3 {Z : sProp 𝕄} {r : Rect S2048x1024} {hl : (M3 : Memref sig .tc .vmem S2048x1024 .f32).view.LoadsAt r.toLoadRect}
    {k : (r.shape.Idx → Elt F .f32) → Prog (TpuEff nD τ sig (Elt F) Λ₀ .tc) α} {w : α}
    (h : Step c iprop(loc c X o x ∗ R) (k (sub X.x3 r)) w Z) : Step c iprop(loc c X o x ∗ R) (Prog.lift (.load M3 r.toLoadRect hl) >>= k) w Z := by
  refine Step.bind (Step.left ?_) h
  unfold loc opers
  exact Step.left (Step.right (Step.right (Step.right (Step.left (step_load c M3 fullShare X.x3 r)))))
theorem ld4 {Z : sProp 𝕄} {r : Rect S1024x1024} {hl : (M4 : Memref sig .tc .vmem S1024x1024 .bf16).view.LoadsAt r.toLoadRect}
    {k : (r.shape.Idx → Elt F .bf16) → Prog (TpuEff nD τ sig (Elt F) Λ₀ .tc) α} {w : α}
    (h : Step c iprop(loc c X o x ∗ R) (k (sub X.x4 r)) w Z) : Step c iprop(loc c X o x ∗ R) (Prog.lift (.load M4 r.toLoadRect hl) >>= k) w Z := by
  refine Step.bind (Step.left ?_) h
  unfold loc opers
  exact Step.left (Step.right (Step.right (Step.right (Step.right (step_load c M4 fullShare X.x4 r)))))
theorem ld5 {Z : sProp 𝕄} {r : Rect S2048x1024} {hl : (M5 : Memref sig .tc .vmem S2048x1024 .f32).view.LoadsAt r.toLoadRect}
    {k : (r.shape.Idx → Elt F .f32) → Prog (TpuEff nD τ sig (Elt F) Λ₀ .tc) α} {w : α}
    (h : Step c iprop(loc c X o x ∗ R) (k (sub o r)) w Z) : Step c iprop(loc c X o x ∗ R) (Prog.lift (.load M5 r.toLoadRect hl) >>= k) w Z := by
  refine Step.bind (Step.left ?_) h
  unfold loc
  exact Step.right (Step.left (step_load c M5 fullShare o r))
theorem ld10 {Z : sProp 𝕄} {r : Rect S512x1024} {hl : (M10 : Memref sig .tc .vmem S512x1024 .bf16).view.LoadsAt r.toLoadRect}
    {k : (r.shape.Idx → Elt F .bf16) → Prog (TpuEff nD τ sig (Elt F) Λ₀ .tc) α} {w : α}
    (h : Step c iprop(loc c X o x ∗ R) (k (sub x r)) w Z) : Step c iprop(loc c X o x ∗ R) (Prog.lift (.load M10 r.toLoadRect hl) >>= k) w Z := by
  refine Step.bind (Step.left ?_) h
  unfold loc
  exact Step.right (Step.right (step_load c M10 fullShare x r))
theorem st5 {Z : sProp 𝕄} {off size : Fin 2 → ℕ} {inb : ∀ a, off a + size a ≤ S2048x1024.size a}
    {v : (Rect.unit (s := S2048x1024) off size inb).shape.Idx → Elt F .f32}
    {hx : ((M5 : Memref sig .tc .vmem S2048x1024 .f32).access (Rect.unit off size inb)).Stores Finset.univ} {hm}
    {k : PUnit → Prog (TpuEff nD τ sig (Elt F) Λ₀ .tc) α} {w : α}
    (h : Step c iprop(loc c X ((Rect.unit (s := S2048x1024) off size inb).overlay o v) x ∗ R) (k ⟨⟩) w Z) :
    Step c iprop(loc c X o x ∗ R) (Prog.lift (.store M5 (Rect.unit off size inb) v Finset.univ hx hm) >>= k) w Z := by
  refine Step.bind (Step.left ?_) h
  unfold loc
  exact Step.right (Step.left (step_store c M5 _ (fun _ => rfl) o v))
theorem st10 {Z : sProp 𝕄} {off size : Fin 2 → ℕ} {inb : ∀ a, off a + size a ≤ S512x1024.size a}
    {v : (Rect.unit (s := S512x1024) off size inb).shape.Idx → Elt F .bf16}
    {hx : ((M10 : Memref sig .tc .vmem S512x1024 .bf16).access (Rect.unit off size inb)).Stores Finset.univ} {hm}
    {k : PUnit → Prog (TpuEff nD τ sig (Elt F) Λ₀ .tc) α} {w : α}
    (h : Step c iprop(loc c X o ((Rect.unit (s := S512x1024) off size inb).overlay x v) ∗ R) (k ⟨⟩) w Z) :
    Step c iprop(loc c X o x ∗ R) (Prog.lift (.store M10 (Rect.unit off size inb) v Finset.univ hx hm) >>= k) w Z := by
  refine Step.bind (Step.left ?_) h
  unfold loc
  exact Step.right (Step.right (step_store c M10 _ (fun _ => rfl) x v))

end Local

/-- A part of the body: from the buffers at `o`, `x` and what else `S` describes, it returns `v` and leaves `o'`, `x'`, `S'`. -/
structure Sem (c : Dev nD) (X : Ins F) (o : Out F) (x : Ctx F) (S : sProp (MT nD τ sig Unit (Elt F) ℕ UU ℕ)) {α : Type}
    (p : Prog (TpuEff nD τ sig (Elt F) Λ₀ .tc) α) where
  v : α
  o' : Out F
  x' : Ctx F
  S' : sProp (MT nD τ sig Unit (Elt F) ℕ UU ℕ)
  step : Step c iprop(loc c X o x ∗ S) p v iprop(loc c X o' x' ∗ S')

end Cert.Attn
-- ==== Proof.Protocol.lean ====
/-
  The protocol between the sixteen devices: who sends which chunk where, on which semaphores, and what each semaphore's counter
  carries with it.

  Device `c` sits at position `pn c` of plane `zn c`. Slot `s` of a receive array is filled by the device `s + 1` positions ahead
  (`pp c s` in the plane, `zp c s` across the planes); `Fin.rev s` is the slot a device itself fills at the device `s + 1` ahead.
-/
module

public import proofs.«01_k».proof.Proof.Base
public import Mathlib.Tactic.DeriveFintype

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The mesh -/

/-- Position in the plane, and the plane. -/
def pn (c : Dev nD) : Fin 4 := ⟨c.val % 4, Nat.mod_lt _ (by decide)⟩
def zn (c : Dev nD) : Fin 4 := ⟨c.val / 4, by have : c.val < 16 := c.isLt; omega⟩
/-- The device `s + 1` positions ahead in the plane, and `s + 1` planes ahead. -/
def pp (c : Dev nD) (s : Fin 3) : Dev nD := ⟨c.val / 4 * 4 + (c.val + s.val + 1) % 4, by have : c.val < 16 := c.isLt; show _ < 16; omega⟩
def zp (c : Dev nD) (s : Fin 3) : Dev nD := ⟨(c.val + 4 * (s.val + 1)) % 16, Nat.mod_lt _ (by decide)⟩
/-- The device at position `j` of plane `t`; also the number of the result's chunk it reduces. -/
def ck (t j : Fin 4) : Dev nD := ⟨4 * t.val + j.val, by show _ < 16; omega⟩

theorem pp_rev (c : Dev nD) (s : Fin 3) : pp (pp c s) s.rev = c := by revert c s; decide
theorem rev_pp (c : Dev nD) (s : Fin 3) : pp (pp c s.rev) s = c := by revert c s; decide
theorem zp_rev (c : Dev nD) (s : Fin 3) : zp (zp c s) s.rev = c := by revert c s; decide
theorem rev_zp (c : Dev nD) (s : Fin 3) : zp (zp c s.rev) s = c := by revert c s; decide
theorem ck_self (c : Dev nD) : ck (zn c) (pn c) = c := by revert c; decide

/-! ## The chunks and slots -/

abbrev Chunk (F : FTy → Type) [FloatOps F] : Type := Vec F S128x1024 .bf16

theorem inbC : ∀ (k : Dev nD) (a : Fin 2), (![128 * k.val, 0] : Fin 2 → ℕ) a + S128x1024.size a ≤ S2048x1024.size a := by decide
abbrev chR (k : Dev nD) : Rect S2048x1024 := Rect.unit ![128 * k.val, 0] S128x1024.size (inbC k)
abbrev chM (k : Dev nD) : Memref sig .tc .vmem S128x1024 .bf16 := M8.slice (chR k) (fun _ => rfl)
theorem inb6 : ∀ (t : Fin 4) (s : Fin 3) (a : Fin 4), (![t.val, s.val, 0, 0] : Fin 4 → ℕ) a + S1x1x128x1024.size a ≤ S4x3x128x1024.size a := by decide
abbrev R6 (t : Fin 4) (s : Fin 3) : Rect S4x3x128x1024 := Rect.unit ![t.val, s.val, 0, 0] S1x1x128x1024.size (inb6 t s)
abbrev M6s (t : Fin 4) (s : Fin 3) : Memref sig .tc .vmem S128x1024 .bf16 := (M6.slice (R6 t s) (fun _ => rfl)).squeeze S128x1024 squeezes_S1x1x128x1024_S128x1024
theorem inb7 : ∀ (s : Fin 3) (a : Fin 3), (![s.val, 0, 0] : Fin 3 → ℕ) a + S1x128x1024.size a ≤ S3x128x1024.size a := by decide
abbrev R7 (s : Fin 3) : Rect S3x128x1024 := Rect.unit ![s.val, 0, 0] S1x128x1024.size (inb7 s)
abbrev M7s (s : Fin 3) : Memref sig .tc .vmem S128x1024 .bf16 := (M7.slice (R7 s) (fun _ => rfl)).squeeze S128x1024 squeezes_S1x128x1024_S128x1024

/-- Device `c`'s chunk `k` of the exchange buffer, at share `q` and contents `v`. -/
def chunk (c : Dev nD) (k : Dev nD) (q : PosShare TreeShare) (v : Chunk F) : sProp 𝕄 := owns (c : Thread nD τ) (chM k) q v
/-- Device `c`'s slot for the partial results of its plane, and for those of the other planes. -/
def slot6 (c : Dev nD) (t : Fin 4) (s : Fin 3) (v : Chunk F) : sProp 𝕄 := owns (c : Thread nD τ) (M6s t s) fullShare v
def slot7 (c : Dev nD) (s : Fin 3) (v : Chunk F) : sProp 𝕄 := owns (c : Thread nD τ) (M7s s) fullShare v

/-- The shares lent with a finished chunk: three across the planes, three in the plane. -/
def shA (s : Fin 3) : PosShare TreeShare := match s with
  | 0 => fullShare.left.left | 1 => fullShare.left.right.left | 2 => fullShare.left.right.right
def shB (s : Fin 3) : PosShare TreeShare := match s with
  | 0 => fullShare.right.left.left | 1 => fullShare.right.left.right | 2 => fullShare.right.right.left
/-- The share never lent. -/
def shK : PosShare TreeShare := fullShare.right.right.right

/-! ## The semaphores -/

/-- The transfers' semaphores: sending and receiving, of the reduction in the plane, the reduction across the planes, the gathering
    across the planes and the gathering in the plane. -/
inductive DK where
  | S1 (t : Fin 4) (s : Fin 3) | R1 (t : Fin 4) (s : Fin 3) | S2 (s : Fin 3) | R2 (s : Fin 3)
  | Sa (s : Fin 3) | Ra (s : Fin 3) | Sb (t : Fin 4) (s : Fin 3) | Rb (t : Fin 4) (s : Fin 3)
deriving DecidableEq, Fintype

/-- All the semaphores of the protocol: the barrier's, the leaving one, the transfers'. -/
inductive CK where
  | bar | exit | d (k : DK)
deriving DecidableEq, Fintype

/-- A transfer semaphore's number. -/
def DK.num : DK → Fin 66
  | S1 t s => ⟨6 + (3 * t.val + s.val), by omega⟩ | R1 t s => ⟨18 + (3 * t.val + s.val), by omega⟩
  | S2 s => ⟨30 + s.val, by omega⟩ | R2 s => ⟨33 + s.val, by omega⟩ | Sa s => ⟨36 + s.val, by omega⟩ | Ra s => ⟨39 + s.val, by omega⟩
  | Sb t s => ⟨42 + (3 * t.val + s.val), by omega⟩ | Rb t s => ⟨54 + (3 * t.val + s.val), by omega⟩

def f4 (n : ℕ) : Fin 4 := ⟨n % 4, Nat.mod_lt _ (by decide)⟩
def f3 (n : ℕ) : Fin 3 := ⟨n % 3, Nat.mod_lt _ (by decide)⟩

def dkOf (n : ℕ) : Option DK :=
  if n < 6 then none else if n < 18 then some (.S1 (f4 ((n - 6) / 3)) (f3 (n - 6))) else if n < 30 then some (.R1 (f4 ((n - 18) / 3)) (f3 (n - 18)))
  else if n < 33 then some (.S2 (f3 (n - 30))) else if n < 36 then some (.R2 (f3 (n - 33))) else if n < 39 then some (.Sa (f3 (n - 36)))
  else if n < 42 then some (.Ra (f3 (n - 39))) else if n < 54 then some (.Sb (f4 ((n - 42) / 3)) (f3 (n - 42))) else some (.Rb (f4 ((n - 54) / 3)) (f3 (n - 54)))

theorem dkOf_num (k : DK) : dkOf k.num.val = some k := by revert k; decide

abbrev barSem : Sem sig := sig.barrier 0 rfl
abbrev exitSem : Sem sig := cc0_scoped0.sem

def CK.sem : CK → SemLoc sig
  | bar => .reg barSem | exit => .reg exitSem | d k => .dma k.num

def ckOf : SemLoc sig → Option CK
  | .reg s => if s = barSem then some .bar else some .exit
  | .dma q => (dkOf q.val).map CK.d

theorem ckOf_sem (k : CK) : ckOf k.sem = some k := by
  cases k with
  | bar => show (if barSem = barSem then some CK.bar else some .exit) = _; exact if_pos rfl
  | exit => show (if exitSem = barSem then some CK.bar else some .exit) = _; exact if_neg (by decide)
  | d k => show (dkOf k.num.val).map CK.d = _; rw [dkOf_num]; rfl

/-- Device `c`'s semaphore of kind `k`. -/
abbrev cel (c : Dev nD) (k : CK) : GSem nD τ sig := ((c : Thread nD τ), k.sem)

theorem cel_inj {c d : Dev nD} {k l : CK} (h : cel c k = cel d l) : c = d ∧ k = l := by
  have h1 : (c : Thread nD τ) = d := congrArg Prod.fst h
  have h2 : k.sem = l.sem := congrArg Prod.snd h
  refine ⟨congrArg Prod.fst h1, ?_⟩
  have := congrArg ckOf h2
  rw [ckOf_sem, ckOf_sem] at this
  exact Option.some.inj this

/-! ## What the exchanged chunks contain -/

/-- The values exchanged: `SB c k` is device `c`'s own partial result for chunk `k`; `AG c t` is the sum over device `c`'s plane for
    chunk `ck t (pn c)`; `RD k` is the finished chunk `k`. -/
structure Vals (F : FTy → Type) [FloatOps F] where
  SB : Dev nD → Dev nD → Chunk F
  AG : Dev nD → Fin 4 → Chunk F
  RD : Dev nD → Chunk F

variable (V : Vals F)

/-! ## The schedule -/

/-- The credit of one chunk. -/
abbrev N : ℕ := (chM 0).view.dmaCredit
theorem N_pos : 0 < N := View.dmaCredit_pos _ (by decide)

/-- Round 0 of every semaphore of device `d` is open. -/
def reach (d : Dev nD) : sProp 𝕄 := bigSep Finset.univ fun k : CK => reached ER (cel d k) 0

instance reach_persistent (d : Dev nD) : BI.Persistent (reach (F := F) d) := by unfold reach; infer_instance

/-- What the barrier's unit number `i` brings to device `c`: the slots `c` fills at the device it comes from. -/
def barPay (c : Dev nD) (i : Fin 6) : sProp 𝕄 :=
  if i.val < 3 then iprop((bigSep Finset.univ fun t : Fin 4 => iprop(∃ v : Chunk F, slot6 (pp c (f3 i.val)) t (f3 i.val).rev v)) ∗ reach (pp c (f3 i.val)))
  else iprop((∃ v : Chunk F, slot7 (zp c (f3 i.val)) (f3 i.val).rev v) ∗ reach (zp c (f3 i.val)))

/-- What a transfer's semaphore carries: a receiving one the written slot, and the sender's own chunk, whose place the answer will take. -/
def dmaPay (c : Dev nD) : DK → sProp 𝕄
  | .S1 _ _ => iprop(emp)
  | .R1 t s => iprop(slot6 c t s (V.SB (pp c s) (ck t (pn c))) ∗ chunk (pp c s) (ck t (pn c)) fullShare (V.SB (pp c s) (ck t (pn c))))
  | .S2 _ => iprop(emp)
  | .R2 s => iprop(slot7 c s (V.AG (zp c s) (zn c)) ∗ chunk (zp c s) c fullShare (V.AG (zp c s) (zn c)))
  | .Sa s => chunk c c (shA s) (V.RD c)
  | .Ra s => chunk c (zp c s.rev) fullShare (V.RD (zp c s.rev))
  | .Sb t s => chunk c (ck t (pn c)) (shB s) (V.RD (ck t (pn c)))
  | .Rb t s => chunk c (ck t (pn (pp c s.rev))) fullShare (V.RD (ck t (pn (pp c s.rev))))

def sched : Rounds.Schedule (GSem nD τ sig) (Fin 6) 𝕄 where
  duties g r := if r = 0 ∧ g.1.2 = .tc then (match ckOf g.2 with | some (.d _) => {0} | some _ => Finset.univ | none => ∅) else ∅
  unitless _ := False
  amount g _ _ := match ckOf g.2 with | some (.d _) => N | _ => 1
  payload g _ i := match ckOf g.2 with | some .bar => barPay g.1.1 i | some (.d k) => dmaPay V g.1.1 k | _ => iprop(emp)
  amount_pos g _ _ _ := by
    split
    · exact N_pos
    · exact Nat.one_pos

instance sched_storable (g : GSem nD τ sig) (r : ℕ) (i : Fin 6) : BI.Storable (upEmb : UEmb _ 𝕄) ((sched V).payload g r i) := by
  show BI.Storable upEmb (match ckOf g.2 with | some .bar => barPay g.1.1 i | some (.d k) => dmaPay V g.1.1 k | _ => iprop(emp))
  split
  · unfold barPay reach slot6 slot7; split <;> infer_instance
  · next k _ => cases k <;> (simp only [dmaPay, slot6, slot7, chunk]; infer_instance)
  · infer_instance

section Tables

variable (c : Dev nD)

theorem duties_d (k : DK) : (sched V).duties (cel c (.d k)) 0 = {0} := by dsimp only [sched, cel]; rw [ckOf_sem]; exact if_pos ⟨rfl, rfl⟩
theorem duties_bar : (sched V).duties (cel c .bar) 0 = Finset.univ := by dsimp only [sched, cel]; rw [ckOf_sem]; exact if_pos ⟨rfl, rfl⟩
theorem duties_exit : (sched V).duties (cel c .exit) 0 = Finset.univ := by dsimp only [sched, cel]; rw [ckOf_sem]; exact if_pos ⟨rfl, rfl⟩
theorem duties_later (g : GSem nD τ sig) : ∀ r, 1 ≤ r → (sched V).duties g r = ∅ :=
  fun r hr => by dsimp only [sched]; exact if_neg (fun h => by omega)
theorem amount_d (k : DK) (i : Fin 6) : (sched V).amount (cel c (.d k)) 0 i = N := by dsimp only [sched, cel]; rw [ckOf_sem]
theorem amount_bar (i : Fin 6) : (sched V).amount (cel c .bar) 0 i = 1 := by dsimp only [sched, cel]; rw [ckOf_sem]
theorem amount_exit (i : Fin 6) : (sched V).amount (cel c .exit) 0 i = 1 := by dsimp only [sched, cel]; rw [ckOf_sem]
theorem payload_d (k : DK) (i : Fin 6) : (sched V).payload (cel c (.d k)) 0 i = dmaPay V c k := by dsimp only [sched, cel]; rw [ckOf_sem]
theorem payload_bar (i : Fin 6) : (sched V).payload (cel c .bar) 0 i = barPay c i := by dsimp only [sched, cel]; rw [ckOf_sem]
theorem payload_exit (i : Fin 6) : (sched V).payload (cel c .exit) 0 i = iprop(emp) := by dsimp only [sched, cel]; rw [ckOf_sem]

/-- The units a semaphore's round takes. -/
def amt : CK → ℕ | .d _ => N | _ => 6

theorem expect_eq (k : CK) : (sched V).expect (cel c k) 0 = amt k := by
  unfold Schedule.expect Schedule.amountOf
  cases k with
  | bar => rw [duties_bar]; simp only [amount_bar]; rfl
  | exit => rw [duties_exit]; simp only [amount_exit]; rfl
  | d k => rw [duties_d, Finset.sum_singleton, amount_d]; rfl

theorem rest_d (k : DK) : bigSep ((sched V).duties (cel c (.d k)) 0 \ ∅) (fun i => (sched V).payload (cel c (.d k)) 0 i) = dmaPay V c k := by
  rw [Finset.sdiff_empty, duties_d, bigSep_singleton, payload_d]
theorem rest_bar : bigSep ((sched V).duties (cel c .bar) 0 \ ∅) (fun i => (sched V).payload (cel c .bar) 0 i) = bigSep Finset.univ (barPay (F := F) c) := by
  rw [Finset.sdiff_empty, duties_bar]; exact bigSep_congr fun i _ => payload_bar V c i

end Tables

end Cert.Attn
-- ==== Proof.Ghost.lean ====
/-
  What a device carries through the body: the units it still owes and their tokens, its places on its semaphores, the credits it
  waits with; and one step for each kind of exchange.
-/
module

public import proofs.«01_k».proof.Proof.Protocol

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One summand apart. -/
theorem bigSep_one {I : Type} [DecidableEq I] {s : Finset I} {i : I} (hi : i ∉ s) (Φ : I → sProp 𝕄) :
    bigSep (insert i s) Φ = iprop(Φ i ∗ bigSep s Φ) := bigSep_insert hi

/-! ## The payments, in program order -/

inductive PK where
  | bar (i : Fin 6) | r1 (t : Fin 4) (s : Fin 3) | r2 (s : Fin 3) | ra (s : Fin 3) | rb (t : Fin 4) (s : Fin 3) | exit (i : Fin 6)
deriving DecidableEq, Fintype

/-- The six devices a device exchanges with. -/
def peer (c : Dev nD) (i : Fin 6) : Dev nD := if i.val < 3 then pp c (f3 i.val) else zp c (f3 i.val)
def rv (i : Fin 6) : Fin 6 := if i.val < 3 then ⟨2 - i.val, by omega⟩ else ⟨(8 - i.val) % 6, Nat.mod_lt _ (by decide)⟩

def PK.kind : PK → CK
  | bar _ => .bar | exit _ => .exit | r1 t s => .d (.R1 t s) | r2 s => .d (.R2 s) | ra s => .d (.Ra s) | rb t s => .d (.Rb t s)
def PK.duty : PK → Fin 6 | bar i => rv i | exit i => rv i | _ => 0
def PK.amt : PK → ℕ | bar _ => 1 | exit _ => 1 | _ => N
/-- Whom device `c` pays. -/
def tgt (c : Dev nD) : PK → Dev nD
  | .bar i => peer c i | .exit i => peer c i | .r1 _ s => pp c s.rev | .r2 s => zp c s.rev | .ra s => zp c s | .rb _ s => pp c s
/-- The sending semaphore of a transfer. -/
def PK.src : PK → Option DK
  | bar _ => none | exit _ => none | r1 t s => some (.S1 t s) | r2 s => some (.S2 s) | ra s => some (.Sa s) | rb t s => some (.Sb t s)

/-- The payment's place in the program. -/
def ord (c : Dev nD) : PK → ℕ
  | .bar i => i.val | .r1 t s => 6 + 4 * t.val + (pn (pp c s.rev)).val | .r2 s => 22 + (zn (zp c s.rev)).val
  | .ra s => 26 + s.val | .rb t s => 29 + 3 * t.val + s.val | .exit i => 41 + i.val

theorem ord_inj : ∀ (c : Dev nD) (x y : PK), ord c x = ord c y → x = y := by decide +kernel

/-- The payments still to make at place `n`. -/
def rem (c : Dev nD) (n : ℕ) : Finset PK := Finset.univ.filter fun x => n ≤ ord c x

theorem rem_next {c : Dev nD} {x : PK} {n : ℕ} (h : ord c x = n) : rem c n = insert x (rem c (n + 1)) := by
  ext y
  simp only [rem, Finset.mem_filter, Finset.mem_univ, _root_.true_and, Finset.mem_insert]
  constructor
  · intro hy
    rcases Nat.lt_or_ge n (ord c y) with h' | h'
    · exact .inr h'
    · exact .inl (ord_inj c y x (by omega))
  · rintro (rfl | hy) <;> omega

theorem not_mem_rem {c : Dev nD} {x : PK} {n : ℕ} (h : ord c x = n) : x ∉ rem c (n + 1) := by
  simp only [rem, Finset.mem_filter, Finset.mem_univ, _root_.true_and]; omega

theorem rem_skip {c : Dev nD} {n : ℕ} (h : ∀ x, ord c x ≠ n) : rem c n = rem c (n + 1) := by
  ext y
  simp only [rem, Finset.mem_filter, Finset.mem_univ, _root_.true_and]
  have := h y; omega

def due (c : Dev nD) (x : PK) : CellTallies nD τ sig Unit := tallyAt (cel (tgt c x) x.kind) () x.amt
def owe (c : Dev nD) (n : ℕ) : CellTallies nD τ sig Unit := ∑ x ∈ rem c n, due c x
theorem owe_next {c : Dev nD} {x : PK} {n : ℕ} (h : ord c x = n) : owe c n = owe c (n + 1) + due c x := by
  unfold owe; rw [rem_next h, Finset.sum_insert (not_mem_rem h), add_comm]

def ptok (c : Dev nD) (x : PK) : sProp 𝕄 :=
  iprop(dutyTok ER (cel (tgt c x) x.kind) 0 x.duty ∗ (match x.src with | some k => dutyTok ER (cel c (.d k)) 0 0 | none => iprop(emp)))

/-! ## Levels -/

def CK.lv : CK → ℕ
  | bar => 1 | exit => 6 | d (.R1 _ _) => 2 | d (.R2 _) => 3 | d (.Ra _) => 4 | d (.Rb _ _) => 5 | d _ => 0

def L (g : GSem nD τ sig) : Finset Unit := if g.1.2 = .tc then {()} else ∅
def lv (g : GSem nD τ sig) (_ : Unit) : ℕ := match ckOf g.2 with | some k => k.lv | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cel (c : Dev nD) (k : CK) (u : Unit) : lv (cel c k) u = k.lv := by dsimp only [lv, cel]; rw [ckOf_sem]

theorem owe_pos {c : Dev nD} {n : ℕ} {g : GSem nD τ sig} {u : Unit} (h : 0 < owe c n g u) : ∃ x ∈ rem c n, g = cel (tgt c x) x.kind := by
  by_contra hx
  refine absurd h (Nat.not_lt.mpr (le_of_eq ?_))
  unfold owe
  rw [Finset.sum_apply, Finsupp.finset_sum_apply]
  refine Finset.sum_eq_zero fun x hm => ?_
  unfold due
  rw [tallyAt_apply]
  exact if_neg fun e => hx ⟨x, hm, e.1⟩

theorem mayWait (c : Dev nD) (k : CK) (n : ℕ) (h : ∀ x, n ≤ ord c x → k.lv < x.kind.lv) :
    (levAts L lv : sProp 𝕄) ⊢ MayWait (c : Thread nD τ) k.sem () (owe c n) :=
  MayOwe.of_cut (L := L) (lev := lv) k.lv (fun p hp => by rw [Finset.mem_singleton.mp hp, L_tc]; exact Finset.mem_singleton_self _)
    (fun g u hg => by obtain ⟨x, -, rfl⟩ := owe_pos hg; rw [L_tc]; exact Finset.mem_singleton_self _)
    (fun p hp => by rw [Finset.mem_singleton.mp hp]; exact le_of_eq (lv_cel c k ()))
    (fun g u hg => by
      obtain ⟨x, hx, rfl⟩ := owe_pos hg
      rw [lv_cel]; exact h x (Finset.mem_filter.mp hx).2)

/-! ## The waits, in program order -/

def word : CK → ℕ
  | .bar => 0 | .exit => 61
  | .d (.R1 t s) => 1 + 3 * t.val + s.val | .d (.R2 s) => 13 + s.val | .d (.S1 t s) => 16 + 3 * t.val + s.val | .d (.S2 s) => 28 + s.val
  | .d (.Ra s) => 31 + s.val | .d (.Rb t s) => 34 + 3 * t.val + s.val | .d (.Sa s) => 46 + s.val | .d (.Sb t s) => 49 + 3 * t.val + s.val

theorem word_inj : ∀ (k l : CK), word k = word l → k = l := by decide +kernel

/-- The semaphores not waited on yet before the wait `m`, and those waited on. -/
def todo (m : ℕ) : Finset CK := Finset.univ.filter fun k => m ≤ word k
def done (m : ℕ) : Finset CK := Finset.univ.filter fun k => word k < m
/-- The credits a device holds: those given at the start, and those of the transfers it has issued. -/
def spk : CK → Option PK
  | .d (.S1 t s) => some (.r1 t s) | .d (.S2 s) => some (.r2 s) | .d (.Sa s) => some (.ra s) | .d (.Sb t s) => some (.rb t s) | _ => none
def avail (c : Dev nD) (n : ℕ) (k : CK) : Bool := match spk k with | some x => decide (ord c x < n) | none => true
def crs (c : Dev nD) (n m : ℕ) : Finset CK := Finset.univ.filter fun k => m ≤ word k ∧ avail c n k = true

theorem todo_next {k : CK} {m : ℕ} (h : word k = m) : todo m = insert k (todo (m + 1)) ∧ k ∉ todo (m + 1) := by
  constructor
  · ext y
    simp only [todo, Finset.mem_filter, Finset.mem_univ, _root_.true_and, Finset.mem_insert]
    constructor
    · intro hy
      rcases Nat.lt_or_ge m (word y) with h' | h'
      · exact .inr h'
      · exact .inl (word_inj y k (by omega))
    · rintro (rfl | hy) <;> omega
  · simp only [todo, Finset.mem_filter, Finset.mem_univ, _root_.true_and]; omega

theorem done_next {k : CK} {m : ℕ} (h : word k = m) : done (m + 1) = insert k (done m) ∧ k ∉ done m := by
  constructor
  · ext y
    simp only [done, Finset.mem_filter, Finset.mem_univ, _root_.true_and, Finset.mem_insert]
    constructor
    · intro hy
      rcases Nat.lt_or_ge (word y) m with h' | h'
      · exact .inr h'
      · exact .inl (word_inj y k (by omega))
    · rintro (rfl | hy) <;> omega
  · simp only [done, Finset.mem_filter, Finset.mem_univ, _root_.true_and]; omega

theorem mem_crs {c : Dev nD} {n m : ℕ} {k : CK} : k ∈ crs c n m ↔ m ≤ word k ∧ avail c n k = true := by
  simp only [crs, Finset.mem_filter, Finset.mem_univ, _root_.true_and]

theorem crs_next {c : Dev nD} {k : CK} {n m : ℕ} (h : word k = m) (ha : avail c n k = true) :
    crs c n m = insert k (crs c n (m + 1)) ∧ k ∉ crs c n (m + 1) := by
  constructor
  · ext y
    simp only [Finset.mem_insert, mem_crs]
    constructor
    · rintro ⟨hy, hz⟩
      rcases Nat.lt_or_ge m (word y) with h' | h'
      · exact .inr ⟨h', hz⟩
      · exact .inl (word_inj y k (by omega))
    · rintro (rfl | ⟨hy, hz⟩)
      · exact ⟨by omega, ha⟩
      · exact ⟨by omega, hz⟩
  · rw [mem_crs]; omega

theorem spk_src : ∀ (k : CK) (x : PK), spk k = some x ↔ ∃ d, x.src = some d ∧ k = .d d := by decide +kernel

/-- A transfer brings its sending credit. -/
theorem crs_send {c : Dev nD} {x : PK} {d : DK} {n m : ℕ} (h : ord c x = n) (hs : x.src = some d) (hm : m ≤ word (.d d)) :
    crs c (n + 1) m = insert (.d d) (crs c n m) ∧ CK.d d ∉ crs c n m := by
  have hk : spk (.d d) = some x := (spk_src _ _).mpr ⟨d, hs, rfl⟩
  constructor
  · ext y
    simp only [Finset.mem_insert, mem_crs, avail]
    constructor
    · rintro ⟨hy, hz⟩
      cases e : spk y with
      | none => exact .inr ⟨hy, rfl⟩
      | some z =>
        rw [e] at hz
        have hz' : ord c z < n + 1 := of_decide_eq_true hz
        rcases Nat.lt_or_ge (ord c z) n with h' | h'
        · exact .inr ⟨hy, decide_eq_true h'⟩
        · have : z = x := ord_inj c z x (by omega)
          obtain ⟨d', hd', rfl⟩ := (spk_src _ _).mp e
          rw [this, hs] at hd'
          exact .inl (by rw [Option.some.inj hd'])
    · rintro (rfl | ⟨hy, hz⟩)
      · rw [hk]; exact ⟨hm, decide_eq_true (by omega)⟩
      · refine ⟨hy, ?_⟩
        cases e : spk y with
        | none => rfl
        | some z => rw [e] at hz; have := of_decide_eq_true hz; exact decide_eq_true (by omega)
  · simp only [mem_crs, avail]
    rw [hk]
    rintro ⟨-, hz⟩
    have := of_decide_eq_true hz
    omega

/-- A signal does not. -/
theorem crs_signal {c : Dev nD} {x : PK} {n m : ℕ} (h : ord c x = n) (hs : x.src = none) : crs c (n + 1) m = crs c n m := by
  ext y
  simp only [mem_crs, avail]
  cases e : spk y with
  | none => exact Iff.rfl
  | some z =>
    have hz : ord c z ≠ n := fun e' => by
      obtain ⟨d, hd, -⟩ := (spk_src _ _).mp e
      rw [ord_inj c z x (by omega), hs] at hd; cases hd
    constructor
    · rintro ⟨hy, hw⟩; have := of_decide_eq_true hw; exact ⟨hy, decide_eq_true (by omega)⟩
    · rintro ⟨hy, hw⟩; have := of_decide_eq_true hw; exact ⟨hy, decide_eq_true (by omega)⟩

/-- A place with no payment of the device's. -/
theorem crs_skip {c : Dev nD} {n m : ℕ} (h : ∀ x, ord c x ≠ n) : crs c (n + 1) m = crs c n m := by
  ext y
  simp only [mem_crs, avail]
  cases e : spk y with
  | none => exact Iff.rfl
  | some z =>
    have hz := h z
    constructor
    · rintro ⟨hy, hw⟩; have := of_decide_eq_true hw; exact ⟨hy, decide_eq_true (by omega)⟩
    · rintro ⟨hy, hw⟩; have := of_decide_eq_true hw; exact ⟨hy, decide_eq_true (by omega)⟩

/-! ## The device's state in the protocol -/

variable (V : Vals F) (K : GSem nD τ sig → ℕ)

/-- Every semaphore's invariant. -/
def invs : sProp 𝕄 := bigSep Finset.univ fun d : Dev nD => bigSep Finset.univ fun k : CK => cellInv ER (sched V) (K (cel d k)) (cel d k)
instance invs_persistent : BI.Persistent (invs V K) := by unfold invs; infer_instance
theorem invs_at (d : Dev nD) (k : CK) : invs V K ⊢ cellInv ER (sched V) (K (cel d k)) (cel d k) :=
  (bigSep_elim (Finset.mem_univ d)).trans (bigSep_elim (Finset.mem_univ k))
theorem reach_at (d : Dev nD) (k : CK) : (reach d : sProp 𝕄) ⊢ reached ER (cel d k) 0 := bigSep_elim (Finset.mem_univ k)

/-- The peers' barriers are open. -/
def barReach (c : Dev nD) : sProp 𝕄 := bigSep Finset.univ fun i : Fin 6 => reached ER (cel (peer c i) .bar) 0
instance barReach_persistent (c : Dev nD) : BI.Persistent (barReach (F := F) c) := by unfold barReach; infer_instance
/-- All the peers' semaphores are open. -/
def Peers (c : Dev nD) : sProp 𝕄 := bigSep Finset.univ fun i : Fin 6 => reach (peer c i)
instance Peers_persistent (c : Dev nD) : BI.Persistent (Peers (F := F) c) := by unfold Peers; infer_instance

/-- What does not change. -/
def fixed (c : Dev nD) : sProp 𝕄 := iprop(invs V K ∗ levAts L lv ∗ reach c ∗ barReach c)
instance fixed_persistent (c : Dev nD) : BI.Persistent (fixed V K c) := by unfold fixed; infer_instance

/-- Device `c` before its payment `n` and its wait `m`. -/
def G (c : Dev nD) (n m : ℕ) : sProp 𝕄 :=
  iprop(fixed V K c ∗ (∃ W, owes (c : Thread nD τ) (owe c n) W) ∗ bigSep (rem c n) (ptok c)
    ∗ bigSep (todo m) (fun k => atPos ER (cel c k) 0 ∅ 0) ∗ bigSep (done m) (fun k => atPos ER (cel c k) (0 + 1) ∅ 0)
    ∗ bigSep (crs c n m) (fun k => cred (tallyAt (cel c k) () (amt k))))
/-- The same, once the peers are known to be there. -/
def St (c : Dev nD) (n m : ℕ) : sProp 𝕄 := iprop(Peers c ∗ G V K c n m)

attribute [irreducible] crs todo done

theorem G_skip {c : Dev nD} {n m : ℕ} (h : ∀ x, ord c x ≠ n) : G V K c n m = G V K c (n + 1) m := by
  unfold G owe; rw [rem_skip h, ← crs_skip (m := m) h]
theorem St_skip {c : Dev nD} {n m : ℕ} (h : ∀ x, ord c x ≠ n) : St V K c n m = St V K c (n + 1) m := by
  unfold St; rw [G_skip V K h]

variable {V K}

/-- A wait: the semaphore's payload comes with it. -/
theorem G_wait {c : Dev nD} {n m : ℕ} (k : CK) {w : TpuEff nD τ sig (Elt F) Λ₀ .tc PUnit} {j : ℕ}
    (hw : ∀ Q : PUnit → sProp 𝕄, wpE (defs₀ (F := F)) 𝒱₀ (c : Thread nD τ) none Set.univ w Q = waitSpec (c : Thread nD τ) Set.univ k.sem j Q)
    (hj : j = amt k) (hm : word k = m) (ha : avail c n k = true) (hl : ∀ x, n ≤ ord c x → k.lv < x.kind.lv) :
    Step c (G V K c n m) (Prog.lift w) ⟨⟩
      iprop(bigSep ((sched V).duties (cel c k) 0 \ ∅) (fun i => (sched V).payload (cel c k) 0 i) ∗ G V K c n (m + 1)) := by
  subst hj
  intro Q
  unfold G fixed
  rw [(todo_next hm).1, bigSep_one (todo_next hm).2, (done_next hm).1, bigSep_one (done_next hm).2, (crs_next hm ha).1,
    bigSep_one (crs_next hm ha).2]
  iintro ⟨⟨#Hi, #Hl, #Hr, #Hb⟩, ⟨%W, HO⟩, Ht, ⟨Hp, Htodo⟩, Hdone, ⟨Hc, Hcs⟩⟩ HQ
  unfold run
  iapply (Rounds.wp_wait_rest_token 𝒱₀ ER (sched V) (c : Thread nD τ) none (κ := K (cel c k)) hw (Set.mem_univ _) () (O := owe c n) (W := W) (R := 0)
    (m := 0) (T := ∅) ((Nat.zero_add _).trans (expect_eq V c k).symm)) $$ [Hc HO Hp]
  · isplitr; · iapply (invs_at V K c k); iexact Hi
    isplitl [Hc]; · iexact Hc
    isplitl [HO]; · iexact HO
    isplitr; · iapply (mayWait c k n hl); iexact Hl
    iexact Hp
  iintro ⟨HO, Hp, -, Hpay⟩
  rw [wp_ret]
  imodintro
  iapply HQ
  isplitl [Hpay]; · iexact Hpay
  isplitr
  · isplitr; · iexact Hi
    isplitr; · iexact Hl
    isplitr; · iexact Hr
    iexact Hb
  isplitl [HO]; · iexists _; iexact HO
  isplitl [Ht]; · iexact Ht
  isplitl [Htodo]; · iexact Htodo
  isplitl [Hp Hdone]
  · isplitl [Hp]; · iexact Hp
    iexact Hdone
  iexact Hcs

/-- A signal to a peer. -/
theorem G_signal {c : Dev nD} {n m : ℕ} (x : PK) (hx : x.src = none) (h1 : x.amt = 1) {s : Sem sig} (hs : SemLoc.reg s = x.kind.sem)
    (hmem : x.duty ∈ (sched V).duties (cel (tgt c x) x.kind) 0) (hamt : (sched V).amount (cel (tgt c x) x.kind) 0 x.duty = 1)
    (hn : ord c x = n) {P : sProp 𝕄} (hP : P ⊢ (sched V).payload (cel (tgt c x) x.kind) 0 x.duty) {R : sProp 𝕄} [BI.Persistent R]
    (hR : iprop(R ∗ fixed V K c) ⊢ reached ER (cel (tgt c x) x.kind) 0) :
    Step c iprop(R ∗ P ∗ G V K c n m) (Prog.lift (.semSignal ((tgt c x : Dev nD) : Thread nD τ) s 1)) ⟨⟩ iprop(R ∗ G V K c (n + 1) m) := by
  intro Q
  unfold G
  rw [crs_signal hn hx, rem_next hn, bigSep_one (not_mem_rem hn)]
  iintro ⟨#HR, HP, #Hf, ⟨%W, HO⟩, ⟨Ht, Hts⟩, Htodo, Hdone, Hcs⟩ HQ
  unfold ptok
  icases Ht with ⟨Ht, -⟩
  unfold run
  have hcel : cel (tgt c x) x.kind = (((tgt c x : Dev nD) : Thread nD τ), SemLoc.reg s) := by rw [hs]
  iapply (Rounds.wp_signal 𝒱₀ ER (sched V) (c : Thread nD τ) none (dst := (tgt c x : Thread nD τ)) (sem := s) (r := 0) (d := x.duty)
      (κ := K (cel (tgt c x) x.kind)) (by rw [← hcel]; exact hmem) (by rw [← hcel]; exact hamt) () (O₀ := owe c n) (owe c (n + 1))
      (by rw [owe_next hn, due, h1, hcel])) $$ [HO HP Ht]
  · rw [← hcel]
    isplitr
    · unfold fixed
      icases Hf with ⟨Hi, -⟩
      iapply (invs_at V K (tgt c x) x.kind); iexact Hi
    isplitl [HO]; · iexact HO
    isplitl [Ht]; · iexact Ht
    isplitl [HP]; · iapply hP; iexact HP
    iapply hR
    isplitr; · iexact HR
    iexact Hf
  iintro HO
  rw [wp_ret]
  imodintro
  iapply HQ
  isplitr; · iexact HR
  isplitr; · iexact Hf
  isplitl [HO]; · iexists _; iexact HO
  isplitl [Hts]; · iexact Hts
  isplitl [Htodo]; · iexact Htodo
  isplitl [Hdone]; · iexact Hdone
  iexact Hcs

end Cert.Attn
-- ==== Proof.Sends.lean ====
/-
  The exchanges themselves: the barrier, the transfers of each kind and their waits, each as one step.
-/
module

public import proofs.«01_k».proof.Proof.Ghost

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {V : Vals F} {K : GSem nD τ sig → ℕ}

theorem peer_tgt : ∀ (c : Dev nD) (x : PK), ∃ i, peer c i = tgt c x := by decide +kernel

theorem Peers_tgt (c : Dev nD) (x : PK) (k : CK) : (Peers c : sProp 𝕄) ⊢ reached ER (cel (tgt c x) k) 0 := by
  obtain ⟨i, hi⟩ := peer_tgt c x
  refine (bigSep_elim (Finset.mem_univ i)).trans ?_
  rw [hi]; exact reach_at _ _

/-- A transfer whose sender gets its own chunk's place back only with the peer's: nothing comes with the sending semaphore. -/
theorem St_send_landing {c : Dev nD} {n m : ℕ} (x : PK) {d dk : DK} (hx : x.src = some d) (hk : x.kind = .d dk) (hxd : x.duty = 0) (hxa : x.amt = N)
    {src dst : Memref sig .tc .vmem S128x1024 .bf16} {s1 s2 : DmaSem sig} (h1 : s1 = d.num) (h2 : s2 = dk.num) {dev : Dev nD} (hdev : dev = tgt c x)
    (hdst : dst.view.dmaCredit = N) (hn : ord c x = n) (hm : m ≤ word (.d d)) {q : PosShare TreeShare} {v : Chunk F}
    {hsc : dst.view.ref.isScScratch = false}
    {hsrc : src.view.WordExact} {hdst' : dst.view.WordExact} {hsem : DmaTarget.Typed (nD := nD) .vmem (.dma s2) (.remote (Dev.tc dev) dst (.dma s1) hsc)}
    (hp1 : dmaPay V c d = iprop(emp)) (hp2 : iprop(owns (dev : Thread nD τ) dst fullShare v ∗ owns (c : Thread nD τ) src q v) ⊢ dmaPay V dev dk) :
    Step c iprop(owns (c : Thread nD τ) src q v ∗ (∃ w, owns (dev : Thread nD τ) dst fullShare w) ∗ St V K c n m)
      (Prog.lift (.enqueueDma src (.remote (Dev.tc dev) dst (.dma s1) hsc) (.dma s2) hsrc hdst' hsem)) ⟨⟩ (St V K c (n + 1) m) := by
  subst hdev h1 h2
  intro Q
  unfold St G fixed
  rw [(crs_send hn hx hm).1, bigSep_one (crs_send hn hx hm).2, rem_next hn, bigSep_one (not_mem_rem hn)]
  iintro ⟨Hs, ⟨%w, Hd⟩, #HP, ⟨#Hi, #Hl, #Hr, #Hb⟩, ⟨%W, HO⟩, ⟨Ht, Hts⟩, Htodo, Hdone, Hcs⟩ HQ
  unfold ptok
  rw [hx, hxd, hk]
  icases Ht with ⟨Ht2, Ht1⟩
  unfold owns
  icases Hs with ⟨%f, %hf, Hs⟩
  icases Hd with ⟨%g, -, Hd⟩
  unfold run
  iapply (Rounds.wp_send_landing_pointsTo 𝒱₀ ER (sched V) (c : Thread nD τ) none (c' := (tgt c x : Thread nD τ)) (src := src) (dst := dst)
      (sS := .dma d.num) (sem := .dma dk.num) (q := q) (fs := f) (fd := g) (κ₁ := K (cel c (.d d))) (κ₂ := K (cel (tgt c x) (.d dk)))
      (r₁ := 0) (r₂ := 0) (d₁ := 0) (d₂ := 0)
      (by show (0 : Fin 6) ∈ (sched V).duties (cel c (.d d)) 0; rw [duties_d]; exact Finset.mem_singleton_self _)
      (by show (0 : Fin 6) ∈ (sched V).duties (cel (tgt c x) (.d dk)) 0; rw [duties_d]; exact Finset.mem_singleton_self _)
      () () N hdst (amount_d V c d 0) (amount_d V (tgt c x) dk 0) (O₀ := owe c n) (owe c (n + 1))
      (by rw [owe_next hn, due, hxa, hk]; rfl) (W := W)
      (by rw [show (sched V).payload ((c : Thread nD τ), SemLoc.dma d.num) 0 0 = dmaPay V c d from payload_d V c d 0, hp1])
      (by
        rw [show (sched V).payload ((tgt c x : Thread nD τ), SemLoc.dma dk.num) 0 0 = dmaPay V (tgt c x) dk from payload_d V (tgt c x) dk 0]
        refine .trans ?_ hp2
        unfold owns
        iintro ⟨H1, H2⟩
        isplitl [H1]
        · iexists _
          isplitr; · ipureintro; exact (View.read_write_univ g _).trans hf
          iexact H1
        iexists f
        isplitr; · ipureintro; exact hf
        iexact H2)) $$ [Hs Hd HO Ht1 Ht2]
  · isplitr; · iapply (invs_at V K c (.d d)); iexact Hi
    isplitr; · iapply (invs_at V K (tgt c x) (.d dk)); iexact Hi
    isplitl [Hs]; · iexact Hs
    isplitl [Hd]; · iexact Hd
    isplitl [HO]; · iexact HO
    isplitl [Ht1]; · iexact Ht1
    isplitr; · iapply (reach_at c (.d d)); iexact Hr
    isplitl [Ht2]; · iexact Ht2
    iapply (Peers_tgt c x (.d dk)); iexact HP
  iintro ⟨Hc, HO⟩
  rw [wp_ret]
  imodintro
  iapply HQ
  isplitr; · iexact HP
  isplitr
  · isplitr; · iexact Hi
    isplitr; · iexact Hl
    isplitr; · iexact Hr
    iexact Hb
  isplitl [HO]; · iexists W; iexact HO
  isplitl [Hts]; · iexact Hts
  isplitl [Htodo]; · iexact Htodo
  isplitl [Hdone]; · iexact Hdone
  isplitl [Hc]; · iexact Hc
  iexact Hcs

/-- A transfer that lends a share of its source until the wait on the sending semaphore. -/
theorem St_send_share {c : Dev nD} {n m : ℕ} (x : PK) {d dk : DK} (hx : x.src = some d) (hk : x.kind = .d dk) (hxd : x.duty = 0) (hxa : x.amt = N)
    {src dst : Memref sig .tc .vmem S128x1024 .bf16} {s1 s2 : DmaSem sig} (h1 : s1 = d.num) (h2 : s2 = dk.num) {dev : Dev nD} (hdev : dev = tgt c x)
    (hdst : dst.view.dmaCredit = N) (hn : ord c x = n) (hm : m ≤ word (.d d)) {q : PosShare TreeShare} {v : Chunk F}
    {hsc : dst.view.ref.isScScratch = false}
    {hsrc : src.view.WordExact} {hdst' : dst.view.WordExact} {hsem : DmaTarget.Typed (nD := nD) .vmem (.dma s2) (.remote (Dev.tc dev) dst (.dma s1) hsc)}
    (hp1 : owns (c : Thread nD τ) src q v ⊢ dmaPay V c d) (hp2 : owns (dev : Thread nD τ) dst fullShare v ⊢ dmaPay V dev dk) :
    Step c iprop(owns (c : Thread nD τ) src q v ∗ (∃ w, owns (dev : Thread nD τ) dst fullShare w) ∗ St V K c n m)
      (Prog.lift (.enqueueDma src (.remote (Dev.tc dev) dst (.dma s1) hsc) (.dma s2) hsrc hdst' hsem)) ⟨⟩ (St V K c (n + 1) m) := by
  subst hdev h1 h2
  intro Q
  unfold St G fixed
  rw [(crs_send hn hx hm).1, bigSep_one (crs_send hn hx hm).2, rem_next hn, bigSep_one (not_mem_rem hn)]
  iintro ⟨Hs, ⟨%w, Hd⟩, #HP, ⟨#Hi, #Hl, #Hr, #Hb⟩, ⟨%W, HO⟩, ⟨Ht, Hts⟩, Htodo, Hdone, Hcs⟩ HQ
  unfold ptok
  rw [hx, hxd, hk]
  icases Ht with ⟨Ht2, Ht1⟩
  ihave Hs := (show (owns (c : Thread nD τ) src q v : sProp 𝕄) ⊢ iprop(∃ f, ⌜src.view.read (Elt F) f = v⌝ ∗ (src.view.loc (c : Thread nD τ) ↦[src.view.set]{q} f)) from .rfl) $$ Hs
  icases Hs with ⟨%f, %hf, Hs⟩
  ihave Hd := (show (owns (tgt c x : Thread nD τ) dst fullShare w : sProp 𝕄)
    ⊢ iprop(∃ f, ⌜dst.view.read (Elt F) f = w⌝ ∗ (dst.view.loc (tgt c x : Thread nD τ) ↦[dst.view.set]{fullShare} f)) from .rfl) $$ Hd
  icases Hd with ⟨%g, -, Hd⟩
  unfold run
  iapply (Rounds.wp_send_pointsTo 𝒱₀ ER (sched V) (c : Thread nD τ) none (c' := (tgt c x : Thread nD τ)) (src := src) (dst := dst)
      (sS := .dma d.num) (sem := .dma dk.num) (q := q) (fs := f) (fd := g) (κ₁ := K (cel c (.d d))) (κ₂ := K (cel (tgt c x) (.d dk)))
      (r₁ := 0) (r₂ := 0) (d₁ := 0) (d₂ := 0)
      (by show (0 : Fin 6) ∈ (sched V).duties (cel c (.d d)) 0; rw [duties_d]; exact Finset.mem_singleton_self _)
      (by show (0 : Fin 6) ∈ (sched V).duties (cel (tgt c x) (.d dk)) 0; rw [duties_d]; exact Finset.mem_singleton_self _)
      () () N hdst (amount_d V c d 0) (amount_d V (tgt c x) dk 0) (O₀ := owe c n) (owe c (n + 1))
      (by rw [owe_next hn, due, hxa, hk]; rfl) (W := W)
      (by
        rw [show (sched V).payload ((c : Thread nD τ), SemLoc.dma d.num) 0 0 = dmaPay V c d from payload_d V c d 0]
        refine .trans ?_ hp1
        rw [← hf]
        exact owns_intro _ _ _ _)
      (by
        rw [show (sched V).payload ((tgt c x : Thread nD τ), SemLoc.dma dk.num) 0 0 = dmaPay V (tgt c x) dk from payload_d V (tgt c x) dk 0]
        refine .trans ?_ hp2
        exact (owns_intro (tgt c x : Thread nD τ) dst fullShare _).trans (Entails.of_eq (by rw [View.read_write_univ, hf]))) ) $$ [Hs Hd HO Ht1 Ht2]
  · isplitr; · iapply (invs_at V K c (.d d)); iexact Hi
    isplitr; · iapply (invs_at V K (tgt c x) (.d dk)); iexact Hi
    isplitl [Hs]; · iexact Hs
    isplitl [Hd]; · iexact Hd
    isplitl [HO]; · iexact HO
    isplitl [Ht1]; · iexact Ht1
    isplitr; · iapply (reach_at c (.d d)); iexact Hr
    isplitl [Ht2]; · iexact Ht2
    iapply (Peers_tgt c x (.d dk)); iexact HP
  iintro ⟨Hc, HO⟩
  rw [wp_ret]
  imodintro
  iapply HQ
  isplitr; · iexact HP
  isplitr
  · isplitr; · iexact Hi
    isplitr; · iexact Hl
    isplitr; · iexact Hr
    iexact Hb
  isplitl [HO]; · iexists W; iexact HO
  isplitl [Hts]; · iexact Hts
  isplitl [Htodo]; · iexact Htodo
  isplitl [Hdone]; · iexact Hdone
  isplitl [Hc]; · iexact Hc
  iexact Hcs

/-- A wait on a transfer's semaphore. -/
theorem St_wait {c : Dev nD} {n m : ℕ} (dk : DK) {src dst : Memref sig .tc .vmem S128x1024 .bf16} {s1 : DmaSem sig} (h1 : s1 = dk.num)
    (hdst : dst.view.dmaCredit = N) {hs hd} (hm : word (.d dk) = m) (ha : avail c n (.d dk) = true)
    (hl : ∀ x, n ≤ ord c x → (CK.d dk).lv < x.kind.lv) :
    Step c (St V K c n m) (Prog.lift (.waitDma2 s1 src dst hs hd)) ⟨⟩ iprop(dmaPay V c dk ∗ St V K c n (m + 1)) := by
  subst h1
  unfold St
  refine Step.post (Step.right (G_wait (.d dk) (wpE_waitDma2_eq 𝒱₀ (c : Thread nD τ) none Set.univ) hdst hm ha hl)) ?_
  rw [rest_d]
  iintro ⟨H1, H2, H3⟩
  isplitl [H2]; · iexact H2
  isplitl [H1]; · iexact H1
  iexact H3

/-! ## The barrier and the way out -/

theorem kind_bar (x : PK) (i : Fin 6) (h : x = .bar i) : x.kind = .bar := by rw [h]; rfl

/-- What a device hands its peer `i` with the barrier's signal. -/
def barGive (c : Dev nD) (i : Fin 6) : sProp 𝕄 :=
  if i.val < 3 then bigSep Finset.univ fun t : Fin 4 => iprop(∃ v : Chunk F, slot6 c t (f3 i.val) v)
  else iprop(∃ v : Chunk F, slot7 c (f3 i.val) v)

theorem bar_peer : ∀ (c : Dev nD) (i : Fin 6), (if (rv i).val < 3 then pp (peer c i) (f3 (rv i).val) else zp (peer c i) (f3 (rv i).val)) = c := by decide +kernel
theorem rv_lt : ∀ i : Fin 6, ((rv i).val < 3) = (i.val < 3) := by decide
theorem rv_rev : ∀ i : Fin 6, (f3 (rv i).val).rev = f3 i.val := by decide

theorem barPay_intro (c : Dev nD) (i : Fin 6) : iprop(barGive c i ∗ reach c) ⊢ (barPay (peer c i) (rv i) : sProp 𝕄) := by
  have h := bar_peer c i
  unfold barPay barGive
  simp only [rv_lt, rv_rev] at h ⊢
  by_cases hi : i.val < 3
  · rw [if_pos hi] at h; rw [if_pos hi, if_pos hi, h]
  · rw [if_neg hi] at h; rw [if_neg hi, if_neg hi, h]

theorem barReach_at (c : Dev nD) (i : Fin 6) : (barReach c : sProp 𝕄) ⊢ reached ER (cel (peer c i) .bar) 0 := bigSep_elim (Finset.mem_univ i)

theorem G_barrier_signal {c : Dev nD} (i : Fin 6) {dev : Dev nD} (hdev : dev = peer c i) {s : Sem sig} (hs : s = barSem) :
    Step c iprop(barGive c i ∗ G V K c i.val 0) (semSignalWord dev s 1#32) ⟨⟩ (G V K c (i.val + 1) 0) := by
  subst hdev hs
  have := G_signal (V := V) (K := K) (c := c) (n := i.val) (m := 0) (.bar i) rfl rfl (s := barSem) rfl
    (by show _ ∈ (sched V).duties (cel _ .bar) 0; rw [duties_bar]; exact Finset.mem_univ _) (amount_bar V _ _) rfl
    (P := iprop(barGive c i ∗ reach c)) (R := iprop(emp)) (by rw [show (PK.bar i).kind = .bar from rfl, payload_bar]; exact barPay_intro c i)
    (by
      unfold fixed
      iintro ⟨-, -, -, -, H⟩
      iapply (barReach_at c i) $$ H)
  refine Step.pre ?_ (Step.post this ?_)
  · unfold G
    iintro ⟨H1, #H2, H3⟩
    isplitr; · iempintro
    isplitl [H1]
    · isplitl [H1]; · iexact H1
      unfold fixed; icases H2 with ⟨-, -, H, -⟩; iexact H
    isplitr; · iexact H2
    iexact H3
  · iintro ⟨-, H⟩; iexact H

theorem G_barrier_wait {c : Dev nD} {s : Sem sig} (hs : s = barSem) :
    Step c (G V K c 6 0) (semWaitWord s 6#32) ⟨⟩ iprop(bigSep Finset.univ (barPay c) ∗ G V K c 6 1) := by
  subst hs
  refine Step.post (G_wait (V := V) (K := K) (c := c) (n := 6) (m := 0) .bar (wpE_semWait_eq 𝒱₀ (c : Thread nD τ) none Set.univ) rfl rfl rfl
    (by revert c; decide +kernel)) ?_
  rw [rest_bar]

theorem St_exit_signal {c : Dev nD} (i : Fin 6) {n : ℕ} (hn : 41 + i.val = n) {dev : Dev nD} (hdev : dev = peer c i) {s : Sem sig} (hs : s = exitSem) {m : ℕ} :
    Step c (St V K c n m) (semSignalWord dev s 1#32) ⟨⟩ (St V K c (n + 1) m) := by
  subst hdev hs hn
  have := G_signal (V := V) (K := K) (c := c) (n := 41 + i.val) (m := m) (.exit i) rfl rfl (s := exitSem) rfl
    (by show _ ∈ (sched V).duties (cel _ .exit) 0; rw [duties_exit]; exact Finset.mem_univ _) (amount_exit V _ _) rfl
    (P := iprop(emp)) (R := Peers c) (by rw [show (PK.exit i).kind = .exit from rfl, payload_exit])
    (by iintro ⟨H, -⟩; iapply (Peers_tgt c (.exit i) .exit) $$ H)
  refine Step.pre ?_ (Step.post this ?_)
  · unfold St
    iintro ⟨H1, H2⟩
    isplitl [H1]; · iexact H1
    isplitr; · iempintro
    iexact H2
  · unfold St; exact .rfl

theorem St_exit_wait {c : Dev nD} {s : Sem sig} (hs : s = exitSem) :
    Step c (St V K c 47 61) (semWaitWord s 6#32) ⟨⟩ (St V K c 47 62) := by
  subst hs
  unfold St
  refine Step.post (Step.right (G_wait (V := V) (K := K) (c := c) (n := 47) (m := 61) .exit (wpE_semWait_eq 𝒱₀ (c : Thread nD τ) none Set.univ) rfl rfl rfl
    (by revert c; decide +kernel))) ?_
  iintro ⟨H1, -, H2⟩
  isplitl [H1]; · iexact H1
  iexact H2

end Cert.Attn
-- ==== Proof.Tiles.lean ====
/-
  The exchange buffer while the tiles are computed: the chunks still to be filled, the chunk just filled, the chunks that stay, and the
  peers' slots not used yet.
-/
module

public import proofs.«01_k».proof.Proof.Local
public import proofs.«01_k».proof.Proof.Sends
public import Mathlib.Tactic.ClearExcept

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Steps in a larger state -/

section Frame

variable {c : Dev nD} {α β : Type}

/-- One operation, on the second half of the state. -/
theorem op {A P P' Z : sProp 𝕄} {p : Prog (TpuEff nD τ sig (Elt F) Λ₀ .tc) β} {u : β} {k : β → Prog (TpuEff nD τ sig (Elt F) Λ₀ .tc) α} {w : α}
    (h : Step c P p u P') (hk : Step c iprop(A ∗ P') (k u) w Z) : Step c iprop(A ∗ P) (p >>= k) w Z := Step.bind (Step.right h) hk

/-- A value that the rest does not depend on. -/
theorem any {ι : Type} {A Z : sProp 𝕄} {B : ι → sProp 𝕄} {p : Prog (TpuEff nD τ sig (Elt F) Λ₀ .tc) α} {w : α}
    (h : ∀ v, Step c iprop(A ∗ B v) p w Z) : Step c iprop(A ∗ ∃ v, B v) p w Z := by
  intro Q
  iintro ⟨HA, %v, HB⟩ HQ
  iapply (h v _) $$ [HA HB]
  · isplitl [HA]; · iexact HA
    iexact HB
  iexact HQ

theorem swap {A B B' Z : sProp 𝕄} {p : Prog (TpuEff nD τ sig (Elt F) Λ₀ .tc) α} {w : α} (e : B ⊢ B')
    (h : Step c iprop(A ∗ B') p w Z) : Step c iprop(A ∗ B) p w Z := Step.pre (sep_mono_right e) h

theorem cond {A : sProp 𝕄} {Z : sProp 𝕄} {q : Prop} [Decidable q] {p : q → Prog (TpuEff nD τ sig (Elt F) Λ₀ .tc) α} {p' : ¬ q → Prog (TpuEff nD τ sig (Elt F) Λ₀ .tc) α} {w : α}
    (h : ∀ hq, Step c A (p hq) w Z) (h' : ∀ hq, Step c A (p' hq) w Z) : Step c A (dite q p p') w Z := by
  by_cases hq : q
  · rw [dif_pos hq]; exact h hq
  · rw [dif_neg hq]; exact h' hq

end Frame

/-! ## Sets of chunks, one apart -/

/-- What one member of a family holds, set apart and put back. -/
theorem apart {I : Type} [DecidableEq I] {s t : Finset I} {i : I} (h : s = insert i t) (hi : i ∉ t) (Φ : I → sProp 𝕄) :
    bigSep s Φ = iprop(Φ i ∗ bigSep t Φ) := by rw [h, bigSep_one hi]

/-! ## The tiles' exchange buffer -/

/-- The slot that device `c` fills at the device at position `j` of its plane. -/
def sl (c : Dev nD) (j : Fin 4) : Fin 3 := f3 ((c.val + 32 - j.val) % 4 + 2)
theorem sl_pn : ∀ (c : Dev nD) (j : Fin 4), pn c ≠ j → pn (pp c (sl c j).rev) = j := by decide +kernel

def ge (k : ℕ) : Finset (Dev nD) := Finset.univ.filter fun d => k ≤ d.val
def mine (c : Dev nD) (k : ℕ) : Finset (Dev nD) := Finset.univ.filter fun d => d.val < k ∧ pn d = pn c
def left (c : Dev nD) (k : ℕ) : Finset (Fin 4 × Fin 3) := Finset.univ.filter fun x => 6 + k ≤ ord c (.r1 x.1 x.2)

theorem ge_next (k : Dev nD) : ge k.val = insert k (ge (k.val + 1)) ∧ k ∉ ge (k.val + 1) := by
  simp only [ge]
  constructor
  · ext d; simp only [Finset.mem_filter, Finset.mem_univ, _root_.true_and, Finset.mem_insert, Fin.ext_iff]; omega
  · simp only [Finset.mem_filter, Finset.mem_univ, _root_.true_and]; omega
theorem mine_keep (c k : Dev nD) (h : pn c = pn k) : mine c (k.val + 1) = insert k (mine c k.val) ∧ k ∉ mine c k.val := by
  simp only [mine]
  constructor
  · ext d
    simp only [Finset.mem_filter, Finset.mem_univ, _root_.true_and, Finset.mem_insert]
    constructor
    · rintro ⟨h1, h2⟩
      rcases Nat.lt_or_ge d.val k.val with h3 | h3
      · exact .inr ⟨h3, h2⟩
      · exact .inl (Fin.ext (by omega))
    · rintro (rfl | ⟨h1, h2⟩)
      · exact ⟨by omega, h.symm⟩
      · exact ⟨by omega, h2⟩
  · simp only [Finset.mem_filter, Finset.mem_univ, _root_.true_and]; omega
theorem mine_sent (c k : Dev nD) (h : pn c ≠ pn k) : mine c (k.val + 1) = mine c k.val := by
  simp only [mine]
  ext d
  simp only [Finset.mem_filter, Finset.mem_univ, _root_.true_and]
  constructor
  · rintro ⟨h1, h2⟩
    refine ⟨?_, h2⟩
    rcases Nat.lt_or_ge d.val k.val with h3 | h3
    · exact h3
    · exact absurd (by rw [← h2]; congr 1; exact Fin.ext (by omega)) h
  · rintro ⟨h1, h2⟩; exact ⟨by omega, h2⟩

theorem ord_r1 : ∀ (c : Dev nD) (t j : Fin 4), pn c ≠ j → ord c (.r1 t (sl c j)) = 6 + (ck t j).val := by decide +kernel
theorem left_sent (c : Dev nD) (t j : Fin 4) (h : pn c ≠ j) :
    left c (ck t j).val = insert (t, sl c j) (left c ((ck t j).val + 1)) ∧ (t, sl c j) ∉ left c ((ck t j).val + 1) := by
  have ho := ord_r1 c t j h
  simp only [left]
  constructor
  · ext ⟨a, b⟩
    simp only [Finset.mem_filter, Finset.mem_univ, _root_.true_and, Finset.mem_insert]
    constructor
    · intro h1
      rcases Nat.lt_or_ge (6 + (ck t j).val) (ord c (.r1 a b)) with h2 | h2
      · exact .inr (by omega)
      · have := ord_inj c (.r1 a b) (.r1 t (sl c j)) (by omega)
        injection this with h3 h4
        exact .inl (by rw [h3, h4])
    · rintro (h1 | h1)
      · injection h1 with h3 h4; subst h3 h4; omega
      · omega
  · simp only [Finset.mem_filter, Finset.mem_univ, _root_.true_and]; omega
theorem no_r1 : ∀ (c : Dev nD) (t : Fin 4) (x : PK), ord c x ≠ 6 + (ck t (pn c)).val := by decide +kernel
theorem left_keep (c : Dev nD) (t : Fin 4) : left c (ck t (pn c)).val = left c ((ck t (pn c)).val + 1) := by
  simp only [left]
  ext ⟨a, b⟩
  simp only [Finset.mem_filter, Finset.mem_univ, _root_.true_and]
  have := no_r1 c t (.r1 a b); omega

variable (V : Vals F) (K : GSem nD τ sig → ℕ)

/-- Chunk `k` of device `c`, at contents not known. -/
def chunkAny (c k : Dev nD) : sProp 𝕄 := iprop(∃ v, chunk c k fullShare v)

/-- Before the chunk numbered `k` is filled. -/
def Mem1 (c : Dev nD) (k : ℕ) : sProp 𝕄 :=
  iprop(bigSep (ge k) (chunkAny c) ∗ bigSep (mine c k) (fun d => chunk c d fullShare (V.SB c d))
    ∗ bigSep (left c k) (fun x => iprop(∃ v : Chunk F, slot6 (pp c x.2.rev) x.1 x.2 v)))
/-- With chunk `k` filled by `v`. -/
def Mem1h (c k : Dev nD) (v : Chunk F) : sProp 𝕄 :=
  iprop(chunk c k fullShare v ∗ bigSep (ge (k.val + 1)) (chunkAny c) ∗ bigSep (mine c k.val) (fun d => chunk c d fullShare (V.SB c d))
    ∗ bigSep (left c k.val) (fun x => iprop(∃ v : Chunk F, slot6 (pp c x.2.rev) x.1 x.2 v)))

theorem Mem1_open (c k : Dev nD) : Mem1 V c k.val ⊢ iprop(∃ v, Mem1h V c k v) := by
  unfold Mem1 Mem1h
  rw [apart (ge_next k).1 (ge_next k).2]
  unfold chunkAny
  iintro ⟨⟨⟨%v, H1⟩, H2⟩, H3, H4⟩
  iexists v
  isplitl [H1]; · iexact H1
  isplitl [H2]; · iexact H2
  isplitl [H3]; · iexact H3
  iexact H4

theorem Mem1_close (c k : Dev nD) (v : Chunk F) : Mem1h V c k v ⊢ Mem1 V c k.val := by
  unfold Mem1 Mem1h
  rw [apart (ge_next k).1 (ge_next k).2]
  unfold chunkAny
  iintro ⟨H1, H2, H3, H4⟩
  isplitl [H1 H2]
  · isplitl [H1]; · iexists v; iexact H1
    iexact H2
  isplitl [H3]; · iexact H3
  iexact H4

variable {V K} {c : Dev nD} {α : Type}

/-- A load of the chunk to be filled; its value is not used. -/
theorem ld8 (k : Dev nD) (n : ℕ) (hn : n = k.val) {off : Fin 2 → ℕ} (ho : off = ![128 * k.val, 0]) {A R Z : sProp 𝕄} {inb} {hl}
    {kk : (S128x1024.Idx → Elt F .bf16) → Prog (TpuEff nD τ sig (Elt F) Λ₀ .tc) α} {w : α}
    (h : ∀ v, Step c iprop(A ∗ Mem1 V c n ∗ R) (kk v) w Z) :
    Step c iprop(A ∗ Mem1 V c n ∗ R) (Prog.lift (.load M8 (Rect.unit (s := S2048x1024) off S128x1024.size inb).toLoadRect hl) >>= kk) w Z := by
  subst hn ho
  refine swap (B' := iprop(∃ v, Mem1h V c k v ∗ R)) ?_ (any fun v => op (P' := iprop(Mem1h V c k v ∗ R)) (u := v) (Step.left ?_) (swap (sep_mono_left (Mem1_close V c k v)) (h v)))
  · iintro ⟨H1, H2⟩
    ihave H1 := (Mem1_open V c k) $$ H1
    icases H1 with ⟨%v, H1⟩
    iexists v
    isplitl [H1]; · iexact H1
    iexact H2
  · unfold Mem1h chunk
    exact Step.left (step_load_piece c M8 fullShare (chR k) (fun _ => rfl) v)

/-- The store that fills it. -/
theorem st8 (k : Dev nD) (n : ℕ) (hn : n = k.val) {off : Fin 2 → ℕ} (ho : off = ![128 * k.val, 0]) {A R Z : sProp 𝕄} {inb} {v : Chunk F} {hx hm}
    {kk : PUnit → Prog (TpuEff nD τ sig (Elt F) Λ₀ .tc) α} {w : α}
    (h : Step c iprop(A ∗ Mem1h V c k v ∗ R) (kk ⟨⟩) w Z) :
    Step c iprop(A ∗ Mem1 V c n ∗ R) (Prog.lift (.store M8 (Rect.unit (s := S2048x1024) off S128x1024.size inb) v Finset.univ hx hm) >>= kk) w Z := by
  subst hn ho
  refine swap (B' := iprop(∃ v, Mem1h V c k v ∗ R)) ?_ (any fun v' => op (P' := iprop(Mem1h V c k v ∗ R)) (u := ⟨⟩) (Step.left ?_) h)
  · iintro ⟨H1, H2⟩
    ihave H1 := (Mem1_open V c k) $$ H1
    icases H1 with ⟨%v, H1⟩
    iexists v
    isplitl [H1]; · iexact H1
    iexact H2
  · unfold Mem1h chunk
    exact Step.left (step_store_piece c M8 (chR k) (fun _ => rfl) v' v)

theorem M6s_credit (t : Fin 4) (s : Fin 3) : (M6s t s).view.dmaCredit = N := rfl
theorem M7s_credit (s : Fin 3) : (M7s s).view.dmaCredit = N := rfl

/-- The closed forms of one conditional send: when it is made, at which semaphores, to which slot, to which device. -/
def SendAt (t j : Fin 4) (cond : Dev nD → BitVec 1) (off : Dev nD → Fin 1 → ℕ) (off2 : Dev nD → Fin 4 → ℕ) (dev : Dev nD → ℕ) : Prop :=
  ∀ c : Dev nD, (cond c = 1#1 ↔ pn c ≠ j)
    ∧ (pn c ≠ j → off c = ![3 * t.val + (sl c j).val] ∧ off2 c = ![t.val, (sl c j).val, 0, 0] ∧ dev c = (pp c (sl c j).rev).val)

theorem sem11 : ∀ (t : Fin 4) (s : Fin 3) (inb : ∀ a, (![3 * t.val + s.val] : Fin 1 → ℕ) a + S1.size a ≤ S12.size a),
    ((cc0_scratch5.slice (Rect.unit (s := S12) ![3 * t.val + s.val] S1.size inb)).squeeze S_ squeezes_S1_S_).sem = (DK.S1 t s).num := by decide +kernel
theorem sem12 : ∀ (t : Fin 4) (s : Fin 3) (inb : ∀ a, (![3 * t.val + s.val] : Fin 1 → ℕ) a + S1.size a ≤ S12.size a),
    ((cc0_scratch6.slice (Rect.unit (s := S12) ![3 * t.val + s.val] S1.size inb)).squeeze S_ squeezes_S1_S_).sem = (DK.R1 t s).num := by decide +kernel

/-- A sent tile's copy. -/
theorem snd1 {t j : Fin 4} {cond : Dev nD → BitVec 1} {off : Dev nD → Fin 1 → ℕ} {off2 : Dev nD → Fin 4 → ℕ} {dev : Dev nD → ℕ}
    (hS : SendAt t j cond off off2 dev) (hc : cond c = 1#1) {v : Chunk F} (hv : v = V.SB c (ck t j))
    {off1 : Fin 2 → ℕ} {in1 : ∀ a, off1 a + S128x1024.size a ≤ S2048x1024.size a} (ho1 : off1 = ![128 * (ck t j).val, 0])
    {in2 : ∀ a, off2 c a + S1x1x128x1024.size a ≤ S4x3x128x1024.size a} {in3 in4 : ∀ a, off c a + S1.size a ≤ S12.size a} {hd : dev c < nD}
    {hsc} {hw1} {hw2} {hty} :
    Step c iprop(chunk c (ck t j) fullShare v ∗ (∃ w : Chunk F, slot6 (pp c (sl c j).rev) t (sl c j) w) ∗ St V K c (6 + (ck t j).val) 1)
      (Prog.lift (.enqueueDma (M8.slice (Rect.unit (s := S2048x1024) off1 S128x1024.size in1) (fun _ => rfl))
          (.remote (Dev.tc (⟨dev c, hd⟩ : Dev nD)) ((M6.slice (Rect.unit (s := S4x3x128x1024) (off2 c) S1x1x128x1024.size in2) (fun _ => rfl)).squeeze S128x1024 squeezes_S1x1x128x1024_S128x1024)
            (.dma ((cc0_scratch5.slice (Rect.unit (s := S12) (off c) S1.size in3)).squeeze S_ squeezes_S1_S_).sem) hsc)
          (.dma ((cc0_scratch6.slice (Rect.unit (s := S12) (off c) S1.size in4)).squeeze S_ squeezes_S1_S_).sem) hw1 hw2 hty)) ⟨⟩ (St V K c (6 + (ck t j).val + 1) 1) := by
  have hne := (hS c).1.mp hc
  obtain ⟨h1, h2, h3⟩ := (hS c).2 hne
  subst ho1 hv
  generalize off2 c = o2, dev c = dv, off c = os at *
  subst h1 h2 h3
  exact St_send_landing (V := V) (K := K) (c := c) (n := 6 + (ck t j).val) (m := 1) (.r1 t (sl c j)) (d := .S1 t (sl c j)) (dk := .R1 t (sl c j)) rfl rfl rfl rfl
    (src := chM (ck t j)) (dst := M6s t (sl c j)) (q := fullShare) (v := V.SB c (ck t j))
    (sem11 t (sl c j) _) (sem12 t (sl c j) _) rfl rfl (ord_r1 c t j hne) (by clear * - c t j; revert c t j; decide +kernel) (by rfl) (by
      show _ ⊢ iprop(slot6 _ t (sl c j) (V.SB (pp (pp c (sl c j).rev) (sl c j)) (ck t (pn (pp c (sl c j).rev)))) ∗ chunk (pp (pp c (sl c j).rev) (sl c j)) (ck t (pn (pp c (sl c j).rev))) fullShare (V.SB (pp (pp c (sl c j).rev) (sl c j)) (ck t (pn (pp c (sl c j).rev)))))
      rw [rev_pp, sl_pn c j hne]
      exact .rfl)

/-- The chunk's own device keeps it; another position's device gets it. -/
theorem snd (t j : Fin 4) (m : ℕ) (hm : m = (ck t j).val) {v : Chunk F} (hv : v = V.SB c (ck t j)) {q : Prop} [Decidable q] (hq : q ↔ pn c ≠ j)
    {p : q → Prog (TpuEff nD τ sig (Elt F) Λ₀ .tc) α} {A Z : sProp 𝕄} {w : α} {kb : Prog (TpuEff nD τ sig (Elt F) Λ₀ .tc) α}
    (hp : ∀ h, ∃ p₀ : Prog (TpuEff nD τ sig (Elt F) Λ₀ .tc) PUnit, p h = (p₀ >>= fun _ => kb) ∧
      Step c iprop(chunk c (ck t j) fullShare v ∗ (∃ w : Chunk F, slot6 (pp c (sl c j).rev) t (sl c j) w) ∗ St V K c (6 + (ck t j).val) 1)
        p₀ ⟨⟩ (St V K c (6 + (ck t j).val + 1) 1))
    (h : Step c iprop(A ∗ Mem1 V c (m + 1) ∗ St V K c (6 + m + 1) 1) kb w Z) :
    Step c iprop(A ∗ Mem1h V c (ck t j) v ∗ St V K c (6 + m) 1) (dite q p (fun _ => kb)) w Z := by
  subst hv hm
  have hpn : pn (ck t j) = j := by clear * - t j; revert t j; decide
  refine cond (fun hh => ?_) (fun hh => swap ?_ h)
  · have hne := hq.mp hh
    obtain ⟨p₀, he, hp⟩ := hp hh
    rw [he]
    refine op (P' := iprop(Mem1 V c ((ck t j).val + 1) ∗ St V K c (6 + (ck t j).val + 1) 1)) (u := ⟨⟩) ?_ h
    unfold Mem1h Mem1
    rw [apart (left_sent c t j hne).1 (left_sent c t j hne).2, mine_sent c (ck t j) (by rwa [hpn])]
    refine Step.pre ?_ (Step.post (Step.left (R := iprop(bigSep (ge ((ck t j).val + 1)) (chunkAny c) ∗ bigSep (mine c (ck t j).val) (fun d => chunk c d fullShare (V.SB c d))
        ∗ bigSep (left c ((ck t j).val + 1)) (fun x => iprop(∃ v : Chunk F, slot6 (pp c x.2.rev) x.1 x.2 v)))) hp) ?_)
    · iintro ⟨⟨H1, H2, H3, H4, H5⟩, H6⟩
      isplitl [H1 H4 H6]
      · isplitl [H1]; · iexact H1
        isplitl [H4]; · iexact H4
        iexact H6
      isplitl [H2]; · iexact H2
      isplitl [H3]; · iexact H3
      iexact H5
    · iintro ⟨H1, H2⟩
      isplitl [H2]; · iexact H2
      iexact H1
  · have : pn c = j := by by_contra hn; exact hh (hq.mpr hn)
    subst this
    rw [St_skip V K (no_r1 c t)]
    unfold Mem1h Mem1
    rw [← left_keep c t, (mine_keep c (ck t (pn c)) hpn.symm).1, bigSep_one (mine_keep c (ck t (pn c)) hpn.symm).2]
    iintro ⟨⟨H1, H2, H3, H4⟩, H5⟩
    isplitr [H5]
    · isplitl [H2]; · iexact H2
      isplitl [H1 H3]
      · isplitl [H1]; · iexact H1
        iexact H3
      iexact H4
    iexact H5

/-! ## The sends of the partial results -/

theorem send0 : SendAt 0 0 k0_cond1 k0_off1 k0_off2 k0_dev7 := by unfold SendAt; decide +kernel
theorem send1 : SendAt 0 1 k0_cond2 k0_off3 k0_off4 k0_dev8 := by unfold SendAt; decide +kernel
theorem send2 : SendAt 0 2 k0_cond3 k0_off5 k0_off6 k0_dev9 := by unfold SendAt; decide +kernel
theorem send3 : SendAt 0 3 k0_cond4 k0_off7 k0_off8 k0_dev10 := by unfold SendAt; decide +kernel
theorem send4 : SendAt 1 0 k0_cond5 k0_off9 k0_off10 k0_dev11 := by unfold SendAt; decide +kernel
theorem send5 : SendAt 1 1 k0_cond6 k0_off11 k0_off12 k0_dev12 := by unfold SendAt; decide +kernel
theorem send6 : SendAt 1 2 k0_cond7 k0_off13 k0_off14 k0_dev13 := by unfold SendAt; decide +kernel
theorem send7 : SendAt 1 3 k0_cond8 k0_off15 k0_off16 k0_dev14 := by unfold SendAt; decide +kernel
theorem send8 : SendAt 2 0 k0_cond9 k0_off17 k0_off18 k0_dev15 := by unfold SendAt; decide +kernel
theorem send9 : SendAt 2 1 k0_cond10 k0_off19 k0_off20 k0_dev16 := by unfold SendAt; decide +kernel
theorem send10 : SendAt 2 2 k0_cond11 k0_off21 k0_off22 k0_dev17 := by unfold SendAt; decide +kernel
theorem send11 : SendAt 2 3 k0_cond12 k0_off23 k0_off24 k0_dev18 := by unfold SendAt; decide +kernel
theorem send12 : SendAt 3 0 k0_cond13 k0_off25 k0_off26 k0_dev19 := by unfold SendAt; decide +kernel
theorem send13 : SendAt 3 1 k0_cond14 k0_off27 k0_off28 k0_dev20 := by unfold SendAt; decide +kernel
theorem send14 : SendAt 3 2 k0_cond15 k0_off29 k0_off30 k0_dev21 := by unfold SendAt; decide +kernel
theorem send15 : SendAt 3 3 k0_cond16 k0_off31 k0_off32 k0_dev22 := by unfold SendAt; decide +kernel

end Cert.Attn
-- ==== Proof.Waits.lean ====
/-
  The waits on the transfer semaphores, and a slot read at its printed shape.
-/
module

public import proofs.«01_k».proof.Proof.Tiles

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- How many payments precede a wait. -/
def DK.place : DK → ℕ
  | R1 _ _ => 22 | R2 _ => 26 | S1 _ _ => 26 | S2 _ => 26 | Ra _ => 29 | Rb _ _ => 41 | Sa _ => 41 | Sb _ _ => 41

theorem wait_ok : ∀ (k : DK) (c : Dev nD), avail c k.place (.d k) = true ∧ ∀ x, k.place ≤ ord c x → (CK.d k).lv < x.kind.lv := by decide +kernel

/-- What the waits of a family before the wait `m` returned. -/
def got {I : Type} [Fintype I] (V : Vals F) (f : I → DK) (c : Dev nD) (m : ℕ) : sProp 𝕄 :=
  bigSep (Finset.univ.filter fun i => word (.d (f i)) < m) (fun i => dmaPay V c (f i))

section

variable {I : Type} [Fintype I] [DecidableEq I] (V : Vals F) (f : I → DK) (c : Dev nD)

theorem got_next (hf : Function.Injective f) (i : I) : got V f c (word (.d (f i)) + 1) = iprop(dmaPay V c (f i) ∗ got V f c (word (.d (f i)))) := by
  unfold got
  rw [← bigSep_one (s := Finset.univ.filter fun j => word (.d (f j)) < word (.d (f i))) (i := i) (by simp) (fun i => dmaPay V c (f i))]
  · congr 1
    ext j
    simp only [Finset.mem_filter, Finset.mem_univ, _root_.true_and, Finset.mem_insert]
    constructor
    · intro h
      rcases Nat.lt_or_ge (word (.d (f j))) (word (.d (f i))) with h1 | h1
      · exact .inr h1
      · have := word_inj _ _ (show word (.d (f j)) = word (.d (f i)) by omega)
        injection this with h2
        exact .inl (hf h2)
    · rintro (rfl | h)
      · omega
      · omega
theorem got_zero (m : ℕ) (h : ∀ i, m ≤ word (.d (f i))) : got V f c m = iprop(emp) := by
  unfold got
  rw [Finset.filter_false_of_mem fun i _ => Nat.not_lt.mpr (h i), bigSep_empty]
  rfl
theorem got_all (m : ℕ) (h : ∀ i, word (.d (f i)) < m) : got V f c m = bigSep Finset.univ (fun i => dmaPay V c (f i)) := by
  unfold got
  rw [Finset.filter_true_of_mem fun i _ => h i]

variable {V f c} {K : GSem nD τ sig → ℕ}

/-- One wait of a family. -/
theorem wt (hf : Function.Injective f) (i : I) (n m : ℕ) (hn : n = (f i).place) (hm : word (.d (f i)) = m) {α : Type} {A R Z : sProp 𝕄}
    {src dst : Memref sig .tc .vmem S128x1024 .bf16} {s1 : DmaSem sig} (h1 : s1 = (f i).num) (hdst : dst.view.dmaCredit = N) {hs hd}
    {kk : PUnit → Prog (TpuEff nD τ sig (Elt F) Λ₀ .tc) α} {w : α}
    (h : Step c iprop(A ∗ R ∗ got V f c (m + 1) ∗ St V K c n (m + 1)) (kk ⟨⟩) w Z) :
    Step c iprop(A ∗ R ∗ got V f c m ∗ St V K c n m) (Prog.lift (.waitDma2 s1 src dst hs hd) >>= kk) w Z := by
  subst hn hm
  refine op (P' := iprop(R ∗ got V f c (word (.d (f i)) + 1) ∗ St V K c (f i).place (word (.d (f i)) + 1))) (u := ⟨⟩) (Step.right ?_) h
  rw [got_next V f c hf i]
  refine Step.post (Step.right (St_wait (f i) h1 hdst rfl (wait_ok _ c).1 (wait_ok _ c).2)) ?_
  iintro ⟨H1, H2, H3⟩
  isplitl [H1 H2]
  · isplitl [H2]; · iexact H2
    iexact H1
  iexact H3

end

/-! ## A slot at the shape of its load -/

theorem owns_unsqueeze (c : Dev nD) {s s' : Shape} {e : EltTy} (m : Memref sig .tc .vmem s e) (h : s.Squeezes s') (q : PosShare TreeShare) (X : s'.Idx → Elt F e) :
    (owns (c : Thread nD τ) (m.squeeze s' h) q X : sProp 𝕄) = owns (c : Thread nD τ) m q (fun i => X ((Shape.reshapeEquiv h.numel_eq).symm i)) := by
  unfold owns
  have hs : (m.squeeze s' h).view.set = m.view.set := View.set_reshape (v := m.view) h.numel_eq
  have hr : ∀ f, ((m.squeeze s' h).view.read (Elt F) f = X) = (m.view.read (Elt F) f = fun i => X ((Shape.reshapeEquiv h.numel_eq).symm i)) := by
    intro f
    apply propext
    have : ∀ i, (m.squeeze s' h).view.read (Elt F) f i = m.view.read (Elt F) f (Shape.reshapeEquiv h.numel_eq i) := fun i => rfl
    constructor
    · intro hf; funext i; rw [← hf, this, Equiv.apply_symm_apply]
    · intro hf; funext i; rw [this, hf]; exact congrArg X (Equiv.symm_apply_apply _ i)
  simp only [hr]
  rw [hs]

end Cert.Attn
-- ==== Proof.Parts.lean ====
/-
  The four tiles: what each printed part of the body returns and leaves, from the attention of a tile's eight heads to the copies of its
  four chunks.
-/
module

public import proofs.«01_k».proof.Proof.Tiles

@[expose] public section

set_option maxHeartbeats 1000000

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Local

variable {F : FTy → Type} [FloatOps F]

local notation "𝕄" => MT nD τ sig Unit (Elt F) ℕ UU ℕ

/-- What device `c` sends of tile `t`, its output being `o`. -/
def Sent (V : Vals F) (c : Dev nD) (o : Out F) (t : Fin 4) : Prop := ∀ j, k0_pay20 (sub o (chR (ck t j))) = V.SB c (ck t j)

attribute [local irreducible] k0_cond1 k0_cond2 k0_cond3 k0_cond4 k0_cond5 k0_cond6 k0_cond7 k0_cond8 k0_cond9 k0_cond10 k0_cond11 k0_cond12 k0_cond13 k0_cond14 k0_cond15 k0_cond16

variable (V : Vals F) (K : GSem nD τ sig → ℕ) (c : Dev nD) (X : Ins F) (o : Out F) (x : Ctx F) (S : sProp (MT nD τ sig Unit (Elt F) ℕ UU ℕ))

@[reducible] def part3 (v50 : IVec S512x512 32) (c64_i32 : BitVec 32) (v52 : IVec S512x512 32) (v59 : IVec S512x512 32) (v64 : BitVec 32)  :
    Sem c X o x S (on (k0_part3 (F := F)) v50 c64_i32 v52 v59 v64) := by
  apply Sem.mk; rw [k0_part3_eq_skeleton]
  exact ld0 <| ld1 <| ld2 <| Step.ret _

@[reducible] def part4 (v100 : IVec S512x512 1) (v106 : FVec F S512x1024 .bf16) (v107 : FVec F S512x128 .bf16) (v108 : Vec F S512x128 .bf16)  :
    Sem c X o x S (on (k0_part4 (F := F)) v100 v106 v107 v108) := by
  apply Sem.mk; rw [k0_part4_eq_skeleton]
  exact ld3 <| ld10 <| st10 <| ld2 <| ld3 <| Step.ret _

@[reducible] def part5 (v100 : IVec S512x512 1) (v106 : FVec F S512x1024 .bf16) (v147 : FVec F S512x128 .bf16)  :
    Sem c X o x S (on (k0_part5 (F := F)) v100 v106 v147) := by
  apply Sem.mk; rw [k0_part5_eq_skeleton]
  exact ld10 <| st10 <| ld2 <| ld3 <| ld10 <| st10 <| ld2 <| ld3 <| Step.ret _

@[reducible] def part6 (v100 : IVec S512x512 1) (v106 : FVec F S512x1024 .bf16) (v181 : FVec F S512x512 .f32) (v183 : FVec F S512x128 .f32)  :
    Sem c X o x S (on (k0_part6 (F := F)) v100 v106 v181 v183) := by
  apply Sem.mk; rw [k0_part6_eq_skeleton]
  exact ld10 <| st10 <| ld2 <| ld3 <| ld10 <| st10 <| ld2 <| Step.ret _

@[reducible] def part7 (v100 : IVec S512x512 1) (v106 : FVec F S512x1024 .bf16) (v220 : FVec F S512x512 .f32) (v221 : FVec F S512x512 .f32)  :
    Sem c X o x S (on (k0_part7 (F := F)) v100 v106 v220 v221) := by
  apply Sem.mk; rw [k0_part7_eq_skeleton]
  exact ld3 <| ld10 <| st10 <| ld2 <| ld3 <| ld10 <| Step.ret _

@[reducible] def part8 (v100 : IVec S512x512 1) (v106 : FVec F S512x1024 .bf16) (v260 : FVec F S512x128 .bf16)  :
    Sem c X o x iprop(Mem1 V c 0 ∗ S) (on (k0_part8 (F := F)) v100 v106 v260) := by
  apply Sem.mk; rw [k0_part8_eq_skeleton]
  exact st10 <| ld2 <| ld3 <| ld10 <| st10 <| ld10 <| ld4 <| ld5 <| st5 <| ld5 <| ld8 (ck 0 0) 0 rfl rfl fun _ => st8 (ck 0 0) 0 rfl rfl <| Step.ret _

@[reducible] def part9 (v2 : BitVec 32) (v21 : BitVec 32) (v : Chunk F) (hv : v = V.SB c (ck 0 0)) (hs : Sent V c o 0) :
    Sem c X o x iprop(Mem1h V c (ck 0 0) v ∗ St V K c 6 1) (on (k0_part9 (F := F)) c v2 v21) := by
  apply Sem.mk; rw [k0_part9_eq_skeleton]
  exact
    snd 0 0 0 rfl hv (send0 c).1 (fun h => ⟨_, rfl, snd1 send0 h hv rfl⟩) <|
    ld5 <| ld8 (ck 0 1) 1 rfl rfl fun _ => st8 (ck 0 1) 1 rfl rfl <|
    snd 0 1 1 rfl (hs 1) (send1 c).1 (fun h => ⟨_, rfl, snd1 send1 h (hs 1) rfl⟩) <|
    ld5 <| Step.ret _

@[reducible] def part10 (v2 : BitVec 32) (v21 : BitVec 32) (v322 : Vec F S128x1024 .f32) (hv : k0_pay22 v322 = V.SB c (ck 0 2)) (hs : Sent V c o 0) :
    Sem c X o x iprop(Mem1 V c 2 ∗ St V K c 8 1) (on (k0_part10 (F := F)) c v2 v21 v322) := by
  apply Sem.mk; rw [k0_part10_eq_skeleton]
  exact ld8 (ck 0 2) 2 rfl rfl fun _ => st8 (ck 0 2) 2 rfl rfl <|
    snd 0 2 2 rfl hv (send2 c).1 (fun h => ⟨_, rfl, snd1 send2 h hv rfl⟩) <|
    ld5 <| ld8 (ck 0 3) 3 rfl rfl fun _ => st8 (ck 0 3) 3 rfl rfl <| Step.ret _

@[reducible] def part11 (v100 : IVec S512x512 1) (v351 : BitVec 32) (v353 : BitVec 1) (v : Chunk F) (hv : v = V.SB c (ck 0 3)) :
    Sem c X o x iprop(Mem1h V c (ck 0 3) v ∗ St V K c 9 1) (on (k0_part11 (F := F)) c v100 v351 v353) := by
  apply Sem.mk; rw [k0_part11_eq_skeleton]
  exact
    snd 0 3 3 rfl hv (send3 c).1 (fun h => ⟨_, rfl, snd1 send3 h hv rfl⟩) <|
    ld0 <| ld1 <| ld2 <| ld3 <| ld2 <| ld3 <| Step.ret _

@[reducible] def part12 (v100 : IVec S512x512 1) (v361 : FVec F S512x1024 .bf16) (v383 : FVec F S512x1 .f32) (v388 : FVec F S512x128 .f32)  :
    Sem c X o x S (on (k0_part12 (F := F)) v100 v361 v383 v388) := by
  apply Sem.mk; rw [k0_part12_eq_skeleton]
  exact ld10 <| st10 <| ld2 <| ld3 <| ld2 <| ld3 <| Step.ret _

@[reducible] def part13 (v100 : IVec S512x512 1) (v361 : FVec F S512x1024 .bf16) (v423 : FVec F S512x128 .f32) (v426 : FVec F S512x128 .f32)  :
    Sem c X o x S (on (k0_part13 (F := F)) v100 v361 v423 v426) := by
  apply Sem.mk; rw [k0_part13_eq_skeleton]
  exact ld10 <| st10 <| ld2 <| ld3 <| ld2 <| ld3 <| Step.ret _

@[reducible] def part14 (v100 : IVec S512x512 1) (v361 : FVec F S512x1024 .bf16) (v463 : FVec F S512x128 .bf16)  :
    Sem c X o x S (on (k0_part14 (F := F)) v100 v361 v463) := by
  apply Sem.mk; rw [k0_part14_eq_skeleton]
  exact ld10 <| st10 <| ld2 <| ld3 <| ld2 <| ld3 <| ld10 <| st10 <| Step.ret _

@[reducible] def part15 (v100 : IVec S512x512 1) (v361 : FVec F S512x1024 .bf16)  :
    Sem c X o x S (on (k0_part15 (F := F)) v100 v361) := by
  apply Sem.mk; rw [k0_part15_eq_skeleton]
  exact ld2 <| ld3 <| ld2 <| ld3 <| ld10 <| st10 <| ld2 <| Step.ret _

@[reducible] def part16 (v100 : IVec S512x512 1) (v361 : FVec F S512x1024 .bf16) (v537 : FVec F S512x128 .bf16) (v538 : Vec F S512x128 .bf16)  :
    Sem c X o x S (on (k0_part16 (F := F)) v100 v361 v537 v538) := by
  apply Sem.mk; rw [k0_part16_eq_skeleton]
  exact ld3 <| ld2 <| ld3 <| ld10 <| st10 <| ld2 <| Step.ret _

@[reducible] def part17 (v100 : IVec S512x512 1) (v361 : FVec F S512x1024 .bf16) (v572 : FVec F S512x128 .bf16) (v575 : FVec F S512x512 .f32) (cst_331 : F .f32)  :
    Sem c X o x S (on (k0_part17 (F := F)) v100 v361 v572 v575 cst_331) := by
  apply Sem.mk; rw [k0_part17_eq_skeleton]
  exact ld3 <| ld2 <| ld3 <| ld10 <| st10 <| ld2 <| Step.ret _

@[reducible] def part18 (v100 : IVec S512x512 1) (v607 : FVec F S512x128 .bf16) (v613 : FVec F S512x512 .f32) (cst_352 : F .f32)  :
    Sem c X o x S (on (k0_part18 (F := F)) v100 v607 v613 cst_352) := by
  apply Sem.mk; rw [k0_part18_eq_skeleton]
  exact ld3 <| ld2 <| ld3 <| ld10 <| st10 <| ld10 <| ld4 <| ld5 <| st5 <| ld5 <| Step.ret _

@[reducible] def part19 (v2 : BitVec 32) (v21 : BitVec 32) (v647 : Vec F S128x1024 .f32) (hv : k0_pay50 v647 = V.SB c (ck 1 0)) (hs : Sent V c o 1) :
    Sem c X o x iprop(Mem1 V c 4 ∗ St V K c 10 1) (on (k0_part19 (F := F)) c v2 v21 v647) := by
  apply Sem.mk; rw [k0_part19_eq_skeleton]
  exact ld8 (ck 1 0) 4 rfl rfl fun _ => st8 (ck 1 0) 4 rfl rfl <|
    snd 1 0 4 rfl hv (send4 c).1 (fun h => ⟨_, rfl, snd1 send4 h hv rfl⟩) <|
    ld5 <| ld8 (ck 1 1) 5 rfl rfl fun _ => st8 (ck 1 1) 5 rfl rfl <| Step.ret _

@[reducible] def part20 (v2 : BitVec 32) (v21 : BitVec 32) (v676 : BitVec 32) (v678 : BitVec 1) (v : Chunk F) (hv : v = V.SB c (ck 1 1)) (hs : Sent V c o 1) :
    Sem c X o x iprop(Mem1h V c (ck 1 1) v ∗ St V K c 11 1) (on (k0_part20 (F := F)) c v2 v21 v676 v678) := by
  apply Sem.mk; rw [k0_part20_eq_skeleton]
  exact
    snd 1 1 5 rfl hv (send5 c).1 (fun h => ⟨_, rfl, snd1 send5 h hv rfl⟩) <|
    ld5 <| ld8 (ck 1 2) 6 rfl rfl fun _ => st8 (ck 1 2) 6 rfl rfl <|
    snd 1 2 6 rfl (hs 2) (send6 c).1 (fun h => ⟨_, rfl, snd1 send6 h (hs 2) rfl⟩) <|
    ld5 <| ld8 (ck 1 3) 7 rfl rfl fun _ => st8 (ck 1 3) 7 rfl rfl <| Step.ret _

@[reducible] def part21 (v2 : BitVec 32) (v21 : BitVec 32) (v100 : IVec S512x512 1) (v708 : BitVec 32) (v : Chunk F) (hv : v = V.SB c (ck 1 3)) :
    Sem c X o x iprop(Mem1h V c (ck 1 3) v ∗ St V K c 13 1) (on (k0_part21 (F := F)) c v2 v21 v100 v708) := by
  apply Sem.mk; rw [k0_part21_eq_skeleton]
  exact
    snd 1 3 7 rfl hv (send7 c).1 (fun h => ⟨_, rfl, snd1 send7 h hv rfl⟩) <|
    ld0 <| ld1 <| ld2 <| ld3 <| ld2 <| Step.ret _

@[reducible] def part22 (v100 : IVec S512x512 1) (v720 : FVec F S512x1024 .bf16) (v729 : FVec F S512x512 .f32) (v731 : FVec F S512x128 .f32) (v737 : FVec F S512x1024 .f32) (v742 : FVec F S512x1 .f32)  :
    Sem c X o x S (on (k0_part22 (F := F)) v100 v720 v729 v731 v737 v742) := by
  apply Sem.mk; rw [k0_part22_eq_skeleton]
  exact ld3 <| ld10 <| st10 <| ld2 <| ld3 <| ld2 <| ld3 <| Step.ret _

@[reducible] def part23 (v100 : IVec S512x512 1) (v720 : FVec F S512x1024 .bf16) (v764 : FVec F S512x512 .f32) (v766 : FVec F S512x128 .f32) (v772 : FVec F S512x1024 .f32) (v777 : FVec F S512x1 .f32) (v779 : FVec F S1024x128 .f32) (cst_472 : FVec F S512x128 .f32)  :
    Sem c X o x S (on (k0_part23 (F := F)) v100 v720 v764 v766 v772 v777 v779 cst_472) := by
  apply Sem.mk; rw [k0_part23_eq_skeleton]
  exact ld10 <| st10 <| ld2 <| ld3 <| ld2 <| ld3 <| Step.ret _

@[reducible] def part24 (v100 : IVec S512x512 1) (v720 : FVec F S512x1024 .bf16) (v812 : FVec F S512x1 .f32) (v817 : FVec F S512x128 .f32)  :
    Sem c X o x S (on (k0_part24 (F := F)) v100 v720 v812 v817) := by
  apply Sem.mk; rw [k0_part24_eq_skeleton]
  exact ld10 <| st10 <| ld2 <| ld3 <| ld2 <| ld3 <| Step.ret _

@[reducible] def part25 (v100 : IVec S512x512 1) (v720 : FVec F S512x1024 .bf16) (v852 : FVec F S512x128 .f32) (v855 : FVec F S512x128 .f32)  :
    Sem c X o x S (on (k0_part25 (F := F)) v100 v720 v852 v855) := by
  apply Sem.mk; rw [k0_part25_eq_skeleton]
  exact ld10 <| st10 <| ld2 <| ld3 <| ld2 <| ld3 <| Step.ret _

@[reducible] def part26 (v100 : IVec S512x512 1) (v720 : FVec F S512x1024 .bf16) (v892 : FVec F S512x128 .bf16)  :
    Sem c X o x S (on (k0_part26 (F := F)) v100 v720 v892) := by
  apply Sem.mk; rw [k0_part26_eq_skeleton]
  exact ld10 <| st10 <| ld2 <| ld3 <| ld2 <| ld3 <| ld10 <| st10 <| Step.ret _

@[reducible] def part27 (v100 : IVec S512x512 1) (v720 : FVec F S512x1024 .bf16)  :
    Sem c X o x S (on (k0_part27 (F := F)) v100 v720) := by
  apply Sem.mk; rw [k0_part27_eq_skeleton]
  exact ld2 <| ld3 <| ld2 <| ld3 <| ld10 <| st10 <| ld2 <| Step.ret _

@[reducible] def part28 (v100 : IVec S512x512 1) (v966 : FVec F S512x128 .bf16) (v967 : Vec F S512x128 .bf16)  :
    Sem c X o x S (on (k0_part28 (F := F)) v100 v966 v967) := by
  apply Sem.mk; rw [k0_part28_eq_skeleton]
  exact ld3 <| ld2 <| ld3 <| ld10 <| st10 <| ld10 <| ld4 <| Step.ret _

@[reducible] def part29 (v2 : BitVec 32) (v21 : BitVec 32) (v1001 : Vec F S512x1024 .bf16) (v1003 : FVec F S1024x1024 .bf16) (cst_601 : FVec F S512x1024 .f32) (hs : Sent V c ((Rect.unit (s := S2048x1024) ![1024, 0] S512x1024.size inb_S2048x1024_S512x1024_1024_0).overlay o (k0_pay87 v1001 v1003 cst_601)) 2) :
    Sem c X o x iprop(Mem1 V c 8 ∗ St V K c 14 1) (on (k0_part29 (F := F)) c v2 v21 v1001 v1003 cst_601) := by
  apply Sem.mk; rw [k0_part29_eq_skeleton]
  exact ld5 <| st5 <| ld5 <| ld8 (ck 2 0) 8 rfl rfl fun _ => st8 (ck 2 0) 8 rfl rfl <|
    snd 2 0 8 rfl (hs 0) (send8 c).1 (fun h => ⟨_, rfl, snd1 send8 h (hs 0) rfl⟩) <|
    ld5 <| ld8 (ck 2 1) 9 rfl rfl fun _ => st8 (ck 2 1) 9 rfl rfl <| Step.ret _

@[reducible] def part30 (v2 : BitVec 32) (v21 : BitVec 32) (v1033 : BitVec 32) (v : Chunk F) (hv : v = V.SB c (ck 2 1)) (hs : Sent V c o 2) :
    Sem c X o x iprop(Mem1h V c (ck 2 1) v ∗ St V K c 15 1) (on (k0_part30 (F := F)) c v2 v21 v1033) := by
  apply Sem.mk; rw [k0_part30_eq_skeleton]
  exact
    snd 2 1 9 rfl hv (send9 c).1 (fun h => ⟨_, rfl, snd1 send9 h hv rfl⟩) <|
    ld5 <| ld8 (ck 2 2) 10 rfl rfl fun _ => st8 (ck 2 2) 10 rfl rfl <|
    snd 2 2 10 rfl (hs 2) (send10 c).1 (fun h => ⟨_, rfl, snd1 send10 h (hs 2) rfl⟩) <|
    ld5 <| ld8 (ck 2 3) 11 rfl rfl fun _ => st8 (ck 2 3) 11 rfl rfl <| Step.ret _

@[reducible] def part31 (v2 : BitVec 32) (v21 : BitVec 32) (v100 : IVec S512x512 1) (v1063 : BitVec 32) (v : Chunk F) (hv : v = V.SB c (ck 2 3)) :
    Sem c X o x iprop(Mem1h V c (ck 2 3) v ∗ St V K c 17 1) (on (k0_part31 (F := F)) c v2 v21 v100 v1063) := by
  apply Sem.mk; rw [k0_part31_eq_skeleton]
  exact
    snd 2 3 11 rfl hv (send11 c).1 (fun h => ⟨_, rfl, snd1 send11 h hv rfl⟩) <|
    ld0 <| ld1 <| ld2 <| ld3 <| ld2 <| Step.ret _

@[reducible] def part32 (v100 : IVec S512x512 1) (v1079 : FVec F S512x1024 .bf16) (v1088 : FVec F S512x512 .f32) (v1090 : FVec F S512x128 .f32) (v1096 : FVec F S512x1536 .f32)  :
    Sem c X o x S (on (k0_part32 (F := F)) v100 v1079 v1088 v1090 v1096) := by
  apply Sem.mk; rw [k0_part32_eq_skeleton]
  exact ld3 <| ld10 <| st10 <| ld2 <| ld3 <| ld2 <| Step.ret _

@[reducible] def part33 (v100 : IVec S512x512 1) (v1079 : FVec F S512x1024 .bf16) (v1123 : FVec F S512x512 .f32) (v1125 : FVec F S512x128 .f32) (v1131 : FVec F S512x1536 .f32) (v1133 : FVec F S512x1 .f32)  :
    Sem c X o x S (on (k0_part33 (F := F)) v100 v1079 v1123 v1125 v1131 v1133) := by
  apply Sem.mk; rw [k0_part33_eq_skeleton]
  exact ld3 <| ld10 <| st10 <| ld2 <| ld3 <| ld2 <| Step.ret _

@[reducible] def part34 (v100 : IVec S512x512 1) (v1079 : FVec F S512x1024 .bf16) (v1158 : FVec F S512x512 .f32) (v1160 : FVec F S512x128 .f32) (v1166 : FVec F S512x1536 .f32) (v1171 : FVec F S512x1 .f32)  :
    Sem c X o x S (on (k0_part34 (F := F)) v100 v1079 v1158 v1160 v1166 v1171) := by
  apply Sem.mk; rw [k0_part34_eq_skeleton]
  exact ld3 <| ld10 <| st10 <| ld2 <| ld3 <| ld2 <| ld3 <| Step.ret _

@[reducible] def part35 (v100 : IVec S512x512 1) (v1079 : FVec F S512x1024 .bf16) (v1193 : FVec F S512x512 .f32) (v1195 : FVec F S512x128 .f32) (v1201 : FVec F S512x1536 .f32) (v1206 : FVec F S512x1 .f32) (v1208 : FVec F S1536x128 .f32) (cst_737 : FVec F S512x128 .f32)  :
    Sem c X o x S (on (k0_part35 (F := F)) v100 v1079 v1193 v1195 v1201 v1206 v1208 cst_737) := by
  apply Sem.mk; rw [k0_part35_eq_skeleton]
  exact ld10 <| st10 <| ld2 <| ld3 <| ld2 <| ld3 <| Step.ret _

@[reducible] def part36 (v100 : IVec S512x512 1) (v1079 : FVec F S512x1024 .bf16) (v1241 : FVec F S512x1 .f32) (v1246 : FVec F S512x128 .f32)  :
    Sem c X o x S (on (k0_part36 (F := F)) v100 v1079 v1241 v1246) := by
  apply Sem.mk; rw [k0_part36_eq_skeleton]
  exact ld10 <| st10 <| ld2 <| ld3 <| ld2 <| ld3 <| Step.ret _

@[reducible] def part37 (v100 : IVec S512x512 1) (v1079 : FVec F S512x1024 .bf16) (v1281 : FVec F S512x128 .f32) (v1284 : FVec F S512x128 .f32)  :
    Sem c X o x S (on (k0_part37 (F := F)) v100 v1079 v1281 v1284) := by
  apply Sem.mk; rw [k0_part37_eq_skeleton]
  exact ld10 <| st10 <| ld2 <| ld3 <| ld2 <| ld3 <| Step.ret _

@[reducible] def part38 (v100 : IVec S512x512 1) (v1079 : FVec F S512x1024 .bf16) (v1321 : FVec F S512x128 .bf16)  :
    Sem c X o x S (on (k0_part38 (F := F)) v100 v1079 v1321) := by
  apply Sem.mk; rw [k0_part38_eq_skeleton]
  exact ld10 <| st10 <| ld2 <| ld3 <| ld2 <| ld3 <| ld10 <| st10 <| Step.ret _

@[reducible] def part39 (v2 : BitVec 32) (v21 : BitVec 32) (hs : Sent V c ((Rect.unit (s := S2048x1024) ![1536, 0] S512x1024.size inb_S2048x1024_S512x1024_1536_0).overlay o
      (k0_pay132 (sub x (Rect.unit (s := S512x1024) ![0, 0] S512x1024.size inb_S512x1024_S512x1024_0_0))
        (sub X.x4 (Rect.unit (s := S1024x1024) ![0, 0] S1024x1024.size inb_S1024x1024_S1024x1024_0_0)))) 3) :
    Sem c X o x iprop(Mem1 V c 12 ∗ St V K c 18 1) (on (k0_part39 (F := F)) c v2 v21) := by
  apply Sem.mk; rw [k0_part39_eq_skeleton]
  exact ld10 <| ld4 <| ld5 <| st5 <| ld5 <| ld8 (ck 3 0) 12 rfl rfl fun _ => st8 (ck 3 0) 12 rfl rfl <|
    snd 3 0 12 rfl (hs 0) (send12 c).1 (fun h => ⟨_, rfl, snd1 send12 h (hs 0) rfl⟩) <|
    ld5 <| ld8 (ck 3 1) 13 rfl rfl fun _ => st8 (ck 3 1) 13 rfl rfl <| Step.ret _

@[reducible] def part40 (v2 : BitVec 32) (v21 : BitVec 32) (v1388 : BitVec 32) (v : Chunk F) (hv : v = V.SB c (ck 3 1)) (hs : Sent V c o 3) :
    Sem c X o x iprop(Mem1h V c (ck 3 1) v ∗ St V K c 19 1) (on (k0_part40 (F := F)) c v2 v21 v1388) := by
  apply Sem.mk; rw [k0_part40_eq_skeleton]
  exact
    snd 3 1 13 rfl hv (send13 c).1 (fun h => ⟨_, rfl, snd1 send13 h hv rfl⟩) <|
    ld5 <| ld8 (ck 3 2) 14 rfl rfl fun _ => st8 (ck 3 2) 14 rfl rfl <|
    snd 3 2 14 rfl (hs 2) (send14 c).1 (fun h => ⟨_, rfl, snd1 send14 h (hs 2) rfl⟩) <|
    ld5 <| Step.ret _

end Cert.Attn
-- ==== Proof.Reduce.lean ====
/-
  The reduction: in the plane a device adds the three received chunks to its own, tile by tile, keeps the sum of its own position and
  sends the other three across the planes; then it adds the three received from the other planes.
-/
module

public import proofs.«01_k».proof.Proof.Waits
public import proofs.«01_k».proof.Proof.Parts

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## What is held -/

/-- A slot's contents at the shape its load prints. -/
def un6 (v : Chunk F) : Vec F S1x1x128x1024 .bf16 := fun i => v ((Shape.reshapeEquiv squeezes_S1x1x128x1024_S128x1024.numel_eq).symm i)
def un7 (v : Chunk F) : Vec F S1x128x1024 .bf16 := fun i => v ((Shape.reshapeEquiv squeezes_S1x128x1024_S128x1024.numel_eq).symm i)

variable (V : Vals F) (K : GSem nD τ sig → ℕ)

@[reducible] def fR1 (x : Fin 4 × Fin 3) : DK := .R1 x.1 x.2
@[reducible] def fR2 (s : Fin 3) : DK := .R2 s
def slots6 (c : Dev nD) : sProp 𝕄 := bigSep Finset.univ (fun x => dmaPay V c (fR1 x))
def slots7 (c : Dev nD) : sProp 𝕄 := bigSep Finset.univ (fun s => dmaPay V c (fR2 s))
/-- The accumulator, once the sum of the device's own position is in it. -/
def acc9 (c : Dev nD) (j : ℕ) (a₀ : Vec F S128x1024 .f32) : sProp 𝕄 := iprop(∃ a, ⌜(zn c).val < j → a = a₀⌝ ∗ owns (c : Thread nD τ) M9 fullShare a)

def slz (c : Dev nD) (j : Fin 4) : Fin 3 := f3 (((zn c).val + 4 - j.val) % 4 + 2)

def rest2 (j : ℕ) : Finset (Fin 4) := Finset.univ.filter fun t => j ≤ t.val
def own2 (c : Dev nD) (j : ℕ) : Finset (Fin 4) := Finset.univ.filter fun t => t.val < j ∧ t = zn c
def left2 (c : Dev nD) (j : ℕ) : Finset (Fin 3) := Finset.univ.filter fun s => 22 + j ≤ ord c (.r2 s)

/-- Before the sum of tile `j`. -/
def Mem2 (c : Dev nD) (j : ℕ) : sProp 𝕄 :=
  iprop(bigSep (rest2 j) (fun t => chunk c (ck t (pn c)) fullShare (V.SB c (ck t (pn c)))) ∗ bigSep (own2 c j) (fun t => chunkAny c (ck t (pn c)))
    ∗ bigSep (left2 c j) (fun s => iprop(∃ v : Chunk F, slot7 (zp c s.rev) s v)))
def Mem2h (c : Dev nD) (j : Fin 4) (v : Chunk F) : sProp 𝕄 :=
  iprop(chunk c (ck j (pn c)) fullShare v ∗ bigSep (rest2 (j.val + 1)) (fun t => chunk c (ck t (pn c)) fullShare (V.SB c (ck t (pn c))))
    ∗ bigSep (own2 c j.val) (fun t => chunkAny c (ck t (pn c))) ∗ bigSep (left2 c j.val) (fun s => iprop(∃ v : Chunk F, slot7 (zp c s.rev) s v)))

theorem rest2_next : ∀ j : Fin 4, rest2 j.val = insert j (rest2 (j.val + 1)) ∧ j ∉ rest2 (j.val + 1) := by decide +kernel
theorem own2_keep : ∀ c : Dev nD, own2 c ((zn c).val + 1) = insert (zn c) (own2 c (zn c).val) ∧ zn c ∉ own2 c (zn c).val := by decide +kernel
theorem own2_sent : ∀ (c : Dev nD) (j : Fin 4), zn c ≠ j → own2 c (j.val + 1) = own2 c j.val := by decide +kernel
theorem left2_sent : ∀ (c : Dev nD) (j : Fin 4), zn c ≠ j → left2 c j.val = insert (slz c j) (left2 c (j.val + 1)) ∧ slz c j ∉ left2 c (j.val + 1) := by decide +kernel
theorem left2_keep : ∀ c : Dev nD, left2 c (zn c).val = left2 c ((zn c).val + 1) := by decide +kernel
theorem no_r2 : ∀ (c : Dev nD) (x : PK), ord c x ≠ 22 + (zn c).val := by decide +kernel
theorem ord_r2 : ∀ (c : Dev nD) (j : Fin 4), zn c ≠ j → ord c (.r2 (slz c j)) = 22 + j.val := by decide +kernel
theorem slz_dev : ∀ (c : Dev nD) (j : Fin 4), zn c ≠ j → zp c (slz c j).rev = ck j (pn c) := by decide +kernel
theorem slz_zn : ∀ (c : Dev nD) (j : Fin 4), zn c ≠ j → zn (zp c (slz c j).rev) = j := by decide +kernel

theorem Mem2_split (c : Dev nD) (j : Fin 4) : Mem2 V c j.val = Mem2h V c j (V.SB c (ck j (pn c))) := by
  unfold Mem2 Mem2h
  rw [apart (rest2_next j).1 (rest2_next j).2]
  exact BI.equiv_iff.mp ⟨BI.sep_assoc, BI.sep_assoc'⟩

/-- One member of a family over everything, set apart. -/
theorem take {I : Type} [Fintype I] [DecidableEq I] (i : I) (Φ : I → sProp 𝕄) : bigSep Finset.univ Φ = iprop(Φ i ∗ bigSep (Finset.univ.erase i) Φ) :=
  apart (Finset.insert_erase (Finset.mem_univ i)).symm (Finset.notMem_erase i _) Φ

variable {V K} {c : Dev nD} {α : Type}

/-! ## The operations -/

theorem ld6 (t : Fin 4) (s : Fin 3) {off : Fin 4 → ℕ} (ho : off = ![t.val, s.val, 0, 0]) {A R Z : sProp 𝕄} {inb} {hl}
    {kk : (S1x1x128x1024.Idx → Elt F .bf16) → Prog (TpuEff nD τ sig (Elt F) Λ₀ .tc) α} {w : α}
    (h : Step c iprop(A ∗ slots6 V c ∗ R) (kk (un6 (V.SB (pp c s) (ck t (pn c))))) w Z) :
    Step c iprop(A ∗ slots6 V c ∗ R) (Prog.lift (.load M6 (Rect.unit (s := S4x3x128x1024) off S1x1x128x1024.size inb).toLoadRect hl) >>= kk) w Z := by
  subst ho
  refine op (Step.left ?_) h
  unfold slots6
  rw [take (t, s)]
  refine Step.left (Step.left ?_)
  show Step c (slot6 c t s (V.SB (pp c s) (ck t (pn c)))) _ _ (slot6 c t s (V.SB (pp c s) (ck t (pn c))))
  unfold slot6
  rw [owns_unsqueeze]
  exact step_load_piece c M6 fullShare (R6 t s) (fun _ => rfl) (un6 (V.SB (pp c s) (ck t (pn c))))

theorem ld7 (s : Fin 3) {off : Fin 3 → ℕ} (ho : off = ![s.val, 0, 0]) {A R Z : sProp 𝕄} {inb} {hl}
    {kk : (S1x128x1024.Idx → Elt F .bf16) → Prog (TpuEff nD τ sig (Elt F) Λ₀ .tc) α} {w : α}
    (h : Step c iprop(A ∗ slots7 V c ∗ R) (kk (un7 (V.AG (zp c s) (zn c)))) w Z) :
    Step c iprop(A ∗ slots7 V c ∗ R) (Prog.lift (.load M7 (Rect.unit (s := S3x128x1024) off S1x128x1024.size inb).toLoadRect hl) >>= kk) w Z := by
  subst ho
  refine op (Step.left ?_) h
  unfold slots7
  rw [take s]
  refine Step.left (Step.left ?_)
  show Step c (slot7 c s (V.AG (zp c s) (zn c))) _ _ (slot7 c s (V.AG (zp c s) (zn c)))
  unfold slot7
  rw [owns_unsqueeze]
  exact step_load_piece c M7 fullShare (R7 s) (fun _ => rfl) (un7 (V.AG (zp c s) (zn c)))

theorem emb9 (inb : ∀ a, (![0, 0] : Fin 2 → ℕ) a + S128x1024.size a ≤ S128x1024.size a) (j : S128x1024.Idx) :
    (Rect.unit (s := S128x1024) ![0, 0] S128x1024.size inb).emb j = j := by
  funext a; apply Fin.ext; fin_cases a <;> simp [Rect.unit, Rect.emb]

theorem overlay9 (inb : ∀ a, (![0, 0] : Fin 2 → ℕ) a + S128x1024.size a ≤ S128x1024.size a) (a v : Vec F S128x1024 .f32) :
    (Rect.unit (s := S128x1024) ![0, 0] S128x1024.size inb).overlay a v = v := by
  funext i
  exact (congrArg ((Rect.unit (s := S128x1024) ![0, 0] S128x1024.size inb).overlay a v) (emb9 inb i).symm).trans (Rect.overlay_emb _ _ _ _)

theorem acc9_keep (c : Dev nD) (n : ℕ) {v a₀ : Vec F S128x1024 .f32} (h : v = a₀) : owns (c : Thread nD τ) M9 fullShare v ⊢ acc9 c n a₀ := by
  unfold acc9
  iintro H
  iexists v
  isplitr
  · ipureintro; intro _; exact h
  iexact H

theorem acc9_next {j : Fin 4} (hn : zn c ≠ j) (a₀ : Vec F S128x1024 .f32) : acc9 c j.val a₀ ⊢ acc9 c (j.val + 1) a₀ := by
  unfold acc9
  iintro ⟨%a, %ha, H⟩
  iexists a
  isplitr
  · ipureintro
    intro h1
    exact ha (by rcases Nat.lt_or_ge (zn c).val j.val with h2 | h2
                 · exact h2
                 · exact absurd (Fin.ext (by omega)) hn)
  iexact H

/-- The accumulator takes the sum of the device's own position. -/
theorem if9 (j : Fin 4) (n : ℕ) (hn : n = j.val) {v a₀ : Vec F S128x1024 .f32} {q : Prop} (hq : q ↔ zn c = j) (hv : zn c = j → v = a₀) {A P R Z : sProp 𝕄} {dq : Decidable q}
    {p : q → Prog (TpuEff nD τ sig (Elt F) Λ₀ .tc) α} {kb : Prog (TpuEff nD τ sig (Elt F) Λ₀ .tc) α} {w : α} {inb : ∀ a, (![0, 0] : Fin 2 → ℕ) a + S128x1024.size a ≤ S128x1024.size a} {hl hx hm}
    (hp : ∀ h, p h = (Prog.lift (.load M9 (Rect.unit (s := S128x1024) ![0, 0] S128x1024.size inb).toLoadRect hl) >>= fun _ =>
      (Prog.lift (.store M9 (Rect.unit (s := S128x1024) ![0, 0] S128x1024.size inb) v Finset.univ hx hm) >>= fun _ => kb)))
    (h : Step c iprop(A ∗ P ∗ acc9 c (n + 1) a₀ ∗ R) kb w Z) :
    Step c iprop(A ∗ P ∗ acc9 c n a₀ ∗ R) (dite q p (fun _ => kb)) w Z := by
  subst hn
  refine cond (fun hh => ?_) (fun hh => swap (sep_mono_right (sep_mono_left ?_)) h)
  · rw [hp hh]
    refine swap (B' := iprop(∃ a, owns (c : Thread nD τ) M9 fullShare a ∗ P ∗ R)) ?_ (any fun a => ?_)
    · unfold acc9
      iintro ⟨H1, ⟨%a, -, H2⟩, H3⟩
      iexists a
      isplitl [H2]; · iexact H2
      isplitl [H1]; · iexact H1
      iexact H3
    refine op (Step.left (step_load c M9 fullShare a (Rect.unit (s := S128x1024) ![0, 0] S128x1024.size inb))) ?_
    refine op (Step.left (step_store c M9 (Rect.unit (s := S128x1024) ![0, 0] S128x1024.size inb) (fun _ => rfl) a v)) (swap ?_ h)
    rw [overlay9]
    iintro ⟨H1, H2, H3⟩
    isplitl [H2]; · iexact H2
    isplitl [H1]; · iapply (acc9_keep c (j.val + 1) (hv (hq.mp hh))); iexact H1
    iexact H3
  · exact acc9_next (fun e => hh (hq.mpr e)) a₀

theorem ld8r (j : Fin 4) (n : ℕ) (hn : n = j.val) {off : Fin 2 → ℕ} (ho : off = ![128 * (ck j (pn c)).val, 0]) {A P Q R Z : sProp 𝕄} {inb} {hl}
    {kk : (S128x1024.Idx → Elt F .bf16) → Prog (TpuEff nD τ sig (Elt F) Λ₀ .tc) α} {w : α}
    (h : ∀ v, Step c iprop(A ∗ P ∗ Q ∗ Mem2 V c n ∗ R) (kk v) w Z) :
    Step c iprop(A ∗ P ∗ Q ∗ Mem2 V c n ∗ R) (Prog.lift (.load M8 (Rect.unit (s := S2048x1024) off S128x1024.size inb).toLoadRect hl) >>= kk) w Z := by
  subst hn ho
  refine op (Step.right (Step.right (Step.left ?_))) (h (V.SB c (ck j (pn c))))
  rw [Mem2_split]
  unfold Mem2h chunk
  exact Step.left (step_load_piece c M8 fullShare (chR (ck j (pn c))) (fun _ => rfl) _)

theorem st8r (j : Fin 4) (n : ℕ) (hn : n = j.val) {off : Fin 2 → ℕ} (ho : off = ![128 * (ck j (pn c)).val, 0]) {A P Q R Z : sProp 𝕄} {inb} {v : Chunk F} {hx hm}
    {kk : PUnit → Prog (TpuEff nD τ sig (Elt F) Λ₀ .tc) α} {w : α}
    (h : Step c iprop(A ∗ P ∗ Q ∗ Mem2h V c j v ∗ R) (kk ⟨⟩) w Z) :
    Step c iprop(A ∗ P ∗ Q ∗ Mem2 V c n ∗ R) (Prog.lift (.store M8 (Rect.unit (s := S2048x1024) off S128x1024.size inb) v Finset.univ hx hm) >>= kk) w Z := by
  subst hn ho
  refine op (Step.right (Step.right (Step.left ?_))) h
  rw [Mem2_split]
  unfold Mem2h chunk
  exact Step.left (step_store_piece c M8 (chR (ck j (pn c))) (fun _ => rfl) _ v)

/-- The closed forms of one conditional send across the planes. -/
def SendAt2 (j : Fin 4) (cond : Dev nD → BitVec 1) (off : Dev nD → Fin 1 → ℕ) (off2 : Dev nD → Fin 3 → ℕ) (off1 : Dev nD → Fin 2 → ℕ) (dev : Dev nD → ℕ) : Prop :=
  ∀ c : Dev nD, (cond c = 1#1 ↔ zn c ≠ j) ∧ off1 c = ![128 * (ck j (pn c)).val, 0]
    ∧ (zn c ≠ j → off c = ![(slz c j).val] ∧ off2 c = ![(slz c j).val, 0, 0] ∧ dev c = (zp c (slz c j).rev).val)

theorem sem13 : ∀ (s : Fin 3) (inb : ∀ a, (![s.val] : Fin 1 → ℕ) a + S1.size a ≤ S3.size a),
    ((cc0_scratch7.slice (Rect.unit (s := S3) ![s.val] S1.size inb)).squeeze S_ squeezes_S1_S_).sem = (DK.S2 s).num := by decide +kernel
theorem sem14 : ∀ (s : Fin 3) (inb : ∀ a, (![s.val] : Fin 1 → ℕ) a + S1.size a ≤ S3.size a),
    ((cc0_scratch8.slice (Rect.unit (s := S3) ![s.val] S1.size inb)).squeeze S_ squeezes_S1_S_).sem = (DK.R2 s).num := by decide +kernel

theorem sent2 : SendAt2 0 k0_cond18 k0_off34 k0_off35 k0_off36 k0_dev23 ∧ SendAt2 1 k0_cond20 k0_off37 k0_off38 k0_off39 k0_dev24
    ∧ SendAt2 2 k0_cond22 k0_off40 k0_off41 k0_off42 k0_dev25 ∧ SendAt2 3 k0_cond24 k0_off43 k0_off44 k0_off45 k0_dev26 := by
  refine ⟨?_, ?_, ?_, ?_⟩ <;> · unfold SendAt2; decide +kernel

theorem snd2 {j : Fin 4} {cond : Dev nD → BitVec 1} {off : Dev nD → Fin 1 → ℕ} {off2 : Dev nD → Fin 3 → ℕ} {off1 : Dev nD → Fin 2 → ℕ} {dev : Dev nD → ℕ}
    (hS : SendAt2 j cond off off2 off1 dev) (hc : cond c = 1#1) {v : Chunk F} (hv : v = V.AG c j)
    {in1 : ∀ a, off1 c a + S128x1024.size a ≤ S2048x1024.size a}
    {in2 : ∀ a, off2 c a + S1x128x1024.size a ≤ S3x128x1024.size a} {in3 in4 : ∀ a, off c a + S1.size a ≤ S3.size a} {hd : dev c < nD}
    {hsc} {hw1} {hw2} {hty} :
    Step c iprop(chunk c (ck j (pn c)) fullShare v ∗ (∃ w : Chunk F, slot7 (zp c (slz c j).rev) (slz c j) w) ∗ St V K c (22 + j.val) 13)
      (Prog.lift (.enqueueDma (M8.slice (Rect.unit (s := S2048x1024) (off1 c) S128x1024.size in1) (fun _ => rfl))
          (.remote (Dev.tc (⟨dev c, hd⟩ : Dev nD)) ((M7.slice (Rect.unit (s := S3x128x1024) (off2 c) S1x128x1024.size in2) (fun _ => rfl)).squeeze S128x1024 squeezes_S1x128x1024_S128x1024)
            (.dma ((cc0_scratch7.slice (Rect.unit (s := S3) (off c) S1.size in3)).squeeze S_ squeezes_S1_S_).sem) hsc)
          (.dma ((cc0_scratch8.slice (Rect.unit (s := S3) (off c) S1.size in4)).squeeze S_ squeezes_S1_S_).sem) hw1 hw2 hty)) ⟨⟩ (St V K c (22 + j.val + 1) 13) := by
  have hne := (hS c).1.mp hc
  obtain ⟨h1, h2, h3⟩ := (hS c).2.2 hne
  have h4 := (hS c).2.1
  subst hv
  generalize off2 c = o2, dev c = dv, off c = os, off1 c = o1 at *
  subst h1 h2 h3 h4
  exact St_send_landing (V := V) (K := K) (c := c) (n := 22 + j.val) (m := 13) (.r2 (slz c j)) (d := .S2 (slz c j)) (dk := .R2 (slz c j)) rfl rfl rfl rfl
    (src := chM (ck j (pn c))) (dst := M7s (slz c j)) (q := fullShare) (v := V.AG c j)
    (sem13 (slz c j) _) (sem14 (slz c j) _) rfl rfl (ord_r2 c j hne) (by clear * - c j; revert c j; decide +kernel) (by rfl) (by
      show _ ⊢ iprop(slot7 _ (slz c j) (V.AG (zp (zp c (slz c j).rev) (slz c j)) (zn (zp c (slz c j).rev)))
        ∗ chunk (zp (zp c (slz c j).rev) (slz c j)) (zp c (slz c j).rev) fullShare (V.AG (zp (zp c (slz c j).rev) (slz c j)) (zn (zp c (slz c j).rev))))
      rw [rev_zp, slz_zn c j hne]
      rw [slz_dev c j hne]
      exact .rfl)

/-- The sum of the device's own position stays; another position's goes to the device that reduces it. -/
theorem if2 (j : Fin 4) (m : ℕ) (hm : m = j.val) {v : Chunk F} {q : Prop} (hq : q ↔ zn c ≠ j)
    {p : q → Prog (TpuEff nD τ sig (Elt F) Λ₀ .tc) α} {A P Q Z : sProp 𝕄} {w : α} {kb : Prog (TpuEff nD τ sig (Elt F) Λ₀ .tc) α} {dq : Decidable q}
    (hp : ∀ h, ∃ p₀ : Prog (TpuEff nD τ sig (Elt F) Λ₀ .tc) PUnit, p h = (p₀ >>= fun _ => kb) ∧
      Step c iprop(chunk c (ck j (pn c)) fullShare v ∗ (∃ w : Chunk F, slot7 (zp c (slz c j).rev) (slz c j) w) ∗ St V K c (22 + j.val) 13)
        p₀ ⟨⟩ (St V K c (22 + j.val + 1) 13))
    (h : Step c iprop(A ∗ P ∗ Q ∗ Mem2 V c (m + 1) ∗ St V K c (22 + m + 1) 13) kb w Z) :
    Step c iprop(A ∗ P ∗ Q ∗ Mem2h V c j v ∗ St V K c (22 + m) 13) (dite q p (fun _ => kb)) w Z := by
  subst hm
  refine cond (fun hh => ?_) (fun hh => swap (sep_mono_right (sep_mono_right ?_)) h)
  · have hne := hq.mp hh
    obtain ⟨p₀, he, hp⟩ := hp hh
    rw [he]
    refine op (P' := iprop(P ∗ Q ∗ Mem2 V c (j.val + 1) ∗ St V K c (22 + j.val + 1) 13)) (u := ⟨⟩) (Step.right (Step.right ?_)) h
    unfold Mem2h Mem2
    rw [apart (left2_sent c j hne).1 (left2_sent c j hne).2, own2_sent c j hne]
    refine Step.pre ?_ (Step.post (Step.left (R := iprop(bigSep (rest2 (j.val + 1)) (fun t => chunk c (ck t (pn c)) fullShare (V.SB c (ck t (pn c))))
      ∗ bigSep (own2 c j.val) (fun t => chunkAny c (ck t (pn c))) ∗ bigSep (left2 c (j.val + 1)) (fun s => iprop(∃ v : Chunk F, slot7 (zp c s.rev) s v)))) hp) ?_)
    · iintro ⟨⟨H1, H2, H3, H4, H5⟩, H6⟩
      isplitl [H1 H4 H6]
      · isplitl [H1]; · iexact H1
        isplitl [H4]; · iexact H4
        iexact H6
      isplitl [H2]; · iexact H2
      isplitl [H3]; · iexact H3
      iexact H5
    · iintro ⟨H1, H2⟩
      isplitl [H2]; · iexact H2
      iexact H1
  · have : zn c = j := by by_contra hn; exact hh (hq.mpr hn)
    subst this
    rw [St_skip V K (no_r2 c)]
    unfold Mem2h Mem2
    rw [← left2_keep c, (own2_keep c).1, bigSep_one (own2_keep c).2]
    iintro ⟨⟨H1, H2, H3, H4⟩, H5⟩
    isplitr [H5]
    · isplitl [H2]; · iexact H2
      isplitl [H1 H3]
      · isplitl [H1]; · unfold chunkAny; iexists v; iexact H1
        iexact H3
      iexact H4
    iexact H5

end Cert.Attn
-- ==== Proof.Sums.lean ====
/-
  The steps of the reduction, printed part by printed part.
-/
module

public import proofs.«01_k».proof.Proof.Reduce

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

attribute [local irreducible] k0_cond16 k0_cond18 k0_cond20 k0_cond22 k0_cond24

@[reducible] def fS1 (x : Fin 4 × Fin 3) : DK := .S1 x.1 x.2
@[reducible] def fS2 (s : Fin 3) : DK := .S2 s
theorem injR1 : Function.Injective fR1 := by decide
theorem injR2 : Function.Injective fR2 := by decide
theorem injS1 : Function.Injective fS1 := by decide
theorem injS2 : Function.Injective fS2 := by decide

variable (V : Vals F) (K : GSem nD τ sig → ℕ) (c : Dev nD) (X : Ins F) (o : Out F) (x : Ctx F)

/-- The chunk received in slot `s` for tile `t`, as its load prints it. -/
def pl (t : Fin 4) (s : Fin 3) : Vec F S1x1x128x1024 .bf16 := un6 (V.SB (pp c s) (ck t (pn c)))
/-- The device's own chunk of tile `t`. -/
def oc (t : Fin 4) : Vec F S128x1024 .f32 := sub o (chR (ck t (pn c)))

/-- The sums are what the devices send, and what the accumulator keeps is `a₀`. -/
structure Red (a₀ : Vec F S128x1024 .f32) : Prop where
  g0 : k0_pay141 (k0_pay140 (oc c o 0) (pl V c 0 0) (pl V c 0 1) (pl V c 0 2)) = V.AG c 0
  g1 : k0_pay144 (k0_pay142 (oc c o 1) (pl V c 1 0) (pl V c 1 1) (pl V c 1 2)) = V.AG c 1
  g2 : k0_pay148 (k0_pay145 (oc c o 2) (pl V c 2 0) (pl V c 2 1)) (pl V c 2 2) = V.AG c 2
  g3 : k0_pay153 (k0_pay149 (oc c o 3) (pl V c 3 0)) (k0_pay150 (pl V c 3 1)) (pl V c 3 2) = V.AG c 3
  h0 : zn c = 0 → k0_pay139 (oc c o 0) (pl V c 0 0) (pl V c 0 1) (pl V c 0 2) = a₀
  h1 : zn c = 1 → k0_pay143 (k0_pay142 (oc c o 1) (pl V c 1 0) (pl V c 1 1) (pl V c 1 2)) = a₀
  h2 : zn c = 2 → k0_pay147 (k0_pay145 (oc c o 2) (pl V c 2 0) (pl V c 2 1)) (pl V c 2 2) = a₀
  h3 : zn c = 3 → k0_pay152 (k0_pay149 (oc c o 3) (pl V c 3 0)) (k0_pay150 (pl V c 3 1)) (pl V c 3 2) = a₀
  hR : k0_pay155 (k0_pay154 a₀ (un7 (V.AG (zp c 0) (zn c))) (un7 (V.AG (zp c 1) (zn c)))) (un7 (V.AG (zp c 2) (zn c))) = V.RD c

theorem off33 (c : Dev nD) : ∀ t : Fin 4, k0_off33 c (BitVec.ofNat 32 (4 * t.val)) = ![128 * (ck t (pn c)).val, 0] := by revert c; decide +kernel
theorem off46 : ∀ c : Dev nD, k0_off46 c = ![128 * c.val, 0] := by decide +kernel

/-- The slots a device fills across the planes. -/
def Dst7 : sProp 𝕄 := bigSep (left2 c 0) (fun s => iprop(∃ v : Chunk F, slot7 (zp c s.rev) s v))

theorem rest2_zero : rest2 0 = Finset.univ := by decide
theorem own2_zero : ∀ c : Dev nD, own2 c 0 = ∅ := by decide +kernel
theorem ge_last : ge 16 = ∅ := by decide
theorem left_last : ∀ c : Dev nD, left c 16 = ∅ := by decide +kernel
theorem mine_last : ∀ c : Dev nD, mine c 16 = Finset.univ.image fun t => ck t (pn c) := by decide +kernel
theorem ck_inj : ∀ (c : Dev nD) (t t' : Fin 4), ck t (pn c) = ck t' (pn c) → t = t' := by decide +kernel

theorem Mem_next : iprop(Mem1 V c 16 ∗ Dst7 c) ⊢ Mem2 V c 0 := by
  unfold Mem1 Mem2 Dst7
  rw [ge_last, left_last, mine_last, rest2_zero, own2_zero, bigSep_image_of_injOn (fun t _ t' _ h => ck_inj c t t' h)]
  iintro ⟨⟨-, H1, -⟩, H2⟩
  isplitl [H1]; · iexact H1
  isplitr; · rw [bigSep_empty]; iempintro
  iexact H2

theorem toR1 {R : sProp 𝕄} {n : ℕ} : iprop(R ∗ St V K c n 1) ⊢ iprop(R ∗ got V fR1 c 1 ∗ St V K c n 1) := by
  rw [got_zero V fR1 c 1 (by decide +kernel)]
  iintro ⟨H1, H2⟩
  isplitl [H1]; · iexact H1
  isplitr; · iempintro
  iexact H2
theorem fromR1 {a₀ : Vec F S128x1024 .f32} : iprop((Mem1 V c 16 ∗ Dst7 c ∗ acc9 c 0 a₀) ∗ got V fR1 c 13 ∗ St V K c 22 13)
    ⊢ iprop(slots6 V c ∗ acc9 c 0 a₀ ∗ Mem2 V c 0 ∗ St V K c (22 + 0) 13) := by
  rw [got_all V fR1 c 13 (by decide +kernel), show slots6 V c = bigSep Finset.univ (fun i => dmaPay V c (fR1 i)) from rfl]
  iintro ⟨⟨H1, H2, H3⟩, H4, H5⟩
  isplitl [H4]; · iexact H4
  isplitl [H3]; · iexact H3
  isplitl [H1 H2]
  · iapply (Mem_next V c)
    isplitl [H1]; · iexact H1
    iexact H2
  iexact H5
theorem toR2 {R : sProp 𝕄} {a₀ : Vec F S128x1024 .f32} : iprop(R ∗ acc9 c 4 a₀ ∗ Mem2 V c 4 ∗ St V K c 26 13)
    ⊢ iprop((R ∗ owns (c : Thread nD τ) M9 fullShare a₀ ∗ Mem2 V c 4) ∗ got V fR2 c 13 ∗ St V K c 26 13) := by
  rw [got_zero V fR2 c 13 (by decide +kernel)]
  unfold acc9
  iintro ⟨H1, ⟨%a, %ha, H2⟩, H3, H4⟩
  rw [ha (zn c).isLt]
  isplitl [H1 H2 H3]
  · isplitl [H1]; · iexact H1
    isplitl [H2]; · iexact H2
    iexact H3
  isplitr; · iempintro
  iexact H4
theorem last2 : Mem2 V c 4 ⊢ chunkAny c c := by
  unfold Mem2
  rw [show rest2 4 = ∅ from by decide, show own2 c 4 = {zn c} from by revert c; decide +kernel, bigSep_singleton, ck_self]
  iintro ⟨-, H, -⟩
  iexact H
theorem fromR2 {R B : sProp 𝕄} : iprop((R ∗ B ∗ Mem2 V c 4) ∗ got V fR2 c 16 ∗ St V K c 26 16)
    ⊢ iprop(slots7 V c ∗ B ∗ R ∗ chunkAny c c ∗ St V K c 26 16) := by
  rw [got_all V fR2 c 16 (by decide +kernel), show slots7 V c = bigSep Finset.univ (fun i => dmaPay V c (fR2 i)) from rfl]
  iintro ⟨⟨H1, H2, H3⟩, H4, H5⟩
  isplitl [H4]; · iexact H4
  isplitl [H2]; · iexact H2
  isplitl [H1]; · iexact H1
  isplitl [H3]; · iapply (last2 V c); iexact H3
  iexact H5
theorem toS1 {A B R D : sProp 𝕄} : iprop(A ∗ B ∗ R ∗ D ∗ St V K c 26 16) ⊢ iprop((A ∗ B ∗ R ∗ D) ∗ got V fS1 c 16 ∗ St V K c 26 16) := by
  rw [got_zero V fS1 c 16 (by decide +kernel)]
  iintro ⟨H1, H2, H3, H4, H5⟩
  isplitl [H1 H2 H3 H4]
  · isplitl [H1]; · iexact H1
    isplitl [H2]; · iexact H2
    isplitl [H3]; · iexact H3
    iexact H4
  isplitr; · iempintro
  iexact H5
theorem toS2 {R : sProp 𝕄} : iprop(R ∗ got V fS1 c 28 ∗ St V K c 26 28) ⊢ iprop(R ∗ got V fS2 c 28 ∗ St V K c 26 28) := by
  rw [got_zero V fS2 c 28 (by decide +kernel)]
  iintro ⟨H1, -, H2⟩
  isplitl [H1]; · iexact H1
  isplitr; · iempintro
  iexact H2

variable {V K c X o x} {α : Type}

theorem ld5c (k : Dev nD) {off : Fin 2 → ℕ} (ho : off = ![128 * k.val, 0]) {R Z : sProp 𝕄} {inb} {hl}
    {kk : (S128x1024.Idx → Elt F .f32) → Prog (TpuEff nD τ sig (Elt F) Λ₀ .tc) α} {w : α}
    (h : Step c iprop(loc c X o x ∗ R) (kk (sub o (chR k))) w Z) :
    Step c iprop(loc c X o x ∗ R) (Prog.lift (.load M5 (Rect.unit (s := S2048x1024) off S128x1024.size inb).toLoadRect hl) >>= kk) w Z := by
  subst ho
  exact Local.ld5 h

theorem ld9 {A B R Z : sProp 𝕄} {a : Vec F S128x1024 .f32} {inb : ∀ a, (![0, 0] : Fin 2 → ℕ) a + S128x1024.size a ≤ S128x1024.size a} {hl}
    {kk : (S128x1024.Idx → Elt F .f32) → Prog (TpuEff nD τ sig (Elt F) Λ₀ .tc) α} {w : α}
    (h : Step c iprop(A ∗ B ∗ owns (c : Thread nD τ) M9 fullShare a ∗ R) (kk a) w Z) :
    Step c iprop(A ∗ B ∗ owns (c : Thread nD τ) M9 fullShare a ∗ R)
      (Prog.lift (.load M9 (Rect.unit (s := S128x1024) ![0, 0] S128x1024.size inb).toLoadRect hl) >>= kk) w Z := by
  refine op (u := a) (Step.right (Step.left ?_)) h
  have e : sub a (Rect.unit (s := S128x1024) ![0, 0] S128x1024.size inb) = a := by
    funext i; exact congrArg a (emb9 inb i)
  have := step_load c M9 fullShare a (Rect.unit (s := S128x1024) ![0, 0] S128x1024.size inb) (hl := hl)
  rwa [e] at this

theorem ld8o (k : Dev nD) {off : Fin 2 → ℕ} (ho : off = ![128 * k.val, 0]) {A B C D R Z : sProp 𝕄} {inb} {hl}
    {kk : (S128x1024.Idx → Elt F .bf16) → Prog (TpuEff nD τ sig (Elt F) Λ₀ .tc) α} {w : α}
    (h : ∀ v, Step c iprop(A ∗ B ∗ C ∗ D ∗ chunk c k fullShare v ∗ R) (kk v) w Z) :
    Step c iprop(A ∗ B ∗ C ∗ D ∗ chunkAny c k ∗ R) (Prog.lift (.load M8 (Rect.unit (s := S2048x1024) off S128x1024.size inb).toLoadRect hl) >>= kk) w Z := by
  subst ho
  refine swap (B' := iprop(∃ v, chunk c k fullShare v ∗ B ∗ C ∗ D ∗ R)) ?_ (any fun v => ?_)
  · unfold chunkAny
    iintro ⟨H1, H2, H3, ⟨%v, H4⟩, H5⟩
    iexists v
    isplitl [H4]; · iexact H4
    isplitl [H1]; · iexact H1
    isplitl [H2]; · iexact H2
    isplitl [H3]; · iexact H3
    iexact H5
  refine op (u := v) (Step.left (P' := chunk c k fullShare v) ?_) (swap ?_ (h v))
  · exact step_load_piece c M8 fullShare (chR k) (fun _ => rfl) v
  iintro ⟨H4, H1, H2, H3, H5⟩
  isplitl [H1]; · iexact H1
  isplitl [H2]; · iexact H2
  isplitl [H3]; · iexact H3
  isplitl [H4]; · iexact H4
  iexact H5
theorem st8o (k : Dev nD) {off : Fin 2 → ℕ} (ho : off = ![128 * k.val, 0]) {A B C D R Z : sProp 𝕄} {inb} {v₀ v : Chunk F} {hx hm}
    {kk : PUnit → Prog (TpuEff nD τ sig (Elt F) Λ₀ .tc) α} {w : α}
    (h : Step c iprop(A ∗ B ∗ C ∗ D ∗ chunk c k fullShare v ∗ R) (kk ⟨⟩) w Z) :
    Step c iprop(A ∗ B ∗ C ∗ D ∗ chunk c k fullShare v₀ ∗ R) (Prog.lift (.store M8 (Rect.unit (s := S2048x1024) off S128x1024.size inb) v Finset.univ hx hm) >>= kk) w Z := by
  subst ho
  exact op (Step.right (Step.right (Step.right (Step.left (step_store_piece c M8 (chR k) (fun _ => rfl) v₀ v))))) h

variable (V K c X o x)

@[reducible] def part41 (v2 v21 : BitVec 32) (v : Chunk F) (hv : k0_pay137 v = V.SB c (ck 3 3)) :
    Sem c X o x iprop(Mem1 V c 15 ∗ St V K c 21 1) (on (k0_part41 (F := F)) c v2 v21 v) := by
  apply Sem.mk; rw [k0_part41_eq_skeleton]
  exact
    ld8 (ck 3 3) 15 rfl rfl fun _ => st8 (ck 3 3) 15 rfl rfl <|
    snd 3 3 15 rfl hv (send15 c).1 (fun h => ⟨_, rfl, snd1 send15 h hv rfl⟩) <|
    swap (toR1 V K c) <| wt (f := fR1) injR1 (0, 0) 22 1 rfl rfl (by exact sem12 0 0 _) (by rfl) <| Step.ret _

@[reducible] def part42 (R : sProp 𝕄) :
    Sem c X o x iprop(R ∗ got V fR1 c 2 ∗ St V K c 22 2) (on (k0_part42 (F := F))) := by
  apply Sem.mk; rw [k0_part42_eq_skeleton]
  exact
    wt (f := fR1) injR1 (0, 1) 22 2 rfl rfl (by exact sem12 0 1 _) (by rfl) <|
    wt (f := fR1) injR1 (0, 2) 22 3 rfl rfl (by exact sem12 0 2 _) (by rfl) <|
    wt (f := fR1) injR1 (1, 0) 22 4 rfl rfl (by exact sem12 1 0 _) (by rfl) <| Step.ret _

@[reducible] def part43 (R : sProp 𝕄) (v2 v3 : BitVec 32) :
    Sem c X o x iprop(R ∗ got V fR1 c 5 ∗ St V K c 22 5) (on (k0_part43 (F := F))) := by
  apply Sem.mk; rw [k0_part43_eq_skeleton]
  exact
    wt (f := fR1) injR1 (1, 1) 22 5 rfl rfl (by exact sem12 1 1 _) (by rfl) <|
    wt (f := fR1) injR1 (1, 2) 22 6 rfl rfl (by exact sem12 1 2 _) (by rfl) <|
    wt (f := fR1) injR1 (2, 0) 22 7 rfl rfl (by exact sem12 2 0 _) (by rfl) <| Step.ret _

@[reducible] def part44 (R : sProp 𝕄) :
    Sem c X o x iprop(R ∗ got V fR1 c 8 ∗ St V K c 22 8) (on (k0_part44 (F := F))) := by
  apply Sem.mk; rw [k0_part44_eq_skeleton]
  exact
    wt (f := fR1) injR1 (2, 1) 22 8 rfl rfl (by exact sem12 2 1 _) (by rfl) <|
    wt (f := fR1) injR1 (2, 2) 22 9 rfl rfl (by exact sem12 2 2 _) (by rfl) <|
    wt (f := fR1) injR1 (3, 0) 22 10 rfl rfl (by exact sem12 3 0 _) (by rfl) <|
    wt (f := fR1) injR1 (3, 1) 22 11 rfl rfl (by exact sem12 3 1 _) (by rfl) <| Step.ret _

@[reducible] def part45 (a₀ : Vec F S128x1024 .f32) (hr : Red V c o a₀) (v3 v20 : BitVec 32) (hq : (Scalar.cmpi .ne (Scalar.extui (Scalar.cmpi .eq v20 0#32)) 0#32 = 1#1 ↔ zn c = 0)) :
    Sem c X o x iprop((Mem1 V c 16 ∗ Dst7 c ∗ acc9 c 0 a₀) ∗ got V fR1 c 12 ∗ St V K c 22 12) (on (k0_part45 (F := F)) c v3 v20) := by
  apply Sem.mk; rw [k0_part45_eq_skeleton]
  exact
    wt (f := fR1) injR1 (3, 2) 22 12 rfl rfl (by exact sem12 3 2 _) (by rfl) <| swap (fromR1 V K c) <|
    ld5c (ck 0 (pn c)) (off33 c 0) <| ld6 0 0 rfl <| ld6 0 1 rfl <| ld6 0 2 rfl <|
    if9 0 0 rfl hq hr.h0 (fun _ => rfl) <| Step.ret _

@[reducible] def part46 (a₀ : Vec F S128x1024 .f32) (v3 v20 v1517 : BitVec 32) (v : Chunk F) (hv : k0_pay141 v = V.AG c 0) :
    Sem c X o x iprop(slots6 V c ∗ acc9 c 1 a₀ ∗ Mem2 V c 0 ∗ St V K c 22 13) (on (k0_part46 (F := F)) c v3 v20 v1517 v) := by
  apply Sem.mk; rw [k0_part46_eq_skeleton]
  exact
    ld8r 0 0 rfl (off33 c 0) fun _ => st8r 0 0 rfl (off33 c 0) <|
    if2 0 0 rfl (sent2.1 c).1 (fun h => ⟨_, rfl, snd2 sent2.1 h hv⟩) <|
    ld5c (ck 1 (pn c)) (off33 c 1) <| ld6 1 0 rfl <| ld6 1 1 rfl <| ld6 1 2 rfl <| Step.ret _

@[reducible] def part47 (a₀ : Vec F S128x1024 .f32) (v3 v20 v1553 : BitVec 32) (v : Vec F S128x1024 .f32) (v1571 z : BitVec 32) (hq : Scalar.cmpi .ne v1571 z = 1#1 ↔ zn c = 1)
    (h1 : zn c = 1 → k0_pay143 v = a₀) (hv : k0_pay144 v = V.AG c 1) :
    Sem c X o x iprop(slots6 V c ∗ acc9 c 1 a₀ ∗ Mem2 V c 1 ∗ St V K c 23 13) (on (k0_part47 (F := F)) c v3 v20 v1553 v v1571 z) := by
  apply Sem.mk; rw [k0_part47_eq_skeleton]
  exact
    if9 1 1 rfl hq h1 (fun _ => rfl) <|
    ld8r 1 1 rfl (off33 c 1) fun _ => st8r 1 1 rfl (off33 c 1) <|
    if2 1 1 rfl (sent2.2.1 c).1 (fun h => ⟨_, rfl, snd2 sent2.2.1 h hv⟩) <|
    ld5c (ck 2 (pn c)) (off33 c 2) <| ld6 2 0 rfl <| ld6 2 1 rfl <| ld6 2 2 rfl <| Step.ret _

@[reducible] def part48 (a₀ : Vec F S128x1024 .f32) (v3 v20 v1589 : BitVec 32) (v : Vec F S128x1024 .f32) (u : Vec F S1x1x128x1024 .bf16) (hq : (Scalar.cmpi .ne (Scalar.extui (Scalar.cmpi .eq v20 2#32)) 0#32 = 1#1 ↔ zn c = 2))
    (h1 : zn c = 2 → k0_pay147 v u = a₀) (hv : k0_pay148 v u = V.AG c 2) :
    Sem c X o x iprop(slots6 V c ∗ acc9 c 2 a₀ ∗ Mem2 V c 2 ∗ St V K c 24 13) (on (k0_part48 (F := F)) c v3 v20 v1589 v u) := by
  apply Sem.mk; rw [k0_part48_eq_skeleton]
  exact
    if9 2 2 rfl hq h1 (fun _ => rfl) <|
    ld8r 2 2 rfl (off33 c 2) fun _ => st8r 2 2 rfl (off33 c 2) <|
    if2 2 2 rfl (sent2.2.2.1 c).1 (fun h => ⟨_, rfl, snd2 sent2.2.2.1 h hv⟩) <|
    ld5c (ck 3 (pn c)) (off33 c 3) <| ld6 3 0 rfl <| ld6 3 1 rfl <| Step.ret _

@[reducible] def part49 (a₀ : Vec F S128x1024 .f32) (v2 v3 v20 v1625 : BitVec 32) (v : Vec F S128x1024 .f32) (u : Vec F S128x1024 .bf16) (hq : (Scalar.cmpi .ne (Scalar.extui (Scalar.cmpi .eq v20 3#32)) 0#32 = 1#1 ↔ zn c = 3))
    (h1 : zn c = 3 → k0_pay152 v u (pl V c 3 2) = a₀) (hv : k0_pay153 v u (pl V c 3 2) = V.AG c 3) :
    Sem c X o x iprop(slots6 V c ∗ acc9 c 3 a₀ ∗ Mem2 V c 3 ∗ St V K c 25 13) (on (k0_part49 (F := F)) c v2 v3 v20 v1625 v u) := by
  apply Sem.mk; rw [k0_part49_eq_skeleton]
  exact
    ld6 3 2 rfl <| if9 3 3 rfl hq h1 (fun _ => rfl) <|
    ld8r 3 3 rfl (off33 c 3) fun _ => st8r 3 3 rfl (off33 c 3) <|
    if2 3 3 rfl (sent2.2.2.2 c).1 (fun h => ⟨_, rfl, snd2 sent2.2.2.2 h hv⟩) <|
    Step.ret _

@[reducible] def part50 (R : sProp 𝕄) (a₀ : Vec F S128x1024 .f32) :
    Sem c X o x iprop(R ∗ acc9 c 4 a₀ ∗ Mem2 V c 4 ∗ St V K c 26 13) (on (k0_part50 (F := F))) := by
  apply Sem.mk; rw [k0_part50_eq_skeleton]
  exact
    swap (toR2 V K c) <|
    wt (f := fR2) injR2 0 26 13 rfl rfl (by exact sem14 0 _) (by rfl) <|
    wt (f := fR2) injR2 1 26 14 rfl rfl (by exact sem14 1 _) (by rfl) <|
    wt (f := fR2) injR2 2 26 15 rfl rfl (by exact sem14 2 _) (by rfl) <|
    swap (fromR2 V K c) <| ld9 <| ld7 0 rfl <| ld7 1 rfl <| Step.ret _

@[reducible] def part51 (R B : sProp 𝕄) (v1661 : BitVec 32) (v : Vec F S128x1024 .f32) :
    Sem c X o x iprop(slots7 V c ∗ B ∗ R ∗ chunkAny c c ∗ St V K c 26 16) (on (k0_part51 (F := F)) c v1661 v) := by
  apply Sem.mk; rw [k0_part51_eq_skeleton]
  exact
    ld7 2 rfl <| ld8o c (off46 c) fun _ => st8o c (off46 c) <|
    swap (toS1 V K c) <|
    wt (f := fS1) injS1 (0, 0) 26 16 rfl rfl (by exact sem11 0 0 _) (by rfl) <|
    wt (f := fS1) injS1 (0, 1) 26 17 rfl rfl (by exact sem11 0 1 _) (by rfl) <|
    wt (f := fS1) injS1 (0, 2) 26 18 rfl rfl (by exact sem11 0 2 _) (by rfl) <| Step.ret _

@[reducible] def part52 (R : sProp 𝕄) :
    Sem c X o x iprop(R ∗ got V fS1 c 19 ∗ St V K c 26 19) (on (k0_part52 (F := F))) := by
  apply Sem.mk; rw [k0_part52_eq_skeleton]
  exact
    wt (f := fS1) injS1 (1, 0) 26 19 rfl rfl (by exact sem11 1 0 _) (by rfl) <|
    wt (f := fS1) injS1 (1, 1) 26 20 rfl rfl (by exact sem11 1 1 _) (by rfl) <|
    wt (f := fS1) injS1 (1, 2) 26 21 rfl rfl (by exact sem11 1 2 _) (by rfl) <| Step.ret _

@[reducible] def part53 (R : sProp 𝕄) :
    Sem c X o x iprop(R ∗ got V fS1 c 22 ∗ St V K c 26 22) (on (k0_part53 (F := F))) := by
  apply Sem.mk; rw [k0_part53_eq_skeleton]
  exact
    wt (f := fS1) injS1 (2, 0) 26 22 rfl rfl (by exact sem11 2 0 _) (by rfl) <|
    wt (f := fS1) injS1 (2, 1) 26 23 rfl rfl (by exact sem11 2 1 _) (by rfl) <|
    wt (f := fS1) injS1 (2, 2) 26 24 rfl rfl (by exact sem11 2 2 _) (by rfl) <|
    wt (f := fS1) injS1 (3, 0) 26 25 rfl rfl (by exact sem11 3 0 _) (by rfl) <| Step.ret _

@[reducible] def part54 (R : sProp 𝕄) :
    Sem c X o x iprop(R ∗ got V fS1 c 26 ∗ St V K c 26 26) (on (k0_part54 (F := F))) := by
  apply Sem.mk; rw [k0_part54_eq_skeleton]
  exact
    wt (f := fS1) injS1 (3, 1) 26 26 rfl rfl (by exact sem11 3 1 _) (by rfl) <|
    wt (f := fS1) injS1 (3, 2) 26 27 rfl rfl (by exact sem11 3 2 _) (by rfl) <| swap (toS2 V K c) <|
    wt (f := fS2) injS2 0 26 28 rfl rfl (by exact sem13 0 _) (by rfl) <|
    wt (f := fS2) injS2 1 26 29 rfl rfl (by exact sem13 1 _) (by rfl) <| Step.ret _

end Cert.Attn
-- ==== Proof.Chunks.lean ====
/-
  A scratch buffer as its chunks, a chunk as its shares, and the chunks by column and plane.
-/
module

public import proofs.«01_k».proof.Proof.Sums
public import Idealize.ShloMosaic.Lib.MemrefSat

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem both {P Q : sProp 𝕄} (h₁ : P ⊢ Q) (h₂ : Q ⊢ P) : P = Q := BI.equiv_iff.mp ⟨h₁, h₂⟩

/-! ## Shares -/

theorem three (Φ : Fin 3 → sProp 𝕄) : bigSep Finset.univ Φ = iprop(Φ 0 ∗ Φ 1 ∗ Φ 2) := by
  rw [apart (show (Finset.univ : Finset (Fin 3)) = insert 0 {1, 2} by decide) (by decide), apart (show ({1, 2} : Finset (Fin 3)) = insert 1 {2} by decide) (by decide),
    bigSep_singleton]

theorem halve (c k : Dev nD) (q : PosShare TreeShare) (v : Chunk F) : chunk c k q v = iprop(chunk c k q.left v ∗ chunk c k q.right v) := by
  unfold chunk
  exact both (owns_halves (c : Thread nD τ) (chM k) q v).1 (owns_halves (c : Thread nD τ) (chM k) q v).2

/-- The shares lent across the planes; those lent in the plane and the one that stays. -/
def keepA (c k : Dev nD) (v : Chunk F) : sProp 𝕄 := bigSep Finset.univ fun s => chunk c k (shA s) v
def keepB (c k : Dev nD) (v : Chunk F) : sProp 𝕄 := bigSep Finset.univ fun s => chunk c k (shB s) v

theorem cut (c k : Dev nD) (v : Chunk F) : chunk c k fullShare v = iprop(keepA c k v ∗ keepB c k v ∗ chunk c k shK v) := by
  unfold keepA keepB
  rw [halve, halve c k fullShare.left, halve c k fullShare.left.right, halve c k fullShare.right, halve c k fullShare.right.left, halve c k fullShare.right.right,
    three, three]
  refine both ?_ ?_
  · iintro ⟨⟨A0, A1, A2⟩, ⟨B0, B1⟩, B2, K⟩
    isplitl [A0 A1 A2]
    · isplitl [A0]; · iexact A0
      isplitl [A1]; · iexact A1
      iexact A2
    isplitl [B0 B1 B2]
    · isplitl [B0]; · iexact B0
      isplitl [B1]; · iexact B1
      iexact B2
    iexact K
  · iintro ⟨⟨A0, A1, A2⟩, ⟨B0, B1, B2⟩, K⟩
    isplitl [A0 A1 A2]
    · isplitl [A0]; · iexact A0
      isplitl [A1]; · iexact A1
      iexact A2
    isplitl [B0 B1]
    · isplitl [B0]; · iexact B0
      iexact B1
    isplitl [B2]; · iexact B2
    iexact K

/-! ## Reindexing -/

theorem col_univ : ∀ c : Dev nD, (Finset.univ : Finset (Fin 4)) = insert (zn c) (Finset.univ.image fun s : Fin 3 => zn (zp c s.rev)) ∧ zn c ∉ (Finset.univ.image fun s : Fin 3 => zn (zp c s.rev)) := by decide +kernel
theorem col_inj : ∀ (c : Dev nD) (s s' : Fin 3), zn (zp c s.rev) = zn (zp c s'.rev) → s = s' := by decide +kernel
theorem col_at : ∀ (c : Dev nD) (s : Fin 3), ck (zn (zp c s.rev)) (pn c) = zp c s.rev := by decide +kernel

/-- The column of a device: itself and the three it hears from. -/
theorem col (c : Dev nD) (Φ : Dev nD → sProp 𝕄) : bigSep Finset.univ (fun t => Φ (ck t (pn c))) = iprop(Φ c ∗ bigSep Finset.univ fun s : Fin 3 => Φ (zp c s.rev)) := by
  rw [apart (col_univ c).1 (col_univ c).2, bigSep_image_of_injOn (fun s _ s' _ h => col_inj c s s' h), ck_self]
  simp only [col_at]

theorem plane_univ : ∀ c : Dev nD, (Finset.univ : Finset (Dev nD)) = (Finset.univ.image fun t : Fin 4 => ck t (pn c)) ∪ (Finset.univ.image fun x : Fin 4 × Fin 3 => ck x.1 (pn (pp c x.2.rev)))
    ∧ Disjoint (Finset.univ.image fun t : Fin 4 => ck t (pn c)) (Finset.univ.image fun x : Fin 4 × Fin 3 => ck x.1 (pn (pp c x.2.rev))) := by decide +kernel
theorem plane_inj : ∀ (c : Dev nD) (x y : Fin 4 × Fin 3), ck x.1 (pn (pp c x.2.rev)) = ck y.1 (pn (pp c y.2.rev)) → x = y := by decide +kernel

/-- All chunks: the column's and those heard in the plane. -/
theorem plane (c : Dev nD) (Φ : Dev nD → sProp 𝕄) :
    bigSep Finset.univ Φ = iprop(bigSep Finset.univ (fun t => Φ (ck t (pn c))) ∗ bigSep Finset.univ fun x : Fin 4 × Fin 3 => Φ (ck x.1 (pn (pp c x.2.rev)))) := by
  rw [(plane_univ c).1, bigSep_union (plane_univ c).2, bigSep_image_of_injOn (fun t _ t' _ h => ck_inj c t t' h),
    bigSep_image_of_injOn (fun x _ y _ h => plane_inj c x y h)]
  rfl

/-! ## The buffers in pieces -/

/-- The vector of given chunks. -/
def join (v : Dev nD → Chunk F) : Vec F S2048x1024 .bf16 := fun i =>
  v ⟨(i 0).val / 128, Nat.div_lt_of_lt_mul (i 0).isLt⟩ (Fin.cons ⟨(i 0).val % 128, Nat.mod_lt _ (by decide)⟩ (Fin.cons (i 1) finZeroElim))

theorem ch_disj (k k' : Dev nD) (h : k ≠ k') : Disjoint (chR k).set (chR k').set := by
  rw [Finset.disjoint_left]
  intro i hi hi'
  have h1 := (Rect.mem_set_unit.mp hi) 0
  have h2 := (Rect.mem_set_unit.mp hi') 0
  apply h
  apply Fin.ext
  simp at h1 h2
  omega
theorem ch_cover : (Finset.univ : Finset (Dev nD)).biUnion (fun k => (chR k).set) = Finset.univ := by
  rw [Finset.eq_univ_iff_forall]
  intro i
  rw [Finset.mem_biUnion]
  refine ⟨⟨(i 0).val / 128, Nat.div_lt_of_lt_mul (i 0).isLt⟩, Finset.mem_univ _, Rect.mem_set_unit.mpr fun a => ?_⟩
  have h0 := (i 0).isLt
  have h1 := (i 1).isLt
  fin_cases a <;> simp at * <;> omega

theorem join_at (v : Dev nD → Chunk F) (k : Dev nD) (j) : join v ((chR k).emb j) = v k j := by
  have h0 : ((chR k).emb j 0).val = 128 * k.val + (j 0).val := by simp [Rect.unit, Rect.emb]
  have h1 : ((chR k).emb j 1).val = (j 1).val := by simp [Rect.unit, Rect.emb]
  have hj : (j 0).val < 128 := (j 0).isLt
  unfold join
  have hk : (⟨((chR k).emb j 0).val / 128, Nat.div_lt_of_lt_mul ((chR k).emb j 0).isLt⟩ : Dev nD) = k := Fin.ext (by show _ / 128 = k.val; rw [h0]; omega)
  rw [hk]
  congr 1
  funext a
  fin_cases a
  · exact Fin.ext (by show _ % 128 = (j 0).val; rw [h0]; omega)
  · exact Fin.ext h1

theorem whole8 (c : Dev nD) (q : PosShare TreeShare) (v : Dev nD → Chunk F) :
    bigSep Finset.univ (fun k => chunk c k q (v k)) ⊢ owns (c : Thread nD τ) M8 q (join v) := by
  refine .trans (.of_eq ?_) (owns_of_rects (c : Thread nD τ) M8 q chR (fun _ _ => rfl) ch_disj ch_cover (join v))
  unfold chunk
  simp only [join_at]
theorem pieces8 (c : Dev nD) (q : PosShare TreeShare) (v : Dev nD → Chunk F) :
    owns (c : Thread nD τ) M8 q (join v) ⊢ bigSep Finset.univ (fun k => chunk c k q (v k)) := by
  refine (owns_rects (c : Thread nD τ) M8 q chR (fun _ _ => rfl) ch_disj ch_cover (join v)).trans (.of_eq ?_)
  unfold chunk
  simp only [join_at]
theorem pieces8' (c : Dev nD) (X : Vec F S2048x1024 .bf16) :
    owns (c : Thread nD τ) M8 fullShare X ⊢ bigSep Finset.univ (fun k => chunkAny c k) := by
  refine (owns_rects (c : Thread nD τ) M8 fullShare chR (fun _ _ => rfl) ch_disj ch_cover X).trans (bigSep_mono fun k _ => ?_)
  show (owns (c : Thread nD τ) (chM k) fullShare (fun j => X ((chR k).emb j)) : sProp 𝕄) ⊢ chunkAny c k
  unfold chunkAny chunk
  iintro H
  iexists _
  iexact H

end Cert.Attn
-- ==== Proof.Gather.lean ====
/-
  The gathering: a finished chunk goes across the planes, then every device of a plane passes its column on to the other three.
-/
module

public import proofs.«01_k».proof.Proof.Chunks

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

@[reducible] def fRa (s : Fin 3) : DK := .Ra s
@[reducible] def fSa (s : Fin 3) : DK := .Sa s
@[reducible] def fRb (x : Fin 4 × Fin 3) : DK := .Rb x.1 x.2
@[reducible] def fSb (x : Fin 4 × Fin 3) : DK := .Sb x.1 x.2
theorem injRa : Function.Injective fRa := by decide
theorem injSa : Function.Injective fSa := by decide
theorem injRb : Function.Injective fRb := by decide
theorem injSb : Function.Injective fSb := by decide
theorem sem15 : ∀ (s : Fin 3) (inb : ∀ a, (![s.val] : Fin 1 → ℕ) a + S1.size a ≤ S3.size a),
    ((cc0_scratch9.slice (Rect.unit (s := S3) ![s.val] S1.size inb)).squeeze S_ squeezes_S1_S_).sem = (DK.Sa s).num := by decide +kernel
theorem sem16 : ∀ (s : Fin 3) (inb : ∀ a, (![s.val] : Fin 1 → ℕ) a + S1.size a ≤ S3.size a),
    ((cc0_scratch10.slice (Rect.unit (s := S3) ![s.val] S1.size inb)).squeeze S_ squeezes_S1_S_).sem = (DK.Ra s).num := by decide +kernel
theorem sem17 : ∀ (t : Fin 4) (s : Fin 3) (inb : ∀ a, (![3 * t.val + s.val] : Fin 1 → ℕ) a + S1.size a ≤ S12.size a),
    ((cc0_scratch11.slice (Rect.unit (s := S12) ![3 * t.val + s.val] S1.size inb)).squeeze S_ squeezes_S1_S_).sem = (DK.Sb t s).num := by decide +kernel
theorem sem18 : ∀ (t : Fin 4) (s : Fin 3) (inb : ∀ a, (![3 * t.val + s.val] : Fin 1 → ℕ) a + S1.size a ≤ S12.size a),
    ((cc0_scratch12.slice (Rect.unit (s := S12) ![3 * t.val + s.val] S1.size inb)).squeeze S_ squeezes_S1_S_).sem = (DK.Rb t s).num := by decide +kernel

theorem dist {I : Type} (s : Finset I) (Φ Ψ : I → sProp 𝕄) : bigSep s (fun i => iprop(Φ i ∗ Ψ i)) = iprop(bigSep s Φ ∗ bigSep s Ψ) := bigSep_sep s Φ Ψ

/-! ## The sends still to make -/

section
variable {I : Type} [Fintype I] [DecidableEq I]

def duesLeft (P : I → sProp 𝕄) (f : I → ℕ) (n : ℕ) : sProp 𝕄 := bigSep (Finset.univ.filter fun i => n ≤ f i) P

theorem duesLeft_next (P : I → sProp 𝕄) (f : I → ℕ) (hf : Function.Injective f) (i : I) : duesLeft P f (f i) = iprop(P i ∗ duesLeft P f (f i + 1)) := by
  unfold duesLeft
  refine apart ?_ (by simp) P
  ext j
  simp only [Finset.mem_filter, Finset.mem_univ, _root_.true_and, Finset.mem_insert]
  constructor
  · intro h
    rcases Nat.lt_or_ge (f i) (f j) with h1 | h1
    · exact .inr h1
    · exact .inl (hf (by omega))
  · rintro (rfl | h) <;> omega
theorem duesLeft_all (P : I → sProp 𝕄) (f : I → ℕ) (n : ℕ) (h : ∀ i, n ≤ f i) : duesLeft P f n = bigSep Finset.univ P := by
  unfold duesLeft
  rw [Finset.filter_true_of_mem fun i _ => h i]
end

def oa (s : Fin 3) : ℕ := 26 + s.val
def ob (x : Fin 4 × Fin 3) : ℕ := 29 + 3 * x.1.val + x.2.val
theorem oa_inj : Function.Injective oa := by decide
theorem ob_inj : Function.Injective ob := by decide

variable (V : Vals F) (K : GSem nD τ sig → ℕ) (c : Dev nD)

/-- What a send of the gathering consumes: a share of the chunk, and the chunk's place at the receiver. -/
def Xa (s : Fin 3) : sProp 𝕄 := iprop(chunk c c (shA s) (V.RD c) ∗ chunkAny (zp c s) c)
def Xb (x : Fin 4 × Fin 3) : sProp 𝕄 := iprop(chunk c (ck x.1 (pn c)) (shB x.2) (V.RD (ck x.1 (pn c))) ∗ chunkAny (pp c x.2) (ck x.1 (pn c)))

def fin6 : sProp 𝕄 := bigSep Finset.univ fun x : Fin 4 × Fin 3 => iprop(∃ v : Chunk F, slot6 c x.1 x.2 v)
def fin7 : sProp 𝕄 := bigSep Finset.univ fun s : Fin 3 => iprop(∃ v : Chunk F, slot7 c s v)

variable {V K c} {α : Type}

theorem sndA (s : Fin 3) (n : ℕ) (hn : n = oa s) {off : Fin 2 → ℕ} (ho : off = ![128 * c.val, 0]) {dev : ℕ} (hdv : dev = (zp c s).val) {A R Z : sProp 𝕄}
    {s1 s2 : DmaSem sig} (h1 : s1 = (DK.Sa s).num) (h2 : s2 = (DK.Ra s).num) {in1 in2 : ∀ a, off a + S128x1024.size a ≤ S2048x1024.size a} {hd : dev < nD}
    {hsc} {hw1} {hw2} {hty} {kk : PUnit → Prog (TpuEff nD τ sig (Elt F) Λ₀ .tc) α} {w : α}
    (h : Step c iprop(A ∗ R ∗ duesLeft (Xa V c) oa (n + 1) ∗ St V K c (n + 1) 31) (kk ⟨⟩) w Z) :
    Step c iprop(A ∗ R ∗ duesLeft (Xa V c) oa n ∗ St V K c n 31)
      (Prog.lift (.enqueueDma (M8.slice (Rect.unit (s := S2048x1024) off S128x1024.size in1) (fun _ => rfl))
          (.remote (Dev.tc (⟨dev, hd⟩ : Dev nD)) (M8.slice (Rect.unit (s := S2048x1024) off S128x1024.size in2) (fun _ => rfl)) (.dma s1) hsc) (.dma s2) hw1 hw2 hty) >>= kk) w Z := by
  subst hn ho hdv
  refine op (P' := iprop(R ∗ duesLeft (Xa V c) oa (oa s + 1) ∗ St V K c (oa s + 1) 31)) (u := ⟨⟩) (Step.right ?_) h
  rw [duesLeft_next (Xa V c) oa oa_inj s]
  have hs := St_send_share (V := V) (K := K) (c := c) (n := oa s) (m := 31) (.ra s) (d := .Sa s) (dk := .Ra s) rfl rfl rfl rfl
    (src := chM c) (dst := chM c) (q := shA s) (v := V.RD c) (dev := zp c s) h1 h2 rfl rfl rfl (by clear * - s; revert s; decide)
    (hsc := hsc) (hsrc := hw1) (hdst' := hw2) (hsem := hty) .rfl (by
      show _ ⊢ chunk (zp c s) (zp (zp c s) s.rev) fullShare (V.RD (zp (zp c s) s.rev))
      rw [zp_rev]; exact .rfl)
  refine Step.pre ?_ (Step.post (Step.left (R := duesLeft (Xa V c) oa (oa s + 1)) hs) ?_)
  · unfold Xa chunkAny chunk
    iintro ⟨⟨⟨H1, H2⟩, H3⟩, H4⟩
    isplitr [H3]
    · isplitl [H1]; · iexact H1
      isplitl [H2]; · iexact H2
      iexact H4
    iexact H3
  · iintro ⟨H1, H2⟩
    isplitl [H2]; · iexact H2
    iexact H1

theorem sndB (t : Fin 4) (s : Fin 3) (n : ℕ) (hn : n = ob (t, s)) {off : Fin 2 → ℕ} (ho : off = ![128 * (ck t (pn c)).val, 0]) {dev : ℕ} (hdv : dev = (pp c s).val) {A R Z : sProp 𝕄}
    {s1 s2 : DmaSem sig} (h1 : s1 = (DK.Sb t s).num) (h2 : s2 = (DK.Rb t s).num) {in1 in2 : ∀ a, off a + S128x1024.size a ≤ S2048x1024.size a} {hd : dev < nD}
    {hsc} {hw1} {hw2} {hty} {kk : PUnit → Prog (TpuEff nD τ sig (Elt F) Λ₀ .tc) α} {w : α}
    (h : Step c iprop(A ∗ R ∗ duesLeft (Xb V c) ob (n + 1) ∗ St V K c (n + 1) 34) (kk ⟨⟩) w Z) :
    Step c iprop(A ∗ R ∗ duesLeft (Xb V c) ob n ∗ St V K c n 34)
      (Prog.lift (.enqueueDma (M8.slice (Rect.unit (s := S2048x1024) off S128x1024.size in1) (fun _ => rfl))
          (.remote (Dev.tc (⟨dev, hd⟩ : Dev nD)) (M8.slice (Rect.unit (s := S2048x1024) off S128x1024.size in2) (fun _ => rfl)) (.dma s1) hsc) (.dma s2) hw1 hw2 hty) >>= kk) w Z := by
  subst hn ho hdv
  refine op (P' := iprop(R ∗ duesLeft (Xb V c) ob (ob (t, s) + 1) ∗ St V K c (ob (t, s) + 1) 34)) (u := ⟨⟩) (Step.right ?_) h
  rw [duesLeft_next (Xb V c) ob ob_inj (t, s)]
  have hs := St_send_share (V := V) (K := K) (c := c) (n := ob (t, s)) (m := 34) (.rb t s) (d := .Sb t s) (dk := .Rb t s) rfl rfl rfl rfl
    (src := chM (ck t (pn c))) (dst := chM (ck t (pn c))) (q := shB s) (v := V.RD (ck t (pn c))) (dev := pp c s) h1 h2 rfl rfl rfl (by clear * - t s; revert t s; decide)
    (hsc := hsc) (hsrc := hw1) (hdst' := hw2) (hsem := hty) .rfl (by
      show _ ⊢ chunk (pp c s) (ck t (pn (pp (pp c s) s.rev))) fullShare (V.RD (ck t (pn (pp (pp c s) s.rev))))
      rw [pp_rev]; exact .rfl)
  refine Step.pre ?_ (Step.post (Step.left (R := duesLeft (Xb V c) ob (ob (t, s) + 1)) hs) ?_)
  · unfold Xb chunkAny chunk
    iintro ⟨⟨⟨H1, H2⟩, H3⟩, H4⟩
    isplitr [H3]
    · isplitl [H1]; · iexact H1
      isplitl [H2]; · iexact H2
      iexact H4
    iexact H3
  · iintro ⟨H1, H2⟩
    isplitl [H2]; · iexact H2
    iexact H1

theorem toAny (c k : Dev nD) (v : Chunk F) : chunk c k fullShare v ⊢ chunkAny c k := by
  unfold chunkAny; iintro H; iexists v; iexact H

theorem slots7_split : slots7 V c ⊢ iprop(fin7 c ∗ bigSep Finset.univ fun s : Fin 3 => chunkAny (zp c s) c) := by
  unfold slots7 fin7
  rw [← dist]
  refine bigSep_mono fun s _ => ?_
  show iprop(slot7 c s (V.AG (zp c s) (zn c)) ∗ chunk (zp c s) c fullShare (V.AG (zp c s) (zn c))) ⊢ _
  refine BIClass.sep_mono ?_ (toAny _ _ _)
  iintro H; iexists _; iexact H
theorem slots6_split : slots6 V c ⊢ iprop(fin6 c ∗ bigSep Finset.univ fun x : Fin 4 × Fin 3 => chunkAny (pp c x.2) (ck x.1 (pn c))) := by
  unfold slots6 fin6
  rw [← dist]
  refine bigSep_mono fun x _ => ?_
  show iprop(slot6 c x.1 x.2 (V.SB (pp c x.2) (ck x.1 (pn c))) ∗ chunk (pp c x.2) (ck x.1 (pn c)) fullShare (V.SB (pp c x.2) (ck x.1 (pn c)))) ⊢ _
  refine BIClass.sep_mono ?_ (toAny _ _ _)
  iintro H; iexists _; iexact H

theorem toSa {B R : sProp 𝕄} : iprop((slots7 V c ∗ B ∗ R ∗ chunk c c fullShare (V.RD c)) ∗ got V fS2 c 31 ∗ St V K c 26 31)
    ⊢ iprop((fin7 c ∗ B ∗ R ∗ keepB c c (V.RD c) ∗ chunk c c shK (V.RD c)) ∗ duesLeft (Xa V c) oa 26 ∗ St V K c 26 31) := by
  rw [duesLeft_all (Xa V c) oa 26 (by decide), cut]
  unfold Xa
  rw [dist]
  iintro ⟨⟨H1, H2, H3, HA, HB, HK⟩, -, H4⟩
  ihave H1 := slots7_split $$ H1
  icases H1 with ⟨H1, H5⟩
  isplitl [H1 H2 H3 HB HK]
  · isplitl [H1]; · iexact H1
    isplitl [H2]; · iexact H2
    isplitl [H3]; · iexact H3
    isplitl [HB]; · iexact HB
    iexact HK
  isplitr [H4]
  · isplitl [HA]; · unfold keepA; iexact HA
    iexact H5
  iexact H4
theorem toRa {R : sProp 𝕄} {n : ℕ} : iprop(R ∗ duesLeft (Xa V c) oa n ∗ St V K c 29 31) ⊢ iprop(R ∗ got V fRa c 31 ∗ St V K c 29 31) := by
  rw [got_zero V fRa c 31 (by decide)]
  iintro ⟨H1, -, H2⟩
  isplitl [H1]; · iexact H1
  isplitr; · iempintro
  iexact H2
/-- What stays of a column: the shares across the planes of the three chunks heard, and a share of each. -/
def colKeep (V : Vals F) (c : Dev nD) : sProp 𝕄 :=
  iprop((bigSep Finset.univ fun s : Fin 3 => keepA c (zp c s.rev) (V.RD (zp c s.rev))) ∗ bigSep Finset.univ fun t : Fin 4 => chunk c (ck t (pn c)) shK (V.RD (ck t (pn c))))

theorem pairs (c : Dev nD) : (bigSep Finset.univ fun t : Fin 4 => keepB c (ck t (pn c)) (V.RD (ck t (pn c))))
    = bigSep Finset.univ fun x : Fin 4 × Fin 3 => chunk c (ck x.1 (pn c)) (shB x.2) (V.RD (ck x.1 (pn c))) := by
  unfold keepB
  exact (bigSep_univ_prod (fun x : Fin 4 × Fin 3 => chunk c (ck x.1 (pn c)) (shB x.2) (V.RD (ck x.1 (pn c))))).symm

theorem toSb {B : sProp 𝕄} : iprop((fin7 c ∗ B ∗ slots6 V c ∗ keepB c c (V.RD c) ∗ chunk c c shK (V.RD c)) ∗ got V fRa c 34 ∗ St V K c 29 34)
    ⊢ iprop((fin7 c ∗ B ∗ fin6 c ∗ colKeep V c) ∗ duesLeft (Xb V c) ob 29 ∗ St V K c 29 34) := by
  rw [duesLeft_all (Xb V c) ob 29 (by decide), got_all V fRa c 34 (by decide)]
  unfold Xb colKeep
  rw [dist, ← pairs, col c (fun k => keepB c k (V.RD k)), col c (fun k => chunk c k shK (V.RD k))]
  have hcut : (bigSep Finset.univ fun s : Fin 3 => dmaPay V c (fRa s)) = iprop((bigSep Finset.univ fun s : Fin 3 => keepA c (zp c s.rev) (V.RD (zp c s.rev)))
      ∗ (bigSep Finset.univ fun s : Fin 3 => keepB c (zp c s.rev) (V.RD (zp c s.rev))) ∗ bigSep Finset.univ fun s : Fin 3 => chunk c (zp c s.rev) shK (V.RD (zp c s.rev))) := by
    rw [← dist, ← dist]
    exact bigSep_congr fun s _ => cut c (zp c s.rev) (V.RD (zp c s.rev))
  rw [hcut]
  iintro ⟨⟨H7, HB, H6, B0, K0⟩, ⟨A1, B1, K1⟩, HS⟩
  ihave H6 := slots6_split $$ H6
  icases H6 with ⟨H6, H8⟩
  isplitl [H7 HB H6 A1 K0 K1]
  · isplitl [H7]; · iexact H7
    isplitl [HB]; · iexact HB
    isplitl [H6]; · iexact H6
    isplitl [A1]; · iexact A1
    isplitl [K0]; · iexact K0
    iexact K1
  isplitr [HS]
  · isplitr [H8]
    · isplitl [B0]; · iexact B0
      iexact B1
    iexact H8
  iexact HS
theorem toRb {R : sProp 𝕄} {n : ℕ} : iprop(R ∗ duesLeft (Xb V c) ob n ∗ St V K c 41 34) ⊢ iprop(R ∗ got V fRb c 34 ∗ St V K c 41 34) := by
  rw [got_zero V fRb c 34 (by decide)]
  iintro ⟨H1, -, H2⟩
  isplitl [H1]; · iexact H1
  isplitr; · iempintro
  iexact H2

/-- What stays of the buffer while it is read: all the shares but one. -/
def bufKeep (V : Vals F) (c : Dev nD) : sProp 𝕄 :=
  iprop((bigSep Finset.univ fun s : Fin 3 => keepA c (zp c s.rev) (V.RD (zp c s.rev)))
    ∗ bigSep Finset.univ fun x : Fin 4 × Fin 3 => iprop(keepA c (ck x.1 (pn (pp c x.2.rev))) (V.RD (ck x.1 (pn (pp c x.2.rev))))
      ∗ keepB c (ck x.1 (pn (pp c x.2.rev))) (V.RD (ck x.1 (pn (pp c x.2.rev))))))

theorem hearB : (bigSep Finset.univ fun x : Fin 4 × Fin 3 => dmaPay V c (fRb x))
    = iprop((bigSep Finset.univ fun x : Fin 4 × Fin 3 => iprop(keepA c (ck x.1 (pn (pp c x.2.rev))) (V.RD (ck x.1 (pn (pp c x.2.rev))))
      ∗ keepB c (ck x.1 (pn (pp c x.2.rev))) (V.RD (ck x.1 (pn (pp c x.2.rev)))))) ∗ bigSep Finset.univ fun x : Fin 4 × Fin 3 => chunk c (ck x.1 (pn (pp c x.2.rev))) shK (V.RD (ck x.1 (pn (pp c x.2.rev))))) := by
  rw [← dist]
  refine bigSep_congr fun x _ => ?_
  refine (cut c (ck x.1 (pn (pp c x.2.rev))) (V.RD (ck x.1 (pn (pp c x.2.rev))))).trans ?_
  exact both Laws.sep_assoc.2 Laws.sep_assoc.1

theorem toWhole {B : sProp 𝕄} : iprop((fin7 c ∗ B ∗ fin6 c ∗ colKeep V c) ∗ got V fRb c 46 ∗ St V K c 41 46)
    ⊢ iprop(owns (c : Thread nD τ) M8 shK (join V.RD) ∗ (fin7 c ∗ B ∗ fin6 c ∗ bufKeep V c) ∗ got V fSa c 46 ∗ St V K c 41 46) := by
  rw [got_all V fRb c 46 (by decide +kernel), got_zero V fSa c 46 (by decide), hearB]
  unfold colKeep bufKeep
  iintro ⟨⟨H7, HB, H6, A1, K1⟩, ⟨AB, K2⟩, HS⟩
  isplitl [K1 K2]
  · iapply (whole8 c shK V.RD)
    rw [plane c (fun k => chunk c k shK (V.RD k))]
    isplitl [K1]; · iexact K1
    iexact K2
  isplitl [H7 HB H6 A1 AB]
  · isplitl [H7]; · iexact H7
    isplitl [HB]; · iexact HB
    isplitl [H6]; · iexact H6
    isplitl [A1]; · iexact A1
    iexact AB
  isplitr; · iempintro
  iexact HS
theorem fromWhole {A R : sProp 𝕄} : iprop(A ∗ R ∗ got V fSa c 46 ∗ St V K c 41 46) ⊢ iprop((A ∗ R) ∗ got V fSa c 46 ∗ St V K c 41 46) := Laws.sep_assoc.2
theorem toSbw {R : sProp 𝕄} : iprop(R ∗ got V fSa c 49 ∗ St V K c 41 49) ⊢ iprop((R ∗ keepA c c (V.RD c)) ∗ got V fSb c 49 ∗ St V K c 41 49) := by
  rw [got_zero V fSb c 49 (by decide +kernel), got_all V fSa c 49 (by decide), show (bigSep Finset.univ fun i => dmaPay V c (fSa i)) = keepA c c (V.RD c) from rfl]
  iintro ⟨H1, H2, H3⟩
  isplitl [H1 H2]
  · isplitl [H1]; · iexact H1
    iexact H2
  isplitr; · iempintro
  iexact H3

/-- All scratch a device shares is its own again. -/
def Done (V : Vals F) (c : Dev nD) (B : sProp 𝕄) : sProp 𝕄 := iprop(fin7 c ∗ B ∗ fin6 c ∗ owns (c : Thread nD τ) M8 fullShare (join V.RD))

theorem cutAll (V : Vals F) (c : Dev nD) : (bigSep Finset.univ fun k => chunk c k fullShare (V.RD k))
    = iprop((((keepA c c (V.RD c) ∗ bigSep Finset.univ fun s : Fin 3 => keepA c (zp c s.rev) (V.RD (zp c s.rev))) ∗ bigSep Finset.univ fun t : Fin 4 => keepB c (ck t (pn c)) (V.RD (ck t (pn c))))
      ∗ bigSep Finset.univ fun x : Fin 4 × Fin 3 => iprop(keepA c (ck x.1 (pn (pp c x.2.rev))) (V.RD (ck x.1 (pn (pp c x.2.rev)))) ∗ keepB c (ck x.1 (pn (pp c x.2.rev))) (V.RD (ck x.1 (pn (pp c x.2.rev))))))
      ∗ bigSep Finset.univ fun k => chunk c k shK (V.RD k)) := by
  have e1 : (bigSep Finset.univ fun k => chunk c k fullShare (V.RD k)) = bigSep Finset.univ (fun k => iprop((keepA c k (V.RD k) ∗ keepB c k (V.RD k)) ∗ chunk c k shK (V.RD k))) :=
    bigSep_congr fun k _ => (cut c k (V.RD k)).trans (both Laws.sep_assoc.2 Laws.sep_assoc.1)
  have e2 := plane c (fun k => iprop(keepA c k (V.RD k) ∗ keepB c k (V.RD k)))
  have e3 := col c (fun k => keepA c k (V.RD k))
  have e4 := dist (Finset.univ : Finset (Fin 4)) (fun t => keepA c (ck t (pn c)) (V.RD (ck t (pn c)))) (fun t => keepB c (ck t (pn c)) (V.RD (ck t (pn c))))
  rw [e1, dist, e2, e4, e3]

theorem wholeOf (V : Vals F) (c : Dev nD) : iprop((((keepA c c (V.RD c) ∗ bigSep Finset.univ fun s : Fin 3 => keepA c (zp c s.rev) (V.RD (zp c s.rev))) ∗ bigSep Finset.univ fun t : Fin 4 => keepB c (ck t (pn c)) (V.RD (ck t (pn c))))
      ∗ bigSep Finset.univ fun x : Fin 4 × Fin 3 => iprop(keepA c (ck x.1 (pn (pp c x.2.rev))) (V.RD (ck x.1 (pn (pp c x.2.rev)))) ∗ keepB c (ck x.1 (pn (pp c x.2.rev))) (V.RD (ck x.1 (pn (pp c x.2.rev))))))
      ∗ bigSep Finset.univ fun k => chunk c k shK (V.RD k)) ⊢ owns (c : Thread nD τ) M8 fullShare (join V.RD) := by
  rw [← cutAll]; exact whole8 c fullShare V.RD

theorem toDone {B : sProp 𝕄} : iprop(((owns (c : Thread nD τ) M8 shK (join V.RD) ∗ fin7 c ∗ B ∗ fin6 c ∗ bufKeep V c) ∗ keepA c c (V.RD c)) ∗ got V fSb c 61 ∗ St V K c 41 61)
    ⊢ iprop(Done V c B ∗ St V K c 41 61) := by
  rw [got_all V fSb c 61 (by decide +kernel),
    show (bigSep Finset.univ fun i => dmaPay V c (fSb i)) = bigSep Finset.univ fun x : Fin 4 × Fin 3 => chunk c (ck x.1 (pn c)) (shB x.2) (V.RD (ck x.1 (pn c))) from rfl, ← pairs]
  unfold bufKeep Done
  iintro ⟨⟨⟨H8, H7, HB, H6, A1, AB⟩, A0⟩, B1, HS⟩
  ihave H8 := (pieces8 c shK V.RD) $$ H8
  isplitr [HS]
  · isplitl [H7]; · iexact H7
    isplitl [HB]; · iexact HB
    isplitl [H6]; · iexact H6
    iapply (wholeOf V c)
    isplitr [H8]
    · isplitr [AB]
      · isplitr [B1]
        · isplitl [A0]; · iexact A0
          iexact A1
        iexact B1
      iexact AB
    iexact H8
  iexact HS

theorem emb5 (inb : ∀ a, (![0, 0] : Fin 2 → ℕ) a + S2048x1024.size a ≤ S2048x1024.size a) (j : S2048x1024.Idx) :
    (Rect.unit (s := S2048x1024) ![0, 0] S2048x1024.size inb).emb j = j := by
  funext a; apply Fin.ext; fin_cases a <;> simp [Rect.unit, Rect.emb]
theorem over5 (inb : ∀ a, (![0, 0] : Fin 2 → ℕ) a + S2048x1024.size a ≤ S2048x1024.size a) (a v : Vec F S2048x1024 .f32) :
    (Rect.unit (s := S2048x1024) ![0, 0] S2048x1024.size inb).overlay a v = v := by
  funext i
  exact (congrArg ((Rect.unit (s := S2048x1024) ![0, 0] S2048x1024.size inb).overlay a v) (emb5 inb i).symm).trans (Rect.overlay_emb _ _ _ _)

theorem ld8w {A R Z : sProp 𝕄} {q : PosShare TreeShare} {a : Vec F S2048x1024 .bf16} {inb : ∀ a, (![0, 0] : Fin 2 → ℕ) a + S2048x1024.size a ≤ S2048x1024.size a} {hl}
    {kk : (S2048x1024.Idx → Elt F .bf16) → Prog (TpuEff nD τ sig (Elt F) Λ₀ .tc) α} {w : α}
    (h : Step c iprop(A ∗ owns (c : Thread nD τ) M8 q a ∗ R) (kk a) w Z) :
    Step c iprop(A ∗ owns (c : Thread nD τ) M8 q a ∗ R)
      (Prog.lift (.load M8 (Rect.unit (s := S2048x1024) ![0, 0] S2048x1024.size inb).toLoadRect hl) >>= kk) w Z := by
  refine op (u := a) (Step.left ?_) h
  have e : sub a (Rect.unit (s := S2048x1024) ![0, 0] S2048x1024.size inb) = a := by
    funext i; exact congrArg a (emb5 inb i)
  have := step_load c M8 q a (Rect.unit (s := S2048x1024) ![0, 0] S2048x1024.size inb) (hl := hl)
  rwa [e] at this

theorem st5w {X : Ins F} {o : Out F} {x : Ctx F} {R Z : sProp 𝕄} {v : Vec F S2048x1024 .f32} {inb : ∀ a, (![0, 0] : Fin 2 → ℕ) a + S2048x1024.size a ≤ S2048x1024.size a} {hx hm}
    {kk : PUnit → Prog (TpuEff nD τ sig (Elt F) Λ₀ .tc) α} {w : α}
    (h : Step c iprop(loc c X v x ∗ R) (kk ⟨⟩) w Z) :
    Step c iprop(loc c X o x ∗ R) (Prog.lift (.store M5 (Rect.unit (s := S2048x1024) ![0, 0] S2048x1024.size inb) v Finset.univ hx hm) >>= kk) w Z := by
  refine Local.st5 ?_
  rwa [over5]

theorem sigx (i : Fin 6) (n : ℕ) (hn : 41 + i.val = n) {A R Z : sProp 𝕄} {dev : Dev nD} (hdev : dev = peer c i) {s : Idealize.ShloMosaic.Sem sig} (hs : s = exitSem)
    {kk : PUnit → Prog (TpuEff nD τ sig (Elt F) Λ₀ .tc) α} {w : α}
    (h : Step c iprop(A ∗ R ∗ St V K c (n + 1) 61) (kk ⟨⟩) w Z) :
    Step c iprop(A ∗ R ∗ St V K c n 61) (semSignalWord dev s 1#32 >>= kk) w Z :=
  op (Step.right (St_exit_signal i hn hdev hs)) h

theorem off47 : ∀ c : Dev nD, k0_off47 c = ![128 * c.val, 0] := by decide +kernel
theorem off48 (c : Dev nD) : ∀ t : Fin 4, k0_off48 c (BitVec.ofNat 32 (4 * t.val)) = ![128 * (ck t (pn c)).val, 0] := by revert c; decide +kernel
theorem devA : ∀ c : Dev nD, k0_dev27 c = (zp c 0).val ∧ k0_dev28 c = (zp c 1).val ∧ k0_dev29 c = (zp c 2).val := by decide +kernel
theorem devB0 : ∀ c : Dev nD, k0_dev30 c = (pp c 0).val := by decide +kernel
theorem devB1 : ∀ c : Dev nD, k0_dev31 c = (pp c 1).val := by decide +kernel
theorem devB2 : ∀ c : Dev nD, k0_dev32 c = (pp c 2).val := by decide +kernel
theorem devB3 : ∀ c : Dev nD, k0_dev33 c = (pp c 0).val := by decide +kernel
theorem devB4 : ∀ c : Dev nD, k0_dev34 c = (pp c 1).val := by decide +kernel
theorem devB5 : ∀ c : Dev nD, k0_dev35 c = (pp c 2).val := by decide +kernel
theorem devB6 : ∀ c : Dev nD, k0_dev36 c = (pp c 0).val := by decide +kernel
theorem devB7 : ∀ c : Dev nD, k0_dev37 c = (pp c 1).val := by decide +kernel
theorem devB8 : ∀ c : Dev nD, k0_dev38 c = (pp c 2).val := by decide +kernel
theorem devB9 : ∀ c : Dev nD, k0_dev39 c = (pp c 0).val := by decide +kernel
theorem devB10 : ∀ c : Dev nD, k0_dev40 c = (pp c 1).val := by decide +kernel
theorem devB11 : ∀ c : Dev nD, k0_dev41 c = (pp c 2).val := by decide +kernel
theorem devX : ∀ c : Dev nD, (∀ h, (⟨k0_dev42 c, h⟩ : Dev nD) = peer c 0) ∧ (∀ h, (⟨k0_dev43 c, h⟩ : Dev nD) = peer c 1) ∧ (∀ h, (⟨k0_dev44 c, h⟩ : Dev nD) = peer c 2)
    ∧ (∀ h, (⟨k0_dev45 c, h⟩ : Dev nD) = peer c 3) ∧ (∀ h, (⟨k0_dev46 c, h⟩ : Dev nD) = peer c 4) ∧ (∀ h, (⟨k0_dev47 c, h⟩ : Dev nD) = peer c 5) := by decide +kernel

end Cert.Attn
-- ==== Proof.Columns.lean ====
/-
  The steps of the gathering, printed part by printed part.
-/
module

public import proofs.«01_k».proof.Proof.Gather

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (V : Vals F) (K : GSem nD τ sig → ℕ) (c : Dev nD) (X : Ins F) (o : Out F) (x : Ctx F)

@[reducible] def part55 (B R : sProp 𝕄) (v2 : BitVec 32) :
    Sem c X o x iprop((slots7 V c ∗ B ∗ R ∗ chunk c c fullShare (V.RD c)) ∗ got V fS2 c 30 ∗ St V K c 26 30) (on (k0_part55 (F := F)) c v2) := by
  apply Sem.mk; rw [k0_part55_eq_skeleton]
  exact
    wt (f := fS2) injS2 2 26 30 rfl rfl (by exact sem13 2 _) (by rfl) <| swap toSa <|
    sndA 0 26 rfl (off47 c) (devA c).1 (by exact sem15 0 _) (by exact sem16 0 _) <|
    sndA 1 27 rfl (off47 c) (devA c).2.1 (by exact sem15 1 _) (by exact sem16 1 _) <| Step.ret _

@[reducible] def part56 (R : sProp 𝕄) (v2 v3 : BitVec 32) :
    Sem c X o x iprop(R ∗ duesLeft (Xa V c) oa 28 ∗ St V K c 28 31) (on (k0_part56 (F := F)) c v2 v3) := by
  apply Sem.mk; rw [k0_part56_eq_skeleton]
  exact
    sndA 2 28 rfl (off47 c) (devA c).2.2 (by exact sem15 2 _) (by exact sem16 2 _) <| swap toRa <|
    wt (f := fRa) injRa 0 29 31 rfl rfl (by exact sem16 0 _) (by rfl) <|
    wt (f := fRa) injRa 1 29 32 rfl rfl (by exact sem16 1 _) (by rfl) <|
    wt (f := fRa) injRa 2 29 33 rfl rfl (by exact sem16 2 _) (by rfl) <| Step.ret _

@[reducible] def part57 (B : sProp 𝕄) (v2 v3 v21 v1826 : BitVec 32) :
    Sem c X o x iprop((fin7 c ∗ B ∗ slots6 V c ∗ keepB c c (V.RD c) ∗ chunk c c shK (V.RD c)) ∗ got V fRa c 34 ∗ St V K c 29 34) (on (k0_part57 (F := F)) c v2 v3 v21 v1826) := by
  apply Sem.mk; rw [k0_part57_eq_skeleton]
  exact
    swap toSb <|
    sndB 0 0 29 rfl (off48 c 0) (devB0 c) (by exact sem17 0 0 _) (by exact sem18 0 0 _) <|
    sndB 0 1 30 rfl (off48 c 0) (devB1 c) (by exact sem17 0 1 _) (by exact sem18 0 1 _) <|
    sndB 0 2 31 rfl (off48 c 0) (devB2 c) (by exact sem17 0 2 _) (by exact sem18 0 2 _) <| Step.ret _

@[reducible] def part58 (R : sProp 𝕄) (v2 v21 v1859 : BitVec 32) :
    Sem c X o x iprop(R ∗ duesLeft (Xb V c) ob 32 ∗ St V K c 32 34) (on (k0_part58 (F := F)) c v2 v21 v1859) := by
  apply Sem.mk; rw [k0_part58_eq_skeleton]
  exact
    sndB 1 0 32 rfl (off48 c 1) (devB3 c) (by exact sem17 1 0 _) (by exact sem18 1 0 _) <|
    sndB 1 1 33 rfl (off48 c 1) (devB4 c) (by exact sem17 1 1 _) (by exact sem18 1 1 _) <| Step.ret _

@[reducible] def part59 (R : sProp 𝕄) (v2 v3 v21 : BitVec 32) :
    Sem c X o x iprop(R ∗ duesLeft (Xb V c) ob 34 ∗ St V K c 34 34) (on (k0_part59 (F := F)) c v2 v3 v21) := by
  apply Sem.mk; rw [k0_part59_eq_skeleton]
  exact
    sndB 1 2 34 rfl (off48 c 1) (devB5 c) (by exact sem17 1 2 _) (by exact sem18 1 2 _) <|
    sndB 2 0 35 rfl (off48 c 2) (devB6 c) (by exact sem17 2 0 _) (by exact sem18 2 0 _) <|
    sndB 2 1 36 rfl (off48 c 2) (devB7 c) (by exact sem17 2 1 _) (by exact sem18 2 1 _) <| Step.ret _

@[reducible] def part60 (R : sProp 𝕄) (v2 v3 v21 : BitVec 32) :
    Sem c X o x iprop(R ∗ duesLeft (Xb V c) ob 37 ∗ St V K c 37 34) (on (k0_part60 (F := F)) c v2 v3 v21) := by
  apply Sem.mk; rw [k0_part60_eq_skeleton]
  exact
    sndB 2 2 37 rfl (off48 c 2) (devB8 c) (by exact sem17 2 2 _) (by exact sem18 2 2 _) <|
    sndB 3 0 38 rfl (off48 c 3) (devB9 c) (by exact sem17 3 0 _) (by exact sem18 3 0 _) <|
    sndB 3 1 39 rfl (off48 c 3) (devB10 c) (by exact sem17 3 1 _) (by exact sem18 3 1 _) <| Step.ret _

@[reducible] def part61 (R : sProp 𝕄) (v1956 z : BitVec 32) :
    Sem c X o x iprop(R ∗ duesLeft (Xb V c) ob 40 ∗ St V K c 40 34) (on (k0_part61 (F := F)) c v1956 z) := by
  apply Sem.mk; rw [k0_part61_eq_skeleton]
  exact
    sndB 3 2 40 rfl (off48 c 3) (devB11 c) (by exact sem17 3 2 _) (by exact sem18 3 2 _) <| swap toRb <|
    wt (f := fRb) injRb (0, 0) 41 34 rfl rfl (by exact sem18 0 0 _) (by rfl) <|
    wt (f := fRb) injRb (0, 1) 41 35 rfl rfl (by exact sem18 0 1 _) (by rfl) <|
    wt (f := fRb) injRb (0, 2) 41 36 rfl rfl (by exact sem18 0 2 _) (by rfl) <| Step.ret _

@[reducible] def part62 (R : sProp 𝕄) :
    Sem c X o x iprop(R ∗ got V fRb c 37 ∗ St V K c 41 37) (on (k0_part62 (F := F))) := by
  apply Sem.mk; rw [k0_part62_eq_skeleton]
  exact
    wt (f := fRb) injRb (1, 0) 41 37 rfl rfl (by exact sem18 1 0 _) (by rfl) <|
    wt (f := fRb) injRb (1, 1) 41 38 rfl rfl (by exact sem18 1 1 _) (by rfl) <|
    wt (f := fRb) injRb (1, 2) 41 39 rfl rfl (by exact sem18 1 2 _) (by rfl) <| Step.ret _

@[reducible] def part63 (R : sProp 𝕄) :
    Sem c X o x iprop(R ∗ got V fRb c 40 ∗ St V K c 41 40) (on (k0_part63 (F := F))) := by
  apply Sem.mk; rw [k0_part63_eq_skeleton]
  exact
    wt (f := fRb) injRb (2, 0) 41 40 rfl rfl (by exact sem18 2 0 _) (by rfl) <|
    wt (f := fRb) injRb (2, 1) 41 41 rfl rfl (by exact sem18 2 1 _) (by rfl) <|
    wt (f := fRb) injRb (2, 2) 41 42 rfl rfl (by exact sem18 2 2 _) (by rfl) <|
    wt (f := fRb) injRb (3, 0) 41 43 rfl rfl (by exact sem18 3 0 _) (by rfl) <| Step.ret _

@[reducible] def part64 (B : sProp 𝕄) :
    Sem c X o x iprop((fin7 c ∗ B ∗ fin6 c ∗ colKeep V c) ∗ got V fRb c 44 ∗ St V K c 41 44) (on (k0_part64 (F := F)) c) := by
  apply Sem.mk; rw [k0_part64_eq_skeleton]
  exact
    wt (f := fRb) injRb (3, 1) 41 44 rfl rfl (by exact sem18 3 1 _) (by rfl) <|
    wt (f := fRb) injRb (3, 2) 41 45 rfl rfl (by exact sem18 3 2 _) (by rfl) <| swap toWhole <| ld8w <| Local.ld5 <| st5w <| swap fromWhole <|
    wt (f := fSa) injSa 0 41 46 rfl rfl (by exact sem15 0 _) (by rfl) <|
    wt (f := fSa) injSa 1 41 47 rfl rfl (by exact sem15 1 _) (by rfl) <| Step.ret _

@[reducible] def part65 (R : sProp 𝕄) :
    Sem c X o x iprop(R ∗ got V fSa c 48 ∗ St V K c 41 48) (on (k0_part65 (F := F)) c) := by
  apply Sem.mk; rw [k0_part65_eq_skeleton]
  exact
    wt (f := fSa) injSa 2 41 48 rfl rfl (by exact sem15 2 _) (by rfl) <| swap toSbw <|
    wt (f := fSb) injSb (0, 0) 41 49 rfl rfl (by exact sem17 0 0 _) (by rfl) <|
    wt (f := fSb) injSb (0, 1) 41 50 rfl rfl (by exact sem17 0 1 _) (by rfl) <|
    wt (f := fSb) injSb (0, 2) 41 51 rfl rfl (by exact sem17 0 2 _) (by rfl) <|
    wt (f := fSb) injSb (1, 0) 41 52 rfl rfl (by exact sem17 1 0 _) (by rfl) <| Step.ret _

@[reducible] def part66 (R : sProp 𝕄) :
    Sem c X o x iprop(R ∗ got V fSb c 53 ∗ St V K c 41 53) (on (k0_part66 (F := F))) := by
  apply Sem.mk; rw [k0_part66_eq_skeleton]
  exact
    wt (f := fSb) injSb (1, 1) 41 53 rfl rfl (by exact sem17 1 1 _) (by rfl) <|
    wt (f := fSb) injSb (1, 2) 41 54 rfl rfl (by exact sem17 1 2 _) (by rfl) <|
    wt (f := fSb) injSb (2, 0) 41 55 rfl rfl (by exact sem17 2 0 _) (by rfl) <|
    wt (f := fSb) injSb (2, 1) 41 56 rfl rfl (by exact sem17 2 1 _) (by rfl) <|
    wt (f := fSb) injSb (2, 2) 41 57 rfl rfl (by exact sem17 2 2 _) (by rfl) <| Step.ret _

@[reducible] def part67 (B : sProp 𝕄) (v24 v27 v30 v32 : BitVec 32) :
    Sem c X o x iprop(((owns (c : Thread nD τ) M8 shK (join V.RD) ∗ fin7 c ∗ B ∗ fin6 c ∗ bufKeep V c) ∗ keepA c c (V.RD c)) ∗ got V fSb c 58 ∗ St V K c 41 58) (on (k0_part67 (F := F)) c v24 v27 v30 v32) := by
  apply Sem.mk; rw [k0_part67_eq_skeleton]
  exact
    wt (f := fSb) injSb (3, 0) 41 58 rfl rfl (by exact sem17 3 0 _) (by rfl) <|
    wt (f := fSb) injSb (3, 1) 41 59 rfl rfl (by exact sem17 3 1 _) (by rfl) <|
    wt (f := fSb) injSb (3, 2) 41 60 rfl rfl (by exact sem17 3 2 _) (by rfl) <| swap toDone <|
    sigx 0 41 rfl ((devX c).1 _) rfl <|
    sigx 1 42 rfl ((devX c).2.1 _) rfl <|
    sigx 2 43 rfl ((devX c).2.2.1 _) rfl <| Step.ret _

end Cert.Attn
-- ==== Proof.Values.lean ====
/-
  What the devices compute and exchange, as functions of their operands alone: the context of each tile and head, the partial result,
  the sums in a plane, the finished chunks.
-/
module

public import proofs.«01_k».proof.Proof.Columns

@[expose] public section

noncomputable section

namespace Cert.Attn

open Cert.KernelIdeal Cert.KernelIdeal.Gen
open Idealize.ShloMosaic
open Idealize.ShloMosaic.TcCoe

variable {F : FTy → Type} [FloatOps F]

/-- The mask of a tile's own keys. -/
def mask : IVec S512x512 1 :=
  k0_pay3 (iota .tc S512x512 32 [0] iota_S512x512_d0_w32) 64#32 k0_pay1 k0_pay2
    (Scalar.subi (Scalar.extui (Scalar.cmpi .sgt 64#32 0#32)) (Scalar.extui (Scalar.cmpi .slt 64#32 0#32)))

theorem inbX : ∀ (t : Fin 4) (a : Fin 2), (![512 * t.val, 0] : Fin 2 → ℕ) a + S512x1024.size a ≤ S2048x1024.size a := by decide
theorem inbK : ∀ (t : Fin 4) (h : Fin 8) (a : Fin 2), (![512 * t.val, 128 * h.val] : Fin 2 → ℕ) a + S512x128.size a ≤ S2048x1024.size a := by decide
theorem inbL1 : ∀ (h : Fin 8) (a : Fin 2), (![0, 128 * h.val] : Fin 2 → ℕ) a + S512x128.size a ≤ S2048x1024.size a := by decide
theorem inbL2 : ∀ (h : Fin 8) (a : Fin 2), (![0, 128 * h.val] : Fin 2 → ℕ) a + S1024x128.size a ≤ S2048x1024.size a := by decide
theorem inbL3 : ∀ (h : Fin 8) (a : Fin 2), (![0, 128 * h.val] : Fin 2 → ℕ) a + S1536x128.size a ≤ S2048x1024.size a := by decide
theorem inbH : ∀ (h : Fin 8) (a : Fin 2), (![0, 128 * h.val] : Fin 2 → ℕ) a + S512x128.size a ≤ S512x1024.size a := by decide
theorem slicesH : ∀ h : Fin 8, S512x1024.Slices ![0, 128 * h.val] S512x128 := by decide

/-- The queries of tile `t`, and those of head `h`. -/
def qT (X : Ins F) (t : Fin 4) : FVec F S512x1024 .bf16 :=
  k0_pay4 (sub X.x0 (Rect.unit (s := S2048x1024) ![512 * t.val, 0] S512x1024.size (inbX t)))
    (sub X.x1 (Rect.unit (s := S1024x1024) ![0, 0] S1024x1024.size inb_S1024x1024_S1024x1024_0_0))
def qH (X : Ins F) (t : Fin 4) (h : Fin 8) : FVec F S512x128 .bf16 := extractStridedSlice S512x128 ![0, 128 * h.val] (qT X t) (slicesH h)
/-- A tile's own keys and values of head `h`. -/
def kD (X : Ins F) (t : Fin 4) (h : Fin 8) : Vec F S512x128 .bf16 := sub X.x2 (Rect.unit (s := S2048x1024) ![512 * t.val, 128 * h.val] S512x128.size (inbK t h))
def vD (X : Ins F) (t : Fin 4) (h : Fin 8) : Vec F S512x128 .f32 := sub X.x3 (Rect.unit (s := S2048x1024) ![512 * t.val, 128 * h.val] S512x128.size (inbK t h))

/-- One head of a tile with 1536 keys before it. -/
def far3 (m : IVec S512x512 1) (q : FVec F S512x128 .bf16) (kd : Vec F S512x128 .bf16) (vd : Vec F S512x128 .f32) (kf : Vec F S1536x128 .bf16) (vf : Vec F S1536x128 .f32) :
    FVec F S512x128 .bf16 :=
  have sd : FVec F S512x512 .f32 := matmul dot_S512x128_S512x128_S512x512_1_1_0_0_n_n none q (shapeCast S512x128 kd shapeCasts_S512x128_S512x128) (constant S512x512 .f32 0x00000000#32)
  have ed : FVec F S512x512 .f32 := select m (exp (mulf sd (broadcast S512x512 (Scalar.ofBits .f32 0x3DB504F3#32)))) (broadcast S512x512 (Scalar.ofBits .f32 0x00000000#32))
  have sf : FVec F S512x1536 .f32 := matmul dot_S512x128_S1536x128_S512x1536_1_1_0_0_n_n none q (shapeCast S1536x128 kf shapeCasts_S1536x128_S1536x128) (constant S512x1536 .f32 0x00000000#32)
  have ef : FVec F S512x1536 .f32 := exp (mulf sf (broadcast S512x1536 (Scalar.ofBits .f32 0x3DB504F3#32)))
  have df : FVec F S512x1 .f32 := shapeCast S512x1 (multiReduction .add [1] S512 ef 0x00000000#32 reduces_S512x1536_S512 (.inl rfl) rfl) shapeCasts_S512_S512x1
  have dd : FVec F S512x1 .f32 := shapeCast S512x1 (multiReduction .add [1] S512 ed 0x00000000#32 reduces_S512x512_S512 (.inl rfl) rfl) shapeCasts_S512_S512x1
  have cf : FVec F S512x128 .f32 := matmul dot_S512x1536_S1536x128_S512x128_1_0_0_1_n_n none ef (shapeCast S1536x128 vf shapeCasts_S1536x128_S1536x128) (constant S512x128 .f32 0x00000000#32)
  have cd : FVec F S512x128 .f32 := matmul dot_S512x512_S512x128_S512x128_1_0_0_1_n_n none ed (shapeCast S512x128 vd shapeCasts_S512x128_S512x128) (constant S512x128 .f32 0x00000000#32)
  have w : FVec F S512x128 .f32 := broadcastTo S512x128 (divf (broadcast S512x1 (Scalar.ofBits .f32 0x3F800000#32)) (addf df dd)) broadcasts_S512x1_S512x128
  shapeCast S512x128 (truncf .bf16 (mulf (addf cf cd) w) bitsLt_bf16_f32) shapeCasts_S512x128_S512x128

/-- The context of tile `t` and head `h`. -/
def hd (X : Ins F) : Fin 4 → Fin 8 → Vec F S512x128 .bf16
  | 0, h => k0_pay6 mask (qH X 0 h) (kD X 0 h) (vD X 0 h)
  | 1, h => k0_pay42 mask (qH X 1 h) (kD X 1 h) (vD X 1 h) (sub X.x2 (Rect.unit (s := S2048x1024) ![0, 128 * h.val] S512x128.size (inbL1 h)))
      (sub X.x3 (Rect.unit (s := S2048x1024) ![0, 128 * h.val] S512x128.size (inbL1 h)))
  | 2, h => k0_pay85 mask (qH X 2 h) (kD X 2 h) (vD X 2 h) (sub X.x2 (Rect.unit (s := S2048x1024) ![0, 128 * h.val] S1024x128.size (inbL2 h)))
      (sub X.x3 (Rect.unit (s := S2048x1024) ![0, 128 * h.val] S1024x128.size (inbL2 h)))
  | 3, h => far3 mask (qH X 3 h) (kD X 3 h) (vD X 3 h) (sub X.x2 (Rect.unit (s := S2048x1024) ![0, 128 * h.val] S1536x128.size (inbL3 h)))
      (sub X.x3 (Rect.unit (s := S2048x1024) ![0, 128 * h.val] S1536x128.size (inbL3 h)))

/-- A position within its head, and within its tile. -/
def inH (i : S512x1024.Idx) : S512x128.Idx := fun a => match a with | 0 => i 0 | 1 => ⟨(i 1).val % 128, Nat.mod_lt _ (by decide)⟩
def inT (i : S2048x1024.Idx) : S512x1024.Idx := fun a => match a with | 0 => ⟨(i 0).val % 512, Nat.mod_lt _ (by decide)⟩ | 1 => i 1

/-- Eight heads side by side. -/
def beside (w : Fin 8 → Vec F S512x128 .bf16) : Ctx F := fun i =>
  w ⟨(i 1).val / 128, by have : (i 1).val < 1024 := (i 1).isLt; omega⟩ (inH i)
def colH (h : Fin 8) : Rect S512x1024 := Rect.unit ![0, 128 * h.val] S512x128.size (inbH h)

theorem over_col_hit (x : Ctx F) (v : Vec F S512x128 .bf16) (h : Fin 8) (i : S512x1024.Idx) (hi : (i 1).val / 128 = h.val) :
    (colH h).overlay x v i = v (inH i) := by
  have e : i = (colH h).emb (inH i) := by
    funext a; apply Fin.ext
    fin_cases a
    · show (i 0).val = 0 + 1 * (i 0).val; omega
    · show (i 1).val = 128 * h.val + 1 * ((i 1).val % 128); omega
  exact (congrArg ((colH h).overlay x v) e).trans (Rect.overlay_emb (colH h) x v (inH i))
theorem over_col_miss (x : Ctx F) (v : Vec F S512x128 .bf16) (h : Fin 8) (i : S512x1024.Idx) (hi : (i 1).val / 128 ≠ h.val) :
    (colH h).overlay x v i = x i := by
  refine Rect.overlay_of_not_mem _ _ _ ?_
  intro hm
  have := (Rect.mem_set_unit.mp hm 1)
  have h1 : 128 * h.val ≤ (i 1).val := this.1
  have h2 : (i 1).val < 128 * h.val + 128 := this.2
  omega

/-- The eight stores of a tile, over anything. -/
theorem cols (x : Ctx F) (w : Fin 8 → Vec F S512x128 .bf16) :
    (colH 7).overlay ((colH 6).overlay ((colH 5).overlay ((colH 4).overlay ((colH 3).overlay ((colH 2).overlay ((colH 1).overlay ((colH 0).overlay x
      (w 0)) (w 1)) (w 2)) (w 3)) (w 4)) (w 5)) (w 6)) (w 7) = beside w := by
  funext i
  have hlt : (i 1).val < 1024 := (i 1).isLt
  unfold beside
  generalize hk : (⟨(i 1).val / 128, by omega⟩ : Fin 8) = k
  have hk' : (i 1).val / 128 = k.val := congrArg Fin.val hk
  fin_cases k
  all_goals
    simp only [] at hk'
    repeat (first | exact over_col_hit _ _ _ i hk' | rw [over_col_miss _ _ _ i (by rw [hk']; decide)])

/-- The context of tile `t`, and its partial result. -/
def ctxT (X : Ins F) (t : Fin 4) : Ctx F := beside (hd X t)
def wT (X : Ins F) (t : Fin 4) : Vec F S512x1024 .f32 :=
  k0_pay19 (sub (ctxT X t) (Rect.unit (s := S512x1024) ![0, 0] S512x1024.size inb_S512x1024_S512x1024_0_0))
    (sub X.x4 (Rect.unit (s := S1024x1024) ![0, 0] S1024x1024.size inb_S1024x1024_S1024x1024_0_0))

/-- The partial result, all tiles. -/
def oF (X : Ins F) : Out F := fun i =>
  wT X ⟨(i 0).val / 512, by have : (i 0).val < 2048 := (i 0).isLt; omega⟩ (inT i)
def rowT (t : Fin 4) : Rect S2048x1024 := Rect.unit ![512 * t.val, 0] S512x1024.size (inbX t)

theorem over_row_hit (o : Out F) (v : Vec F S512x1024 .f32) (t : Fin 4) (i : S2048x1024.Idx) (hi : (i 0).val / 512 = t.val) :
    (rowT t).overlay o v i = v (inT i) := by
  have e : i = (rowT t).emb (inT i) := by
    funext a; apply Fin.ext
    fin_cases a
    · show (i 0).val = 512 * t.val + 1 * ((i 0).val % 512); omega
    · show (i 1).val = 0 + 1 * (i 1).val; omega
  exact (congrArg ((rowT t).overlay o v) e).trans (Rect.overlay_emb (rowT t) o v (inT i))
theorem over_row_miss (o : Out F) (v : Vec F S512x1024 .f32) (t : Fin 4) (i : S2048x1024.Idx) (hi : (i 0).val / 512 ≠ t.val) :
    (rowT t).overlay o v i = o i := by
  refine Rect.overlay_of_not_mem _ _ _ ?_
  intro hm
  have := (Rect.mem_set_unit.mp hm 0)
  have h1 : 512 * t.val ≤ (i 0).val := this.1
  have h2 : (i 0).val < 512 * t.val + 512 := this.2
  omega

/-- The output with the tile `t` in it. -/
def At (X : Ins F) (o : Out F) (t : Fin 4) : Prop := ∀ i : S2048x1024.Idx, (i 0).val / 512 = t.val → o i = oF X i
theorem At_over (X : Ins F) (o : Out F) (t : Fin 4) : At X ((rowT t).overlay o (wT X t)) t := fun i hi => by
  rw [over_row_hit _ _ t i hi]
  unfold oF
  rw [show (⟨(i 0).val / 512, by have : (i 0).val < 2048 := (i 0).isLt; omega⟩ : Fin 4) = t from Fin.ext hi]
theorem At_keep {X : Ins F} {o : Out F} {t t' : Fin 4} (h : At X o t) (hn : t' ≠ t) (v : Vec F S512x1024 .f32) : At X ((rowT t').overlay o v) t := fun i hi => by
  rw [over_row_miss _ _ _ _ (by rw [hi]; exact fun e => hn (Fin.ext e.symm))]; exact h i hi
theorem At_all {X : Ins F} {o : Out F} (h : ∀ t, At X o t) : o = oF X := by
  funext i
  exact h ⟨(i 0).val / 512, by have : (i 0).val < 2048 := (i 0).isLt; omega⟩ i rfl

/-! ## The exchanged chunks -/

variable (X : Dev nD → Ins F)

def vSB (c k : Dev nD) : Chunk F := k0_pay20 (sub (oF (X c)) (chR k))
/-- The sum over device `c`'s plane for tile `t`. -/
def agg (c : Dev nD) (t : Fin 4) : FVec F S128x1024 .f32 :=
  k0_pay138 (sub (oF (X c)) (chR (ck t (pn c)))) (un6 (vSB X (pp c 0) (ck t (pn c)))) (un6 (vSB X (pp c 1) (ck t (pn c)))) (un6 (vSB X (pp c 2) (ck t (pn c))))
def vAG (c : Dev nD) (t : Fin 4) : Chunk F := k0_pay144 (agg X c t)
def acc0 (c : Dev nD) : Vec F S128x1024 .f32 := k0_pay143 (agg X c (zn c))
def vRD (c : Dev nD) : Chunk F :=
  k0_pay155 (k0_pay154 (acc0 X c) (un7 (vAG X (zp c 0) (zn c))) (un7 (vAG X (zp c 1) (zn c)))) (un7 (vAG X (zp c 2) (zn c)))

/-- The exchanged values. -/
def vals : Vals F := ⟨vSB X, vAG X, vRD X⟩

theorem sent_of (c : Dev nD) {o : Out F} {t : Fin 4} (h : At (X c) o t) : Sent (vals X) c o t := by
  intro j
  show _ = k0_pay20 (sub (oF (X c)) (chR (ck t j)))
  congr 1
  funext i
  refine h _ ?_
  have hi : (i 0).val < 128 := (i 0).isLt
  show (128 * (4 * t.val + j.val) + 1 * (i 0).val) / 512 = t.val
  have := j.isLt
  omega

theorem red_of (c : Dev nD) : Red (vals X) c (oF (X c)) (acc0 X c) where
  g0 := rfl
  g1 := rfl
  g2 := rfl
  g3 := rfl
  h0 h := by unfold acc0; rw [h]; rfl
  h1 h := by unfold acc0; rw [h]; rfl
  h2 h := by unfold acc0; rw [h]; rfl
  h3 h := by unfold acc0; rw [h]; rfl
  hR := rfl

end Cert.Attn
-- ==== Proof.Enter.lean ====
/-
  From the barrier to the first tile: what the payments bring.
-/
module

public import proofs.«01_k».proof.Proof.Columns
public import proofs.«01_k».proof.Proof.Values

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {V : Vals F} {K : GSem nD τ sig → ℕ}
def any9 (c : Dev nD) : sProp 𝕄 := iprop(∃ a, owns (c : Thread nD τ) M9 fullShare a)

theorem six (Φ : Fin 6 → sProp 𝕄) : bigSep Finset.univ Φ = iprop(Φ 0 ∗ Φ 1 ∗ Φ 2 ∗ Φ 3 ∗ Φ 4 ∗ Φ 5) := by
  rw [apart (show (Finset.univ : Finset (Fin 6)) = insert 0 {1, 2, 3, 4, 5} by decide) (by decide), apart (show ({1, 2, 3, 4, 5} : Finset (Fin 6)) = insert 1 {2, 3, 4, 5} by decide) (by decide),
    apart (show ({2, 3, 4, 5} : Finset (Fin 6)) = insert 2 {3, 4, 5} by decide) (by decide), apart (show ({3, 4, 5} : Finset (Fin 6)) = insert 3 {4, 5} by decide) (by decide),
    apart (show ({4, 5} : Finset (Fin 6)) = insert 4 {5} by decide) (by decide), bigSep_singleton]

theorem rows (Φ : Fin 4 × Fin 3 → sProp 𝕄) : bigSep Finset.univ Φ
    = iprop((bigSep Finset.univ fun t => Φ (t, 0)) ∗ (bigSep Finset.univ fun t => Φ (t, 1)) ∗ bigSep Finset.univ fun t => Φ (t, 2)) := by
  rw [bigSep_univ_prod, bigSep_congr (fun t _ => three fun s => Φ (t, s)), dist, dist]

theorem ge_zero : ge 0 = Finset.univ := by decide
theorem mine_zero : ∀ c : Dev nD, mine c 0 = ∅ := by decide +kernel
theorem left_zero : ∀ c : Dev nD, left c 0 = Finset.univ := by decide +kernel
theorem left2_zero : ∀ c : Dev nD, left2 c 0 = Finset.univ := by decide +kernel

/-- A place of the first buffer on the peers, and of the second. -/
def room6 (c : Dev nD) (x : Fin 4 × Fin 3) : sProp 𝕄 := iprop(∃ v : Chunk F, slot6 (pp c x.2.rev) x.1 x.2 v)
def room7 (c : Dev nD) (s : Fin 3) : sProp 𝕄 := iprop(∃ v : Chunk F, slot7 (zp c s.rev) s v)

theorem paid (c : Dev nD) : bigSep Finset.univ (barPay c) ⊢ iprop((bigSep Finset.univ (room6 (F := F) c)) ∗ (bigSep Finset.univ (room7 c)) ∗ Peers c) := by
  rw [six, rows, three]
  unfold Peers
  rw [six]
  have e : ∀ i : Fin 6, barPay c i = (if i.val < 3 then iprop((bigSep Finset.univ fun t : Fin 4 => room6 (F := F) c (t, (f3 i.val).rev)) ∗ reach (peer c i))
      else iprop(room7 c (f3 i.val).rev ∗ reach (peer c i)) : sProp 𝕄) := by
    intro i
    unfold barPay peer room6 room7
    simp only [Fin.rev_rev]
    split <;> rfl
  rw [e, e, e, e, e, e]
  show iprop((_ ∗ _) ∗ (_ ∗ _) ∗ (_ ∗ _) ∗ (_ ∗ _) ∗ (_ ∗ _) ∗ (_ ∗ _)) ⊢ _
  iintro ⟨⟨H0, R0⟩, ⟨H1, R1⟩, ⟨H2, R2⟩, ⟨H3, R3⟩, ⟨H4, R4⟩, ⟨H5, R5⟩⟩
  isplitl [H0 H1 H2]
  · isplitl [H2]; · iexact H2
    isplitl [H1]; · iexact H1
    iexact H0
  isplitl [H3 H4 H5]
  · isplitl [H5]; · iexact H5
    isplitl [H4]; · iexact H4
    iexact H3
  isplitl [R0]; · iexact R0
  isplitl [R1]; · iexact R1
  isplitl [R2]; · iexact R2
  isplitl [R3]; · iexact R3
  isplitl [R4]; · iexact R4
  iexact R5

theorem enter (Xs : Dev nD → Ins F) (c : Dev nD) (o : Out F) (x : Ctx F) :
    iprop((loc c (Xs c) o x ∗ (bigSep Finset.univ fun k => chunkAny c k) ∗ any9 c) ∗ bigSep Finset.univ (barPay c) ∗ G (vals Xs) K c 6 1)
      ⊢ iprop((loc c (Xs c) o x ∗ Mem1 (vals Xs) c 0 ∗ St (vals Xs) K c 6 1) ∗ Dst7 c ∗ any9 c) := by
  unfold Mem1 Dst7 St
  rw [ge_zero, mine_zero, left_zero, left2_zero, bigSep_empty]
  iintro ⟨⟨H1, H2, H3⟩, H4, H5⟩
  ihave H6 := (paid c) $$ H4
  icases H6 with ⟨H6, H7, H8⟩
  isplitl [H1 H2 H5 H6 H8]
  · isplitl [H1]; · iexact H1
    isplitl [H2 H6]
    · isplitl [H2]; · iexact H2
      isplitr; · iempintro
      iexact H6
    isplitl [H8]; · iexact H8
    iexact H5
  isplitl [H7]; · iexact H7
  iexact H3

end Cert.Attn
-- ==== Proof.Body.lean ====
/-
  The body, run from its first operation to its last.
-/
module

public import proofs.«01_k».proof.Proof.Enter

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The numbers of the device -/

theorem step_dev (c : Dev nD) {β : Type} (P : sProp 𝕄) (f : Dev nD → β) :
    Step c P ((Prog.lift .deviceId : Prog (TpuEff nD τ sig (Elt F) Λ₀ .tc) (Dev nD)) >>= fun d => pure (f d)) (f c) P := by
  refine Step.bind (v := c) (P' := P) ?_ (Step.ret _)
  intro Q
  have e : run c (Prog.lift .deviceId : Prog (TpuEff nD τ sig (Elt F) Λ₀ .tc) (Dev nD)) Q = iprop(|={Set.univ}=> Q c) := by
    unfold run
    show wp frame _ Set.univ (Prog.op (TpuEff.deviceId : TpuEff nD τ sig (Elt F) Λ₀ .tc (Dev nD)) fun i => Prog.ret i) Q = _
    rw [wp_deviceId, wp_ret]
  rw [e]
  iintro HP HQ
  imodintro
  iapply HQ $$ HP

theorem plane_is : ∀ c : Dev nD, ∀ v : BitVec 32, v = BitVec.ofNat 32 (zn c).val →
    ((Scalar.cmpi .ne (Scalar.extui (Scalar.cmpi .eq v 0#32)) 0#32 = 1#1 ↔ zn c = 0)
      ∧ (Scalar.cmpi .ne (Scalar.extui (Scalar.cmpi .eq v 1#32)) 0#32 = 1#1 ↔ zn c = 1)
      ∧ (Scalar.cmpi .ne (Scalar.extui (Scalar.cmpi .eq v 2#32)) 0#32 = 1#1 ↔ zn c = 2)
      ∧ (Scalar.cmpi .ne (Scalar.extui (Scalar.cmpi .eq v 3#32)) 0#32 = 1#1 ↔ zn c = 3)) := by
  intro c v hv; subst hv; revert c; decide +kernel

/-- The first part reads the device's number and computes its place in the mesh. -/
theorem part1 (c : Dev nD) (P : sProp 𝕄) : ∃ v, Step c P (on (k0_part1 (F := F))) v P ∧ v.1 = c ∧ v.2.2.2.1 = BitVec.ofNat 32 (zn c).val :=
  ⟨_, step_dev c P _, rfl, by clear P; revert c; decide +kernel⟩

/-- The second signals the peers and waits for theirs. -/
theorem devS : ∀ c : Dev nD, (∀ h, (⟨k0_dev1 c, h⟩ : Dev nD) = peer c 0) ∧ (∀ h, (⟨k0_dev2 c, h⟩ : Dev nD) = peer c 1) ∧ (∀ h, (⟨k0_dev3 c, h⟩ : Dev nD) = peer c 2)
    ∧ (∀ h, (⟨k0_dev4 c, h⟩ : Dev nD) = peer c 3) ∧ (∀ h, (⟨k0_dev5 c, h⟩ : Dev nD) = peer c 4) ∧ (∀ h, (⟨k0_dev6 c, h⟩ : Dev nD) = peer c 5) := by decide +kernel

variable {V : Vals F} {K : GSem nD τ sig → ℕ}

theorem sigB {c : Dev nD} {A R Z : sProp 𝕄} (i : Fin 6) (n : ℕ) (hn : n = i.val) {dev : Dev nD} (hdev : dev = peer c i) {s : Idealize.ShloMosaic.Sem sig} (hs : s = barSem) {α : Type}
    {k : PUnit → Prog (TpuEff nD τ sig (Elt F) Λ₀ .tc) α} {w : α} (h : Step c iprop(A ∗ R ∗ G V K c (n + 1) 0) (k ⟨⟩) w Z) :
    Step c iprop(A ∗ (barGive c i ∗ R) ∗ G V K c n 0) (semSignalWord dev s 1#32 >>= k) w Z := by
  subst hn
  refine swap (B' := iprop((barGive c i ∗ G V K c i.val 0) ∗ R)) ?_ (op (P' := iprop(G V K c (i.val + 1) 0 ∗ R)) (u := ⟨⟩) (Step.left (G_barrier_signal i hdev hs)) (swap ?_ h))
  · iintro ⟨⟨H1, H2⟩, H3⟩
    isplitl [H1 H3]
    · isplitl [H1]; · iexact H1
      iexact H3
    iexact H2
  · iintro ⟨H1, H2⟩
    isplitl [H2]; · iexact H2
    iexact H1

/-- What a device's barrier signals hand over. -/
def give (c : Dev nD) : sProp 𝕄 := iprop(barGive c 0 ∗ barGive c 1 ∗ barGive c 2 ∗ barGive c 3 ∗ barGive c 4 ∗ barGive c 5 ∗ emp)

theorem part2 (c : Dev nD) (A : sProp 𝕄) (v24 v27 v30 v32 v34 v36 : BitVec 32) :
    Step c iprop(A ∗ give c ∗ G V K c 0 0) (on (k0_part2 (F := F)) c v24 v27 v30 v32 v34 v36)
      ⟨iota .tc S512x512 32 [0] iota_S512x512_d0_w32, 64#32, k0_pay1, k0_pay2, Scalar.subi (Scalar.extui (Scalar.cmpi .sgt 64#32 0#32)) (Scalar.extui (Scalar.cmpi .slt 64#32 0#32))⟩
      iprop(A ∗ bigSep Finset.univ (barPay c) ∗ G V K c 6 1) := by
  rw [k0_part2_eq_skeleton]
  unfold give
  refine sigB 0 0 rfl ((devS c).1 _) rfl <| sigB 1 1 rfl ((devS c).2.1 _) rfl <| sigB 2 2 rfl ((devS c).2.2.1 _) rfl <|
    sigB 3 3 rfl ((devS c).2.2.2.1 _) rfl <| sigB 4 4 rfl ((devS c).2.2.2.2.1 _) rfl <| sigB 5 5 rfl ((devS c).2.2.2.2.2 _) rfl <| ?_
  refine swap (B' := G V K c 6 0) ?_ (op (u := ⟨⟩) (G_barrier_wait rfl) (Step.ret _))
  iintro ⟨-, H⟩
  iexact H

/-! ## The tiles -/

theorem fold {c : Dev nD} {X : Ins F} {o o' : Out F} {x x' : Ctx F} {S : sProp 𝕄} (hx : x = x') (ho : o = o') :
    iprop(loc c X o x ∗ S) ⊢ iprop(loc c X o' x' ∗ S) := by subst hx ho; exact .rfl

/-- The output with the first tiles' partial results in it. -/
def o1 (X : Ins F) (o : Out F) : Out F := (rowT 0).overlay o (wT X 0)
def o2 (X : Ins F) (o : Out F) : Out F := (rowT 1).overlay (o1 X o) (wT X 1)
def o3 (X : Ins F) (o : Out F) : Out F := (rowT 2).overlay (o2 X o) (wT X 2)
def o4 (X : Ins F) (o : Out F) : Out F := (rowT 3).overlay (o3 X o) (wT X 3)

theorem o4_eq (X : Ins F) (o : Out F) : o4 X o = oF X := At_all fun t => by
  fin_cases t
  · exact At_keep (At_keep (At_keep (At_over X o 0) (by decide) _) (by decide) _) (by decide) _
  · exact At_keep (At_keep (At_over X (o1 X o) 1) (by decide) _) (by decide) _
  · exact At_keep (At_over X (o2 X o) 2) (by decide) _
  · exact At_over X (o3 X o) 3

/-- A tile's partial result, stored. -/
abbrev put (X : Ins F) (t : Fin 4) (o : Out F) (y : Ctx F) : Out F :=
  (rowT t).overlay o (k0_pay19 (sub y (Rect.unit (s := S512x1024) ![0, 0] S512x1024.size inb_S512x1024_S512x1024_0_0))
    (sub X.x4 (Rect.unit (s := S1024x1024) ![0, 0] S1024x1024.size inb_S1024x1024_S1024x1024_0_0)))

theorem sent_eq {V : Vals F} {c : Dev nD} {o o' : Out F} {t : Fin 4} (h : o = o') (s : Sent V c o' t) : Sent V c o t := h ▸ s

/-- The accumulator, at anything. -/
theorem toSum (Xs : Dev nD → Ins F) (c : Dev nD) (o : Out F) :
    iprop((loc c (Xs c) (o4 (Xs c) o) (ctxT (Xs c) 3) ∗ Mem1 (vals Xs) c 16 ∗ got (vals Xs) fR1 c 12 ∗ St (vals Xs) K c 22 12) ∗ Dst7 c ∗ any9 c)
      ⊢ iprop(loc c (Xs c) (oF (Xs c)) (ctxT (Xs c) 3) ∗ (Mem1 (vals Xs) c 16 ∗ Dst7 c ∗ acc9 c 0 (acc0 Xs c)) ∗ got (vals Xs) fR1 c 12 ∗ St (vals Xs) K c 22 12) := by
  rw [o4_eq]
  unfold any9 acc9
  iintro ⟨⟨H1, H2, H3, H4⟩, H5, ⟨%a, H6⟩⟩
  isplitl [H1]; · iexact H1
  isplitl [H2 H5 H6]
  · isplitl [H2]; · iexact H2
    isplitl [H5]; · iexact H5
    iexists a
    isplitr; · ipureintro; omega
    iexact H6
  isplitl [H3]; · iexact H3
  iexact H4

/-- Some value the code may end with, and what is known of it. -/
def Ends {α : Type} (c : Dev nD) (P : sProp 𝕄) (p : Prog (TpuEff nD τ sig (Elt F) Λ₀ .tc) α) (P' : sProp 𝕄) (φ : α → Prop) : Prop :=
  ∃ v, Step c P p v P' ∧ φ v

theorem Ends.bind {α β : Type} {c : Dev nD} {P P' P'' : sProp 𝕄} {p : Prog (TpuEff nD τ sig (Elt F) Λ₀ .tc) α} {k : α → Prog (TpuEff nD τ sig (Elt F) Λ₀ .tc) β}
    {v : α} {φ : β → Prop} (h : Step c P p v P') (h' : Ends c P' (k v) P'' φ) : Ends c P (p >>= k) P'' φ := by
  obtain ⟨w, hs, hw⟩ := h'
  exact ⟨w, Step.bind h hs, hw⟩

theorem Ends.pre {α : Type} {c : Dev nD} {P P' R : sProp 𝕄} {p : Prog (TpuEff nD τ sig (Elt F) Λ₀ .tc) α} {φ : α → Prop} (e : R ⊢ P)
    (h : Ends c P p P' φ) : Ends c R p P' φ := by
  obtain ⟨w, hs, hw⟩ := h
  exact ⟨w, Step.pre e hs, hw⟩

set_option maxHeartbeats 4000000 in
theorem part68 (Xs : Dev nD → Ins F) (c : Dev nD) (o : Out F) (x : Ctx F) :
    Ends c iprop((loc c (Xs c) o x ∗ (bigSep Finset.univ fun k => chunkAny c k) ∗ any9 c) ∗ give c ∗ G (vals Xs) K c 0 0) (on (k0_part68 (F := F)))
      iprop(loc c (Xs c) (oF (Xs c)) (ctxT (Xs c) 3) ∗ (fin7 c ∗ owns (c : Thread nD τ) M9 fullShare (acc0 Xs c) ∗ fin6 c ∗ colKeep (vals Xs) c) ∗ duesLeft (Xb (vals Xs) c) ob 40 ∗ St (vals Xs) K c 40 34) (fun v => v.1 = c) := by
  obtain ⟨⟨d0, v2, v3, v20, v21, v24, v27, v30, v32, v34, v36⟩, h1, hd, hz⟩ := part1 (F := F) c iprop((loc c (Xs c) o x ∗ (bigSep Finset.univ fun k => chunkAny c k) ∗ any9 c) ∗ give c ∗ G (vals Xs) K c 0 0)
  dsimp only at hd hz
  subst hd
  have hz := plane_is d0 v20 hz
  have s0 : Sent (vals Xs) d0 (o1 (Xs d0) o) 0 := sent_of Xs d0 (At_over (Xs d0) o 0)
  have s1 : Sent (vals Xs) d0 (o2 (Xs d0) o) 1 := sent_of Xs d0 (At_over (Xs d0) _ 1)
  have s2 : Sent (vals Xs) d0 (o3 (Xs d0) o) 2 := sent_of Xs d0 (At_over (Xs d0) _ 2)
  have s3 : Sent (vals Xs) d0 (o4 (Xs d0) o) 3 := sent_of Xs d0 (At_over (Xs d0) _ 3)
  refine Ends.bind h1 ?_
  refine Ends.bind (part2 d0 _ _ _ _ _ _ _) ?_
  refine Ends.pre (enter Xs d0 o x) ?_
  refine Ends.bind (Step.left (part3 d0 (Xs d0) _ _ _ _ _ _ _ _).step) ?_
  refine Ends.bind (Step.left (part4 d0 (Xs d0) _ _ _ _ _ _ _).step) ?_
  refine Ends.bind (Step.left (part5 d0 (Xs d0) _ _ _ _ _ _).step) ?_
  refine Ends.bind (Step.left (part6 d0 (Xs d0) _ _ _ _ _ _ _).step) ?_
  refine Ends.bind (Step.left (part7 d0 (Xs d0) _ _ _ _ _ _ _).step) ?_
  refine Ends.bind (Step.left (part8 (vals Xs) d0 (Xs d0) _ _ _ _ _ _).step) ?_
  refine Ends.pre (sep_mono_left (fold (x' := ctxT (Xs d0) 0) (o' := o1 (Xs d0) o) ?_ ?_)) ?_
  · exact cols x (hd (Xs d0) 0)
  · exact congrArg (put (Xs d0) 0 o) (cols x (hd (Xs d0) 0))
  refine Ends.bind (Step.left (part9 (vals Xs) K d0 (Xs d0) _ _ _ _ _ (by exact (congrArg (fun y => k0_pay20 (sub (put (Xs d0) 0 o y) (chR (ck 0 0)))) (cols x (hd (Xs d0) 0))).trans (s0 0)) s0).step) ?_
  refine Ends.bind (Step.left (part10 (vals Xs) K d0 (Xs d0) _ _ _ _ _ (by exact s0 2) s0).step) ?_
  refine Ends.bind (Step.left (part11 (vals Xs) K d0 (Xs d0) _ _ _ _ _ _ (by exact s0 3)).step) ?_
  refine Ends.bind (Step.left (part12 d0 (Xs d0) _ _ _ _ _ _ _).step) ?_
  refine Ends.bind (Step.left (part13 d0 (Xs d0) _ _ _ _ _ _ _).step) ?_
  refine Ends.bind (Step.left (part14 d0 (Xs d0) _ _ _ _ _ _).step) ?_
  refine Ends.bind (Step.left (part15 d0 (Xs d0) _ _ _ _ _).step) ?_
  refine Ends.bind (Step.left (part16 d0 (Xs d0) _ _ _ _ _ _ _).step) ?_
  refine Ends.bind (Step.left (part17 d0 (Xs d0) _ _ _ _ _ _ _ _).step) ?_
  refine Ends.bind (Step.left (part18 d0 (Xs d0) _ _ _ _ _ _ _).step) ?_
  refine Ends.pre (sep_mono_left (fold (x' := ctxT (Xs d0) 1) (o' := o2 (Xs d0) o) ?_ ?_)) ?_
  · exact cols (ctxT (Xs d0) 0) (hd (Xs d0) 1)
  · exact congrArg (put (Xs d0) 1 (o1 (Xs d0) o)) (cols (ctxT (Xs d0) 0) (hd (Xs d0) 1))
  refine Ends.bind (Step.left (part19 (vals Xs) K d0 (Xs d0) _ _ _ _ _ (by exact (congrArg (fun y => k0_pay50 (sub (put (Xs d0) 1 (o1 (Xs d0) o) y) (chR (ck 1 0)))) (cols (ctxT (Xs d0) 0) (hd (Xs d0) 1))).trans (s1 0)) s1).step) ?_
  refine Ends.bind (Step.left (part20 (vals Xs) K d0 (Xs d0) _ _ _ _ _ _ _ (by exact s1 1) s1).step) ?_
  refine Ends.bind (Step.left (part21 (vals Xs) K d0 (Xs d0) _ _ _ _ _ _ _ (by exact s1 3)).step) ?_
  refine Ends.bind (Step.left (part22 d0 (Xs d0) _ _ _ _ _ _ _ _ _).step) ?_
  refine Ends.bind (Step.left (part23 d0 (Xs d0) _ _ _ _ _ _ _ _ _ _ _).step) ?_
  refine Ends.bind (Step.left (part24 d0 (Xs d0) _ _ _ _ _ _ _).step) ?_
  refine Ends.bind (Step.left (part25 d0 (Xs d0) _ _ _ _ _ _ _).step) ?_
  refine Ends.bind (Step.left (part26 d0 (Xs d0) _ _ _ _ _ _).step) ?_
  refine Ends.bind (Step.left (part27 d0 (Xs d0) _ _ _ _ _).step) ?_
  refine Ends.bind (Step.left (part28 d0 (Xs d0) _ _ _ _ _ _).step) ?_
  refine Ends.pre (sep_mono_left (fold (x' := ctxT (Xs d0) 2) (o' := o2 (Xs d0) o) ?_ ?_)) ?_
  · exact cols (ctxT (Xs d0) 1) (hd (Xs d0) 2)
  · rfl
  refine Ends.bind (Step.left (part29 (vals Xs) K d0 (Xs d0) _ _ _ _ _ _ _ (by exact sent_eq (congrArg (put (Xs d0) 2 (o2 (Xs d0) o)) (cols (ctxT (Xs d0) 1) (hd (Xs d0) 2))) s2)).step) ?_
  refine Ends.pre (sep_mono_left (fold (x' := ctxT (Xs d0) 2) (o' := o3 (Xs d0) o) ?_ ?_)) ?_
  · rfl
  · exact congrArg (put (Xs d0) 2 (o2 (Xs d0) o)) (cols (ctxT (Xs d0) 1) (hd (Xs d0) 2))
  refine Ends.bind (Step.left (part30 (vals Xs) K d0 (Xs d0) _ _ _ _ _ _ (by exact (congrArg (fun y => k0_pay20 (sub (put (Xs d0) 2 (o2 (Xs d0) o) y) (chR (ck 2 1)))) (cols (ctxT (Xs d0) 1) (hd (Xs d0) 2))).trans (s2 1)) s2).step) ?_
  refine Ends.bind (Step.left (part31 (vals Xs) K d0 (Xs d0) _ _ _ _ _ _ _ (by exact s2 3)).step) ?_
  refine Ends.bind (Step.left (part32 d0 (Xs d0) _ _ _ _ _ _ _ _).step) ?_
  refine Ends.bind (Step.left (part33 d0 (Xs d0) _ _ _ _ _ _ _ _ _).step) ?_
  refine Ends.bind (Step.left (part34 d0 (Xs d0) _ _ _ _ _ _ _ _ _).step) ?_
  refine Ends.bind (Step.left (part35 d0 (Xs d0) _ _ _ _ _ _ _ _ _ _ _).step) ?_
  refine Ends.bind (Step.left (part36 d0 (Xs d0) _ _ _ _ _ _ _).step) ?_
  refine Ends.bind (Step.left (part37 d0 (Xs d0) _ _ _ _ _ _ _).step) ?_
  refine Ends.bind (Step.left (part38 d0 (Xs d0) _ _ _ _ _ _).step) ?_
  refine Ends.pre (sep_mono_left (fold (x' := ctxT (Xs d0) 3) (o' := o3 (Xs d0) o) ?_ ?_)) ?_
  · exact cols (ctxT (Xs d0) 2) (hd (Xs d0) 3)
  · rfl
  refine Ends.bind (Step.left (part39 (vals Xs) K d0 (Xs d0) _ _ _ _ (by exact s3)).step) ?_
  refine Ends.pre (sep_mono_left (fold (x' := ctxT (Xs d0) 3) (o' := o4 (Xs d0) o) (by rfl) (by rfl))) ?_
  refine Ends.bind (Step.left (part40 (vals Xs) K d0 (Xs d0) _ _ _ _ _ _ (by exact s3 1) (by exact s3)).step) ?_
  refine Ends.bind (Step.left (part41 (vals Xs) K d0 (Xs d0) _ _ _ _ _ (by exact s3 3)).step) ?_
  refine Ends.bind (Step.left (part42 (vals Xs) K d0 (Xs d0) _ _ _).step) ?_
  refine Ends.bind (Step.left (part43 (vals Xs) K d0 (Xs d0) _ _ _ 0 0).step) ?_
  refine Ends.bind (Step.left (part44 (vals Xs) K d0 (Xs d0) _ _ _).step) ?_
  refine Ends.pre (P := iprop(loc d0 (Xs d0) (oF (Xs d0)) (ctxT (Xs d0) 3) ∗ (Mem1 (vals Xs) d0 16 ∗ Dst7 d0 ∗ acc9 d0 0 (acc0 Xs d0)) ∗ got (vals Xs) fR1 d0 12 ∗ St (vals Xs) K d0 22 12)) (toSum Xs d0 o) ?_
  refine Ends.bind (part45 (vals Xs) K d0 (Xs d0) _ _ (acc0 Xs d0) (red_of Xs d0) _ _ hz.1).step ?_
  refine Ends.bind (part46 (vals Xs) K d0 (Xs d0) _ _ (acc0 Xs d0) _ _ _ _ (by exact (red_of Xs d0).g0)).step ?_
  refine Ends.bind (part47 (vals Xs) K d0 (Xs d0) _ _ (acc0 Xs d0) _ _ _ _ _ _ (by exact hz.2.1) (by exact (red_of Xs d0).h1) (by exact (red_of Xs d0).g1)).step ?_
  refine Ends.bind (part48 (vals Xs) K d0 (Xs d0) _ _ (acc0 Xs d0) _ _ _ _ _ hz.2.2.1 (by exact (red_of Xs d0).h2) (by exact (red_of Xs d0).g2)).step ?_
  refine Ends.bind (part49 (vals Xs) K d0 (Xs d0) _ _ (acc0 Xs d0) _ _ _ _ _ _ hz.2.2.2 (by exact (red_of Xs d0).h3) (by exact (red_of Xs d0).g3)).step ?_
  refine Ends.bind (part50 (vals Xs) K d0 (Xs d0) _ _ _ (acc0 Xs d0)).step ?_
  refine Ends.bind (part51 (vals Xs) K d0 (Xs d0) _ _ _ _ _ _).step ?_
  refine Ends.bind (part52 (vals Xs) K d0 (Xs d0) _ _ _).step ?_
  refine Ends.bind (part53 (vals Xs) K d0 (Xs d0) _ _ _).step ?_
  refine Ends.bind (part54 (vals Xs) K d0 (Xs d0) _ _ _).step ?_
  refine Ends.bind (part55 (vals Xs) K d0 (Xs d0) _ _ _ _ _).step ?_
  refine Ends.bind (part56 (vals Xs) K d0 (Xs d0) _ _ _ _ _).step ?_
  refine Ends.bind (part57 (vals Xs) K d0 (Xs d0) _ _ _ _ _ _ _).step ?_
  refine Ends.bind (part58 (vals Xs) K d0 (Xs d0) _ _ _ _ _ _).step ?_
  refine Ends.bind (part59 (vals Xs) K d0 (Xs d0) _ _ _ _ _ _).step ?_
  refine Ends.bind (part60 (vals Xs) K d0 (Xs d0) _ _ _ _ _ _).step ?_
  exact ⟨_, Step.ret _, rfl⟩

/-- The whole body: every device ends with the sum of all of them. -/
theorem body (Xs : Dev nD → Ins F) (c : Dev nD) (o : Out F) (x : Ctx F) :
    Step c iprop((loc c (Xs c) o x ∗ (bigSep Finset.univ fun k => chunkAny c k) ∗ any9 c) ∗ give c ∗ G (vals Xs) K c 0 0) (on (cc0_body (F := F))) ⟨⟩
      iprop(loc c (Xs c) (k0_pay156 (join (vals Xs).RD)) (ctxT (Xs c) 3) ∗ Done (vals Xs) c (owns (c : Thread nD τ) M9 fullShare (acc0 Xs c)) ∗ St (vals Xs) K c 47 62) := by
  obtain ⟨⟨d0, v24, v27, v30, v32, v34, v36, v1956, w⟩, h, hd⟩ := part68 (K := K) Xs c o x
  dsimp only at hd
  subst hd
  rw [cc0_body_eq_skeleton]
  refine Step.bind h ?_
  refine Step.bind (part61 (vals Xs) K d0 (Xs d0) _ _ _ _ _).step ?_
  refine Step.bind (part62 (vals Xs) K d0 (Xs d0) _ _ _).step ?_
  refine Step.bind (part63 (vals Xs) K d0 (Xs d0) _ _ _).step ?_
  refine Step.bind (part64 (vals Xs) K d0 (Xs d0) _ _ _).step ?_
  refine Step.bind (part65 (vals Xs) K d0 (Xs d0) _ _ _).step ?_
  refine Step.bind (part66 (vals Xs) K d0 (Xs d0) _ _ _).step ?_
  refine Step.bind (part67 (vals Xs) K d0 (Xs d0) _ _ _ _ _ _ _).step ?_
  refine sigx 3 44 rfl ((devX d0).2.2.2.1 _) rfl ?_
  refine sigx 4 45 rfl ((devX d0).2.2.2.2.1 _) rfl ?_
  refine sigx 5 46 rfl ((devX d0).2.2.2.2.2 _) rfl ?_
  exact op (Step.right (St_exit_wait rfl)) (Step.ret _)

end Cert.Attn
-- ==== Proof.Start.lean ====
/-
  The start of the protocol: every semaphore's invariant made, the positions, tokens and credits dealt to the devices; and its end:
  every semaphore's counter back at zero.
-/
module

public import proofs.«01_k».proof.Proof.Ghost

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores of the kernel's own -/

/-- All kinds but the barrier. -/
def scK : Option DK → CK | none => .exit | some k => .d k
theorem scK_inj : Function.Injective scK := by
  intro a b h
  cases a <;> cases b <;> simp [scK] at h ⊢ <;> exact h
theorem scK_ne (k : Option DK) : scK k ≠ .bar := by cases k <;> simp [scK]
/-- The kernel's own semaphores. -/
def osem (k : Option DK) : SemLoc sig := (scK k).sem

theorem kinds : (Finset.univ : Finset CK) = insert .bar (Finset.univ.map ⟨scK, scK_inj⟩) := by
  ext k
  refine ⟨fun _ => ?_, fun _ => Finset.mem_univ _⟩
  rw [Finset.mem_insert, Finset.mem_map]
  cases k with
  | bar => exact .inl rfl
  | exit => exact .inr ⟨none, Finset.mem_univ _, rfl⟩
  | d k => exact .inr ⟨some k, Finset.mem_univ _, rfl⟩

theorem by_kind (Φ : CK → sProp 𝕄) : bigSep Finset.univ Φ = iprop(Φ .bar ∗ bigSep Finset.univ fun k => Φ (scK k)) := by
  rw [kinds, bigSep_one (by rw [Finset.mem_map]; rintro ⟨k, -, h⟩; exact scK_ne k h), bigSep_map]
  rfl

def barEmb : Dev nD ↪ GSem nD τ sig := ⟨fun c => cel c .bar, fun _ _ h => (cel_inj h).1⟩
def scEmb : Dev nD × Option DK ↪ GSem nD τ sig :=
  ⟨fun x => cel x.1 (scK x.2), fun _ _ h => Prod.ext (cel_inj h).1 (scK_inj (cel_inj h).2)⟩
abbrev barCells : Finset (GSem nD τ sig) := Finset.univ.map barEmb
abbrev scCells : Finset (GSem nD τ sig) := Finset.univ.map scEmb

theorem cells_disjoint : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact scK_ne x.2 (cel_inj h).2

theorem cel_mem (c : Dev nD) (k : CK) : cel c k ∈ (barCells ∪ scCells : Finset (GSem nD τ sig)) := by
  rw [Finset.mem_union]
  cases k with
  | bar => exact .inl (Finset.mem_map_of_mem barEmb (Finset.mem_univ c))
  | exit => exact .inr (Finset.mem_map_of_mem scEmb (Finset.mem_univ (c, none)))
  | d k => exact .inr (Finset.mem_map_of_mem scEmb (Finset.mem_univ (c, some k)))

/-! ## The tokens, by the device that pays with them -/

def tkDev (c : Dev nD) (p : PK × Bool) : Dev nD := if p.2 && p.1.src.isSome then c else tgt c p.1
def tkKey (p : PK × Bool) : CK × ℕ × Fin 6 :=
  if p.2 then (match p.1.src with | some k => (.d k, 0, 0) | none => (p.1.kind, 1, p.1.duty)) else (p.1.kind, 0, p.1.duty)
theorem tkKey_inj : ∀ p q : PK × Bool, tkKey p = tkKey q → p = q := by decide +kernel
theorem tgt_inj : ∀ (c d : Dev nD) (x : PK), tgt c x = tgt d x → c = d := by decide +kernel
theorem tkDev_inj (c d : Dev nD) (p : PK × Bool) (h : tkDev c p = tkDev d p) : c = d := by
  unfold tkDev at h
  split at h
  · exact h
  · exact tgt_inj c d p.1 h

def tkEmb : Dev nD × (PK × Bool) ↪ GSem nD τ sig × ℕ × Fin 6 :=
  ⟨fun x => (cel (tkDev x.1 x.2) (tkKey x.2).1, (tkKey x.2).2.1, (tkKey x.2).2.2), fun x y h => by
    obtain ⟨c, p⟩ := x
    obtain ⟨d, q⟩ := y
    have h1 := cel_inj (congrArg (fun z : GSem nD τ sig × ℕ × Fin 6 => z.1) h)
    have h2 : (tkKey p).2 = (tkKey q).2 := congrArg (fun z : GSem nD τ sig × ℕ × Fin 6 => z.2) h
    obtain rfl := tkKey_inj p q (Prod.ext h1.2 h2)
    exact Prod.ext (tkDev_inj c d p h1.1) rfl⟩
abbrev tks : Finset (GSem nD τ sig × ℕ × Fin 6) := Finset.univ.map tkEmb

theorem two (Φ : Bool → sProp 𝕄) : bigSep Finset.univ Φ = iprop(Φ false ∗ Φ true) := by
  rw [show (Finset.univ : Finset Bool) = insert false {true} by decide, bigSep_one (by decide), bigSep_singleton]

/-- The tokens of the sending semaphores; those of the signals are not needed. -/
theorem srcTok (c : Dev nD) (x : PK) :
    (dutyTok ER (tkEmb (c, x, true)).1 (tkEmb (c, x, true)).2.1 (tkEmb (c, x, true)).2.2 : sProp 𝕄)
      ⊢ (match x.src with | some k => dutyTok ER (cel c (.d k)) 0 0 | none => iprop(emp)) := by
  cases x with
  | bar i => iintro -; iempintro
  | exit i => iintro -; iempintro
  | r1 t s => exact Entails.of_eq rfl
  | r2 s => exact Entails.of_eq rfl
  | ra s => exact Entails.of_eq rfl
  | rb t s => exact Entails.of_eq rfl

theorem tkPair (c : Dev nD) (x : PK) :
    iprop(dutyTok ER (tkEmb (c, x, false)).1 (tkEmb (c, x, false)).2.1 (tkEmb (c, x, false)).2.2
      ∗ dutyTok ER (tkEmb (c, x, true)).1 (tkEmb (c, x, true)).2.1 (tkEmb (c, x, true)).2.2) ⊢ (ptok c x : sProp 𝕄) := by
  unfold ptok
  iintro ⟨H1, H2⟩
  isplitl [H1]; · iexact H1
  iapply (srcTok c x) $$ H2

theorem tks_deal : bigSep tks (fun x => (dutyTok ER x.1 x.2.1 x.2.2 : sProp 𝕄)) ⊢ bigSep Finset.univ fun c : Dev nD => bigSep Finset.univ (ptok c) := by
  rw [bigSep_map, bigSep_univ_prod]
  refine bigSep_mono fun c _ => ?_
  rw [bigSep_univ_prod]
  refine bigSep_mono fun x _ => ?_
  rw [two]
  exact tkPair c x

/-! ## The credits given at the start -/

/-- The device whose payment `x` is for `c`. -/
def frm (c : Dev nD) : PK → Dev nD
  | .bar i => peer c (rv i) | .exit i => peer c (rv i) | .r1 _ s => pp c s | .r2 s => zp c s | .ra s => zp c s.rev | .rb _ s => pp c s.rev
theorem tgt_iff : ∀ (c d : Dev nD) (x : PK), tgt d x = c ↔ d = frm c x := by decide +kernel

def unit : CK → ℕ | .d _ => N | _ => 1
theorem amt_unit (x : PK) : x.amt = unit x.kind := by cases x <;> rfl
theorem count : ∀ k : CK, spk k = none → (Finset.univ.filter fun x : PK => x.kind = k).card = (match k with | .d _ => 1 | _ => 6) := by decide +kernel

theorem rem_zero (c : Dev nD) : rem c 0 = Finset.univ := Finset.filter_true_of_mem fun _ _ => Nat.zero_le _

theorem owe_at (d c : Dev nD) (k : CK) : owe d 0 (cel c k) () = ∑ x : PK, if d = frm c x then (if x.kind = k then unit k else 0) else 0 := by
  unfold owe
  rw [Finset.sum_apply, Finsupp.finset_sum_apply, rem_zero]
  refine Finset.sum_congr rfl fun x _ => ?_
  unfold due
  rw [tallyAt_apply]
  by_cases h : d = frm c x
  · rw [if_pos h]
    by_cases hk : x.kind = k
    · rw [if_pos hk, if_pos ⟨by rw [(tgt_iff c d x).mpr h, hk], rfl⟩, amt_unit, hk]
    · rw [if_neg hk, if_neg fun e => hk (cel_inj e.1).2.symm]
  · rw [if_neg h, if_neg fun e => h ((tgt_iff c d x).mp (cel_inj e.1).1.symm)]

theorem owed_all (c : Dev nD) (k : CK) (h : spk k = none) : ∑ d : Dev nD, owe d 0 (cel c k) () = amt k := by
  simp only [owe_at]
  rw [Finset.sum_comm]
  simp only [Finset.sum_ite_eq', Finset.sum_ite_eq, Finset.mem_univ, if_true]
  rw [← Finset.sum_filter, Finset.sum_const, count k h]
  cases k with
  | bar => rfl
  | exit => rfl
  | d k => exact Nat.one_mul _

def O₀ (c : Dev nD) : CellTallies nD τ sig Unit := owe c 0

theorem credit_at (c : Dev nD) (k : CK) (h : spk k = none) :
    tallyOn (cel c k) (launchCredit (Pipeline.owing O₀) 0 (cel c k)) = (tallyAt (cel c k) () (amt k) : CellTallies nD τ sig Unit) := by
  unfold tallyAt
  refine congrArg _ (Finsupp.ext fun u => ?_)
  cases u
  rw [Pipeline.launchCredit_owing, Finsupp.single_eq_same]
  exact owed_all c k h

theorem crs_none {c : Dev nD} {k : CK} (h : k ∈ crs c 0 0) : spk k = none := by
  have h := (mem_crs.mp h).2
  unfold avail at h
  cases e : spk k with
  | none => rfl
  | some x => rw [e] at h; exact absurd (of_decide_eq_true h) (Nat.not_lt_zero _)

theorem credits (c : Dev nD) : (Pipeline.launchCred O₀ c : sProp 𝕄) ⊢ bigSep (crs c 0 0) fun k => cred (tallyAt (cel c k) () (amt k)) := by
  unfold Pipeline.launchCred
  refine (bigSep_subset (Finset.subset_univ ((crs c 0 0).image CK.sem))).trans ?_
  rw [bigSep_image_of_injOn fun k _ l _ h => (cel_inj (c := c) (d := c) (k := k) (l := l) (congrArg (Prod.mk (c : Thread nD τ)) h)).2]
  exact bigSep_mono fun k hk => Entails.of_eq (congrArg cred (credit_at c k (crs_none hk)))

/-! ## What a device starts with -/

variable (V : Vals F)

/-- Every invariant, and the barriers open. -/
def known (κ : GSem nD τ sig → ℕ) : sProp 𝕄 := iprop(invs V κ ∗ bigSep Finset.univ fun d : Dev nD => reached ER (cel d .bar) 0)
instance known_persistent (κ : GSem nD τ sig → ℕ) : BI.Persistent (known V κ) := by unfold known; infer_instance

/-- The device's own: its place on the barrier, its rights to open the others, its tokens. -/
def stock (c : Dev nD) : sProp 𝕄 :=
  iprop(atPos ER (cel c .bar) 0 ∅ 0 ∗ (bigSep Finset.univ fun k : Option DK => openTok ER (cel c (scK k))) ∗ bigSep Finset.univ (ptok c))

def start (c : Dev nD) : sProp 𝕄 :=
  iprop((∃ κ, known V κ ∗ stock c) ∗ bigSep (crs c 0 0) fun k => cred (tallyAt (cel c k) () (amt k)))

/-- The same, the semaphores opened. -/
def ready (c : Dev nD) : sProp 𝕄 :=
  iprop(∃ κ, fixed V κ c ∗ bigSep Finset.univ (ptok c) ∗ (bigSep Finset.univ fun k => atPos ER (cel c k) 0 ∅ 0)
    ∗ bigSep (crs c 0 0) fun k => cred (tallyAt (cel c k) () (amt k)))

theorem bar_known (c : Dev nD) : (bigSep Finset.univ fun d : Dev nD => (reached ER (cel d .bar) 0 : sProp 𝕄)) ⊢ reached ER (cel c .bar) 0 :=
  bigSep_elim (Finset.mem_univ c)

theorem known_peers (κ : GSem nD τ sig → ℕ) (c : Dev nD) : known V κ ⊢ barReach c := by
  unfold known barReach
  iintro ⟨-, #H⟩
  iapply (bigSep_with_persistent (R := bigSep Finset.univ fun d : Dev nD => (reached ER (cel d .bar) 0 : sProp 𝕄)) (Φ := fun _ : Fin 6 => (BI.emp : sProp 𝕄)) (S := Finset.univ) fun i _ => by
    iintro ⟨#H, -⟩
    iapply (bar_known (peer c i)); iexact H)
  isplitr; · iexact H
  rw [bigSep_emp_const]
  iempintro

theorem open_one (κ : GSem nD τ sig → ℕ) (c : Dev nD) (k : Option DK) :
    iprop(known V κ ∗ (openTok ER (cel c (scK k)) ∗ semVal (cel c (scK k)) 0))
      ⊢ (|={Set.univ}=> iprop(atPos ER (cel c (scK k)) 0 ∅ 0 ∗ reached ER (cel c (scK k)) 0) : sProp 𝕄) := by
  unfold known
  iintro ⟨⟨#HI, -⟩, HT, HS⟩
  imod (Rounds.cell_open ER (sched V) (g := cel c (scK k)) (Set.mem_univ (κ (cel c (scK k))))) $$ [HT HS] with ⟨Ha, #Hr⟩
  · isplitr; · iapply (invs_at V κ c (scK k)); iexact HI
    isplitl [HT] <;> iassumption
  imodintro
  isplitl [Ha]; · iexact Ha
  iexact Hr

theorem open_all (κ : GSem nD τ sig → ℕ) (c : Dev nD) :
    iprop(known V κ ∗ (bigSep Finset.univ fun k : Option DK => openTok ER (cel c (scK k))) ∗ bigSep Finset.univ fun k : Option DK => semVal (cel c (scK k)) 0)
      ⊢ (|={Set.univ}=> iprop((bigSep Finset.univ fun k : Option DK => atPos ER (cel c (scK k)) 0 ∅ 0) ∗ bigSep Finset.univ fun k : Option DK => reached ER (cel c (scK k)) 0) : sProp 𝕄) := by
  rw [← bigSep_sep', ← bigSep_sep']
  exact (bigSep_with_persistent fun k _ => open_one V κ c k).trans (bigSep_fupd _ _)

theorem owns_sems (c : Dev nD) : (Pipeline.ownSems0 osem c : sProp 𝕄) = bigSep Finset.univ fun k : Option DK => semVal (cel c (scK k)) 0 := rfl

theorem opens (c : Dev nD) : iprop(start V c ∗ Pipeline.ownSems0 osem c ∗ levAts L lv) ⊢ (|={Set.univ}=> ready V c : sProp 𝕄) := by
  rw [owns_sems]
  unfold start stock ready
  iintro ⟨⟨⟨%κ, #Hk, HaB, HoS, Hts⟩, Hcs⟩, Hs, #Hl⟩
  imod (open_all V κ c) $$ [HoS Hs] with ⟨Ha, #Hr⟩
  · isplitr; · iexact Hk
    isplitl [HoS] <;> iassumption
  imodintro
  iexists κ
  rw [by_kind]
  isplitr
  · unfold fixed reach
    rw [by_kind]
    isplitr
    · unfold known; icases Hk with ⟨H, -⟩; iexact H
    isplitr; · iexact Hl
    isplitr
    · isplitr
      · unfold known; icases Hk with ⟨-, H⟩; iapply (bar_known c); iexact H
      iexact Hr
    iapply (known_peers V κ c); iexact Hk
  isplitl [Hts]; · iexact Hts
  isplitl [HaB Ha]
  · isplitl [HaB] <;> iassumption
  iexact Hcs

theorem todo_zero : todo 0 = Finset.univ := by unfold todo; exact Finset.filter_true_of_mem fun _ _ => Nat.zero_le _
theorem done_zero : done 0 = ∅ := by unfold done; exact Finset.filter_false_of_mem fun _ _ => Nat.not_lt_zero _
theorem word_lt : ∀ k : CK, word k < 62 := by decide +kernel
theorem done_last : done 62 = Finset.univ := by unfold done; exact Finset.filter_true_of_mem fun k _ => word_lt k
theorem ord_lt : ∀ (c : Dev nD) (x : PK), ord c x < 47 := by decide +kernel
theorem owe_last (c : Dev nD) : owe c 47 = 0 := by
  unfold owe
  rw [show rem c 47 = ∅ from Finset.filter_false_of_mem fun x _ => Nat.not_le.mpr (ord_lt c x), Finset.sum_empty]

/-- The state the body starts in. -/
theorem begins (c : Dev nD) : iprop(ready V c ∗ ∃ W, owes (c : Thread nD τ) (O₀ c) W) ⊢ (iprop(∃ κ, G V κ c 0 0) : sProp 𝕄) := by
  unfold ready G O₀
  iintro ⟨⟨%κ, Hf, Ht, Ha, Hc⟩, HO⟩
  iexists κ
  rw [rem_zero, todo_zero, done_zero, bigSep_empty]
  isplitl [Hf]; · iexact Hf
  isplitl [HO]; · iexact HO
  isplitl [Ht]; · iexact Ht
  isplitl [Ha]; · iexact Ha
  isplitr; · iempintro
  iexact Hc

/-! ## The end -/

theorem close_one (κ : GSem nD τ sig → ℕ) (c : Dev nD) (k : CK) :
    iprop(invs V κ ∗ atPos ER (cel c k) (0 + 1) ∅ 0) ⊢ (|={Set.univ}=> semVal (cel c k) 0 : sProp 𝕄) := by
  iintro ⟨#HI, Ha⟩
  iapply (Rounds.cell_close ER (sched V) (Set.mem_univ (κ (cel c k))) id (duties_later V (cel c k)))
  isplitr; · iapply (invs_at V κ c k); iexact HI
  iexact Ha

/-- The state the body ends in: nothing owed, every counter at zero. -/
theorem ends (κ : GSem nD τ sig → ℕ) (c : Dev nD) :
    St V κ c 47 62 ⊢ (|={Set.univ}=> iprop((∃ W, owes (c : Thread nD τ) 0 W) ∗ semVal (cel c .bar) 0 ∗ Pipeline.ownSems0 osem c) : sProp 𝕄) := by
  have h : iprop(invs V κ ∗ bigSep Finset.univ fun k => atPos ER (cel c k) (0 + 1) ∅ 0) ⊢ (|={Set.univ}=> bigSep Finset.univ fun k => semVal (cel c k) 0 : sProp 𝕄) :=
    (bigSep_with_persistent fun k _ => close_one V κ c k).trans (bigSep_fupd _ _)
  rw [by_kind (fun k => semVal (cel c k) 0)] at h
  rw [owns_sems]
  unfold St G fixed
  rw [done_last, owe_last]
  iintro ⟨-, ⟨#HI, -⟩, HO, -, -, Ha, -⟩
  imod h $$ [Ha] with ⟨Hb, Hs⟩
  · isplitr; · iexact HI
    iexact Ha
  imodintro
  isplitl [HO]; · iexact HO
  isplitl [Hb]; · iexact Hb
  iexact Hs

end Cert.Attn
-- ==== Proof.Slots.lean ====
/- The two receive buffers as their slots, and the slots back as the buffers. -/
module

public import proofs.«01_k».proof.Proof.Body
public import proofs.«01_k».proof.Proof.Start

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Contents given piece by piece on disjoint rectangles are the pieces of one contents. -/
theorem glue {T : Type} {s : Shape} {α : Type} [Nonempty α] (r : T → Rect s) (hd : ∀ t t', t ≠ t' → Disjoint (r t).set (r t').set)
    (Y : ∀ t, (r t).shape.Idx → α) : ∃ X : s.Idx → α, ∀ t j, X ((r t).emb j) = Y t j := by
  classical
  refine ⟨fun i => if h : ∃ t j, (r t).emb j = i then Y h.choose h.choose_spec.choose else Classical.arbitrary α, fun t j => ?_⟩
  have h : ∃ t' j', (r t').emb j' = (r t).emb j := ⟨t, j, rfl⟩
  show (if h : ∃ t' j', (r t').emb j' = (r t).emb j then Y h.choose h.choose_spec.choose else Classical.arbitrary α) = _
  rw [dif_pos h]
  have key : ∀ t' j', (r t').emb j' = (r t).emb j → Y t' j' = Y t j := by
    intro t' j' e
    have ht : t' = t := by
      by_contra hne
      have hdj := hd t' t hne
      rw [Finset.disjoint_left] at hdj
      refine @hdj ((r t).emb j) ?_ ?_
      · rw [← Rect.map_emb_univ, ← e]; exact Finset.mem_map_of_mem _ (Finset.mem_univ _)
      · rw [← Rect.map_emb_univ]; exact Finset.mem_map_of_mem _ (Finset.mem_univ _)
    subst ht
    rw [(r t').emb.injective e]
  exact key _ _ h.choose_spec.choose_spec

abbrev rr6 (x : Fin 4 × Fin 3) : Rect S4x3x128x1024 := R6 x.1 x.2
theorem d6 (x y : Fin 4 × Fin 3) (h : x ≠ y) : Disjoint (rr6 x).set (rr6 y).set := by
  rw [Finset.disjoint_left]
  intro i hi hi'
  have h0 := (Rect.mem_set_unit.mp hi) 0
  have h0' := (Rect.mem_set_unit.mp hi') 0
  have h1 := (Rect.mem_set_unit.mp hi) 1
  have h1' := (Rect.mem_set_unit.mp hi') 1
  apply h
  simp at h0 h0' h1 h1'
  refine Prod.ext (Fin.ext ?_) (Fin.ext ?_) <;> omega
theorem c6 : (Finset.univ : Finset (Fin 4 × Fin 3)).biUnion (fun x => (rr6 x).set) = Finset.univ := by
  rw [Finset.eq_univ_iff_forall]
  intro i
  rw [Finset.mem_biUnion]
  have h0 := (i 0).isLt
  have h1 := (i 1).isLt
  have h2 := (i 2).isLt
  have h3 := (i 3).isLt
  refine ⟨(⟨(i 0).val, h0⟩, ⟨(i 1).val, h1⟩), Finset.mem_univ _, Rect.mem_set_unit.mpr fun a => ?_⟩
  fin_cases a <;> simp at * <;> omega
theorem d7 (x y : Fin 3) (h : x ≠ y) : Disjoint (R7 x).set (R7 y).set := by
  rw [Finset.disjoint_left]
  intro i hi hi'
  have h0 := (Rect.mem_set_unit.mp hi) 0
  have h0' := (Rect.mem_set_unit.mp hi') 0
  apply h
  simp at h0 h0'
  refine Fin.ext ?_
  omega
theorem c7 : (Finset.univ : Finset (Fin 3)).biUnion (fun x => (R7 x).set) = Finset.univ := by
  rw [Finset.eq_univ_iff_forall]
  intro i
  rw [Finset.mem_biUnion]
  have h0 := (i 0).isLt
  have h1 := (i 1).isLt
  have h2 := (i 2).isLt
  refine ⟨⟨(i 0).val, h0⟩, Finset.mem_univ _, Rect.mem_set_unit.mpr fun a => ?_⟩
  fin_cases a <;> simp at * <;> omega

/-- A slot at the shape of its rectangle. -/
theorem slot6_at (c : Dev nD) (x : Fin 4 × Fin 3) (v : Chunk F) : (slot6 c x.1 x.2 v : sProp 𝕄)
    = owns (c : Thread nD τ) (M6.slice (rr6 x) (fun _ => rfl)) fullShare (fun i => v ((Shape.reshapeEquiv squeezes_S1x1x128x1024_S128x1024.numel_eq).symm i)) := by
  unfold slot6
  exact owns_unsqueeze c (M6.slice (rr6 x) (fun _ => rfl)) squeezes_S1x1x128x1024_S128x1024 fullShare v
theorem slot7_at (c : Dev nD) (s : Fin 3) (v : Chunk F) : (slot7 c s v : sProp 𝕄)
    = owns (c : Thread nD τ) (M7.slice (R7 s) (fun _ => rfl)) fullShare (fun i => v ((Shape.reshapeEquiv squeezes_S1x128x1024_S128x1024.numel_eq).symm i)) := by
  unfold slot7
  exact owns_unsqueeze c (M7.slice (R7 s) (fun _ => rfl)) squeezes_S1x128x1024_S128x1024 fullShare v

theorem slot6_any (c : Dev nD) (x : Fin 4 × Fin 3) (Y : (rr6 x).shape.Idx → Elt F .bf16) :
    (owns (c : Thread nD τ) (M6.slice (rr6 x) (fun _ => rfl)) fullShare Y : sProp 𝕄) ⊢ iprop(∃ v : Chunk F, slot6 c x.1 x.2 v) := by
  iintro H
  iexists (fun j => Y (Shape.reshapeEquiv squeezes_S1x1x128x1024_S128x1024.numel_eq j))
  rw [slot6_at]
  simp only [Equiv.apply_symm_apply]
  iexact H
theorem slot7_any (c : Dev nD) (s : Fin 3) (Y : (R7 s).shape.Idx → Elt F .bf16) :
    (owns (c : Thread nD τ) (M7.slice (R7 s) (fun _ => rfl)) fullShare Y : sProp 𝕄) ⊢ iprop(∃ v : Chunk F, slot7 c s v) := by
  iintro H
  iexists (fun j => Y (Shape.reshapeEquiv squeezes_S1x128x1024_S128x1024.numel_eq j))
  rw [slot7_at]
  simp only [Equiv.apply_symm_apply]
  iexact H

instance chunk_nonempty : Nonempty (Chunk F) := ⟨fun _ => (Elt.nonempty F .bf16).some⟩

theorem split6 (c : Dev nD) (X : Vec F S4x3x128x1024 .bf16) : (owns (c : Thread nD τ) M6 fullShare X : sProp 𝕄) ⊢ fin6 c := by
  unfold fin6
  exact (owns_rects (c : Thread nD τ) M6 fullShare rr6 (fun _ _ => rfl) d6 c6 X).trans (bigSep_mono fun x _ => slot6_any c x _)
theorem split7 (c : Dev nD) (X : Vec F S3x128x1024 .bf16) : (owns (c : Thread nD τ) M7 fullShare X : sProp 𝕄) ⊢ fin7 c := by
  unfold fin7
  exact (owns_rects (c : Thread nD τ) M7 fullShare R7 (fun _ _ => rfl) d7 c7 X).trans (bigSep_mono fun x _ => slot7_any c x _)

theorem glue6 (c : Dev nD) (v : Fin 4 × Fin 3 → Chunk F) :
    ∃ X, bigSep Finset.univ (fun x => (slot6 c x.1 x.2 (v x) : sProp 𝕄)) ⊢ owns (c : Thread nD τ) M6 fullShare X := by
  haveI := Elt.nonempty F .bf16
  obtain ⟨X, hX⟩ := glue rr6 d6 fun x i => v x ((Shape.reshapeEquiv squeezes_S1x1x128x1024_S128x1024.numel_eq).symm i)
  refine ⟨X, .trans (.of_eq ?_) (owns_of_rects (c : Thread nD τ) M6 fullShare rr6 (fun _ _ => rfl) d6 c6 X)⟩
  simp only [hX]
  exact bigSep_congr fun x _ => slot6_at c x (v x)
theorem join6 (c : Dev nD) : (fin6 c : sProp 𝕄) ⊢ iprop(∃ X, owns (c : Thread nD τ) M6 fullShare X) := by
  unfold fin6
  iintro H
  ihave H' := (bigSep_exists_pi (Finset.univ : Finset (Fin 4 × Fin 3)) fun x v => (slot6 c x.1 x.2 v : sProp 𝕄)) $$ H
  icases H' with ⟨%v, H⟩
  obtain ⟨X, hX⟩ := glue6 (F := F) c v
  iexists X
  iapply hX $$ H
theorem glue7 (c : Dev nD) (v : Fin 3 → Chunk F) :
    ∃ X, bigSep Finset.univ (fun x => (slot7 c x (v x) : sProp 𝕄)) ⊢ owns (c : Thread nD τ) M7 fullShare X := by
  haveI := Elt.nonempty F .bf16
  obtain ⟨X, hX⟩ := glue R7 d7 fun x i => v x ((Shape.reshapeEquiv squeezes_S1x128x1024_S128x1024.numel_eq).symm i)
  refine ⟨X, .trans (.of_eq ?_) (owns_of_rects (c : Thread nD τ) M7 fullShare R7 (fun _ _ => rfl) d7 c7 X)⟩
  simp only [hX]
  exact bigSep_congr fun x _ => slot7_at c x (v x)
theorem join7 (c : Dev nD) : (fin7 c : sProp 𝕄) ⊢ iprop(∃ X, owns (c : Thread nD τ) M7 fullShare X) := by
  unfold fin7
  iintro H
  ihave H' := (bigSep_exists_pi (Finset.univ : Finset (Fin 3)) fun x v => (slot7 c x v : sProp 𝕄)) $$ H
  icases H' with ⟨%v, H⟩
  obtain ⟨X, hX⟩ := glue7 (F := F) c v
  iexists X
  iapply hX $$ H

/-- Column `s` of the first receive buffer. -/
def slotCol (c : Dev nD) (s : Fin 3) : sProp 𝕄 := bigSep Finset.univ fun t : Fin 4 => iprop(∃ v : Chunk F, slot6 c t s v)
theorem slotCols (c : Dev nD) : (fin6 c : sProp 𝕄) = iprop(slotCol c 0 ∗ slotCol c 1 ∗ slotCol c 2) := by
  unfold fin6
  rw [bigSep_univ_equiv (Equiv.prodComm (Fin 3) (Fin 4)), bigSep_univ_prod, three]
  rfl
theorem give_eq (c : Dev nD) : (iprop(fin6 c ∗ fin7 c) : sProp 𝕄) ⊢ give c := by
  rw [slotCols]
  unfold fin7
  rw [three]
  show _ ⊢ iprop(slotCol c 0 ∗ slotCol c 1 ∗ slotCol c 2 ∗ (∃ v : Chunk F, slot7 c 0 v) ∗ (∃ v : Chunk F, slot7 c 1 v) ∗ (∃ v : Chunk F, slot7 c 2 v) ∗ emp)
  iintro ⟨⟨H0, H1, H2⟩, H3, H4, H5⟩
  isplitl [H0]; · iexact H0
  isplitl [H1]; · iexact H1
  isplitl [H2]; · iexact H2
  isplitl [H3]; · iexact H3
  isplitl [H4]; · iexact H4
  isplitl [H5]; · iexact H5
  iempintro

end Cert.Attn

end
-- ==== Proof.Region.lean ====
/- The kernel as the pipeline's one region: its windows, its invariant, and the body between them. -/
module

public import proofs.«01_k».proof.Proof.Slots
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What the kernel reads on device `c`. -/
def XsOf (c : Dev nD) : Ins F := ⟨V1 m c main_v6, V1 m c main_v20, V1 m c main_v8, V1 m c main_v9, V1 m c main_v21⟩
/-- What every device's kernel leaves. -/
def outv : Vec F S2048x1024 .f32 := k0_pay156 (join (vals (XsOf m)).RD)
def outs : Outs (F := F) := fun _ => Function.update (fun r c => V1 m c r) main_v22 (fun _ => outv m)
theorem outs_eq (c : Dev nD) : outs m 2 main_v22 c = outv m := by unfold outs; rw [Function.update_self]

/-- The buffers that no window stages, at any contents. -/
def rest (c : Dev nD) : sProp 𝕄 := Pipeline.scopedRest (Pipeline.pin (pcfgs (F := F)) adm 0).spec c
/-- Every counter of the kernel's back at zero. -/
def over (c : Dev nD) : sProp 𝕄 := iprop(semVal (cel c .bar) 0 ∗ Pipeline.ownSems0 osem c)

def dat0 (c : Dev nD) : Dat τ (Elt F) Unit ℕ UU ℕ cfg0 c where
  A w := V1 m c (Proc.devRef .tc (Pipeline.arrRef spec0 w))
  after w _ := match w with
    | 0 => (XsOf m c).x0 | 1 => (XsOf m c).x1 | 2 => (XsOf m c).x2 | 3 => (XsOf m c).x3 | 4 => (XsOf m c).x4 | 5 => outv m
  Φ t := iprop((if t.val = 0 then ready (vals (XsOf m)) c else over c) ∗ rest c ∗ ∃ r, prngReg c r)
  q _ := fullShare
  owed t := if t.val = 0 then O₀ c else 0

abbrev pdats (p : Fin 1) (c : Dev nD) : Dat τ (Elt F) Unit ℕ UU ℕ (cfgs p) c := dat0 m c

/-- What a fetch leaves at an element. -/
theorem found (c : Dev nD) (w : Fin 6) (t : Fin cfg0.N) (hf : (cfg0.win w).fetch t = true) (d j)
    (hm : (cfg0.win w).moved (cfg0.grid.coords t) j = true) :
    (dat0 m c).before w t d j = (dat0 m c).blockOf w t fun a => ⟨j a, ((cfg0.win w).moved_iff _ j).mp hm a⟩ := by
  rw [(dat0 m c).before_fetched w t hf d]
  unfold Dat.fetched Pipeline.Window.fill
  rw [dif_pos hm]
theorem zero_at (n j : ℕ) : 0 * n + j = j := by rw [Nat.zero_mul, Nat.zero_add]

theorem found0 (c : Dev nD) (t : Fin cfg0.N) (d) : (dat0 m c).before 0 t d = (XsOf m c).x0 := by
  funext j
  rw [found m c 0 t (fetch0_0 t) d j (((cfg0.win 0).moved_iff _ j).mpr fun a => (j a).isLt)]
  show V1 m c main_v6 _ = V1 m c main_v6 j
  congr 1
  funext a
  refine Fin.ext ?_
  blk_simp
  exact zero_at _ _
theorem found1 (c : Dev nD) (t : Fin cfg0.N) (d) : (dat0 m c).before 1 t d = (XsOf m c).x1 := by
  funext j
  rw [found m c 1 t (fetch0_1 t) d j (((cfg0.win 1).moved_iff _ j).mpr fun a => (j a).isLt)]
  show V1 m c main_v20 _ = V1 m c main_v20 j
  congr 1
  funext a
  refine Fin.ext ?_
  blk_simp
  exact zero_at _ _
theorem found2 (c : Dev nD) (t : Fin cfg0.N) (d) : (dat0 m c).before 2 t d = (XsOf m c).x2 := by
  funext j
  rw [found m c 2 t (fetch0_2 t) d j (((cfg0.win 2).moved_iff _ j).mpr fun a => (j a).isLt)]
  show V1 m c main_v8 _ = V1 m c main_v8 j
  congr 1
  funext a
  refine Fin.ext ?_
  blk_simp
  exact zero_at _ _
theorem found3 (c : Dev nD) (t : Fin cfg0.N) (d) : (dat0 m c).before 3 t d = (XsOf m c).x3 := by
  funext j
  rw [found m c 3 t (fetch0_3 t) d j (((cfg0.win 3).moved_iff _ j).mpr fun a => (j a).isLt)]
  show V1 m c main_v9 _ = V1 m c main_v9 j
  congr 1
  funext a
  refine Fin.ext ?_
  blk_simp
  exact zero_at _ _
theorem found4 (c : Dev nD) (t : Fin cfg0.N) (d) : (dat0 m c).before 4 t d = (XsOf m c).x4 := by
  funext j
  rw [found m c 4 t (fetch0_4 t) d j (((cfg0.win 4).moved_iff _ j).mpr fun a => (j a).isLt)]
  show V1 m c main_v21 _ = V1 m c main_v21 j
  congr 1
  funext a
  refine Fin.ext ?_
  blk_simp
  exact zero_at _ _

/-! ## The buffers that no window stages -/

theorem rest_eq (c : Dev nD) : (rest c : sProp 𝕄)
    = iprop((∃ X, owns (c : Thread nD τ) M6 fullShare X) ∗ (∃ X, owns (c : Thread nD τ) M7 fullShare X) ∗ (∃ X, owns (c : Thread nD τ) M8 fullShare X)
      ∗ any9 c ∗ ∃ X, owns (c : Thread nD τ) M10 fullShare X) := by
  unfold rest any9
  simp only [owns_whole]
  exact scopedRest0_eq c

/-! ## The kernel's run -/

theorem kernel_run (c : Dev nD) (o) (Q : PUnit → sProp 𝕄) :
    iprop(ready (vals (XsOf m)) c ∗ (∃ W, owes (c : Thread nD τ) (O₀ c) W) ∗ rest c ∗ opers c (XsOf m c) ∗ owns (c : Thread nD τ) M5 fullShare o)
      ⊢ iprop(((over c ∗ (∃ W, owes (c : Thread nD τ) (0 : CellTallies nD τ sig Unit) W) ∗ rest c ∗ opers c (XsOf m c)
        ∗ owns (c : Thread nD τ) M5 fullShare (outv m)) -∗ Q ⟨⟩) -∗ run c (on (cc0_body (F := F))) Q) := by
  rw [rest_eq]
  iintro ⟨Hr, HO, ⟨⟨%X6, H6⟩, ⟨%X7, H7⟩, ⟨%X8, H8⟩, H9, ⟨%X10, H10⟩⟩, Hx, Ho⟩ HQ
  ihave HB := (begins (vals (XsOf m)) c) $$ [Hr HO]
  · isplitl [Hr] <;> iassumption
  icases HB with ⟨%κ, HG⟩
  iapply (wp_fupd frame (wpE (defs₀ (F := F)) 𝒱₀ (c : Thread nD τ) none) Set.univ (on (cc0_body (F := F))) Q)
  iapply (body (K := κ) (XsOf m) c o X10 (fun v => iprop(|={Set.univ}=> Q v))) $$ [Hx Ho H10 H8 H9 H6 H7 HG]
  · isplitl [Hx Ho H10 H8 H9]
    · isplitl [Hx Ho H10]
      · unfold loc
        isplitl [Hx]; · iexact Hx
        isplitl [Ho] <;> iassumption
      isplitl [H8]
      · iapply (pieces8' c X8) $$ H8
      iexact H9
    isplitl [H6 H7]
    · iapply (give_eq c)
      isplitl [H6]
      · iapply (split6 c X6) $$ H6
      iapply (split7 c X7) $$ H7
    iexact HG
  unfold loc Done
  iintro ⟨⟨Hx, Ho, H10⟩, ⟨H7, H9, H6, H8⟩, HS⟩
  imod (ends (vals (XsOf m)) κ c) $$ HS with ⟨HO, Hv⟩
  imodintro
  iapply HQ
  isplitl [Hv]; · unfold over; iexact Hv
  isplitl [HO]; · iexact HO
  isplitl [H6 H7 H8 H9 H10]
  · isplitl [H6]
    · iapply (join6 c) $$ H6
    isplitl [H7]
    · iapply (join7 c) $$ H7
    isplitl [H8]; · iexists _; iexact H8
    isplitl [H9]; · unfold any9; iexists _; iexact H9
    iexists _; iexact H10
  isplitl [Hx]; · iexact Hx
  iexact Ho

theorem owes_in {c : Dev nD} {t} (D : CellTallies nD τ sig Unit) (h : (dat0 m c).owed t = D) :
    (iprop(∃ W, owes (c : Thread nD τ) D W) : sProp 𝕄) ⊢ (dat0 m c).owesAt () t := by
  unfold Dat.owesAt Pipeline.owesWithin Dat.bound
  rw [h]
  iintro ⟨%W, HO⟩
  iexists W
  isplitr
  · ipureintro; exact fun _ _ => Or.inl trivial
  iexact HO
theorem owes_out {c : Dev nD} {t} (D : CellTallies nD τ sig Unit) (h : (dat0 m c).owed t = D) :
    (dat0 m c).owesAt () t ⊢ (iprop(∃ W, owes (c : Thread nD τ) D W) : sProp 𝕄) := by
  unfold Dat.owesAt Pipeline.owesWithin
  rw [h]
  iintro ⟨%W, -, HO⟩
  iexists W
  iexact HO

section
attribute [local irreducible] cc0_body in
theorem body_at : (defs₀ (F := F)) .tc cfg0.body (cfg0.bodyArgs t0_0 (cfg0.slots t0_0)) = on (cc0_body (F := F)) := by
  show bodyAt0 t0_0 = on (cc0_body (F := F))
  have h0 : win0_0.stage (cfg0.slots t0_0 0) = M0 := by rfl
  have h1 : win0_1.stage (cfg0.slots t0_0 1) = M1 := by rfl
  have h5 : win0_5.stage (cfg0.slots t0_0 5) = M5 := by rfl
  rfl
end

theorem inv_in (c : Dev nD) : (dat0 m c).Φ t0_0.castSucc = iprop(ready (vals (XsOf m)) c ∗ rest c ∗ ∃ r, prngReg c r) := rfl
theorem inv_out (c : Dev nD) : (dat0 m c).Φ t0_0.succ = iprop(over c ∗ rest c ∗ ∃ r, prngReg c r) := rfl
theorem aft0 (c : Dev nD) (t : Fin cfg0.N) : (dat0 m c).after 0 t = (XsOf m c).x0 := rfl
theorem aft1 (c : Dev nD) (t : Fin cfg0.N) : (dat0 m c).after 1 t = (XsOf m c).x1 := rfl
theorem aft2 (c : Dev nD) (t : Fin cfg0.N) : (dat0 m c).after 2 t = (XsOf m c).x2 := rfl
theorem aft3 (c : Dev nD) (t : Fin cfg0.N) : (dat0 m c).after 3 t = (XsOf m c).x3 := rfl
theorem aft4 (c : Dev nD) (t : Fin cfg0.N) : (dat0 m c).after 4 t = (XsOf m c).x4 := rfl
theorem aft5 (c : Dev nD) (t : Fin cfg0.N) : (dat0 m c).after 5 t = outv m := rfl
theorem obligation (c : Dev nD) : Pipeline.BodyObligation (dat0 m c) defs₀ 𝒱₀ () Set.univ := fun t => by
  obtain rfl := fin_N0 t
  rw [bigSep_W0, bigSep_W0, body_at, inv_in, inv_out]
  dsimp only
  rw [aft0, aft1, aft2, aft3, aft4, aft5]
  simp only [found0, found1, found2, found3, found4]
  rw [show stage0_0 0 = M0 from rfl, show stage0_1 0 = M1 from rfl, show stage0_2 0 = M2 from rfl, show stage0_3 0 = M3 from rfl,
    show stage0_4 0 = M4 from rfl, show stage0_5 0 = M5 from rfl]
  iintro ⟨⟨Hr, Hs, Hp⟩, HO, ⟨%d0, H0⟩, ⟨%d1, H1⟩, ⟨%d2, H2⟩, ⟨%d3, H3⟩, ⟨%d4, H4⟩, ⟨%d5, H5⟩⟩
  ihave HO' := (owes_out m (t := t0_0.castSucc) (O₀ c) rfl) $$ HO
  iapply (kernel_run m c _ _) $$ [Hr HO' Hs H0 H1 H2 H3 H4 H5]
  · isplitl [Hr]; · iexact Hr
    isplitl [HO']; · iexact HO'
    isplitl [Hs]; · iexact Hs
    isplitl [H0 H1 H2 H3 H4]
    · unfold opers
      isplitl [H0]; · iexact H0
      isplitl [H1]; · iexact H1
      isplitl [H2]; · iexact H2
      isplitl [H3]; · iexact H3
      iexact H4
    iexact H5
  unfold opers
  iintro ⟨Hv, HO, Hs, ⟨H0, H1, H2, H3, H4⟩, H5⟩
  isplitl [Hv Hs Hp]
  · isplitl [Hv]; · iexact Hv
    isplitl [Hs] <;> iassumption
  isplitl [HO]
  · iapply (owes_in m (t := t0_0.succ) 0 rfl) $$ HO
  isplitl [H0]; · iexact H0
  isplitl [H1]; · iexact H1
  isplitl [H2]; · iexact H2
  isplitl [H3]; · iexact H3
  isplitl [H4]; · iexact H4
  iexact H5

end Cert.Attn

end
-- ==== Proof.Launch.lean ====
/- The start of the whole run, and the run itself. -/
module

public import proofs.«01_k».proof.Proof.Region

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ UU ℕ

/-! ## The protocol's state, dealt from one device -/

def u₀ (F : FTy → Type) [FloatOps F] : UU :=
  (initOf (Pipeline.cells (Pipeline.pin (pcfgs (F := F)) adm) cellOf_inj) (Pipeline.launchToks (Pipeline.pin (pcfgs (F := F)) adm) cellOf_inj),
    launchOf barCells scCells tks)

/-- All of `X` on device 0, nothing elsewhere. -/
def parked (X : sProp 𝕄) (c : Dev nD) : sProp 𝕄 := if c = 0 then X else iprop(emp)
theorem parked_all (X : sProp 𝕄) : bigSep Finset.univ (parked X) = X := by
  have h0 : ∀ c ∈ (Finset.univ.erase 0 : Finset (Dev nD)), parked X c = (BI.emp : sProp 𝕄) := fun c hc => if_neg (Finset.ne_of_mem_erase hc)
  rw [bigSep_univ_at _ 0, bigSep_congr h0, BI.bigSep_emp_const]
  unfold parked
  rw [if_pos rfl]
  exact BI.equiv_iff.mp sep_emp

def Gown : Dev nD → sProp 𝕄 := parked (BI.own (ER (launchOf barCells scCells tks)))

theorem fund : (ownU (u₀ F) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ (Gown (F := F))) := by
  unfold u₀ Gown
  rw [parked_all]
  iintro Hu
  ihave H := (ownU_pair _ _) $$ Hu
  icases H with ⟨HP, HX⟩
  imodintro
  isplitl [HP]; · iexact HP
  iexact HX

variable (V : Vals F)

theorem bars_zero : bigSep Finset.univ (fun c : Dev nD => (semVal (cel c .bar) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bars_at : bigSep barCells (fun g => (atPos ER g 0 ∅ 0 : sProp 𝕄)) ⊢ bigSep Finset.univ (fun c : Dev nD => (atPos ER (cel c .bar) 0 ∅ 0 : sProp 𝕄)) :=
  Entails.of_eq (bigSep_map (s := Finset.univ) barEmb (Φ := fun g : GSem nD τ sig => (atPos ER g 0 ∅ 0 : sProp 𝕄)))
theorem bars_reached : bigSep barCells (fun g => (reached ER g 0 : sProp 𝕄)) ⊢ bigSep Finset.univ (fun c : Dev nD => (reached ER (cel c .bar) 0 : sProp 𝕄)) :=
  Entails.of_eq (bigSep_map (s := Finset.univ) barEmb (Φ := fun g : GSem nD τ sig => (reached ER g 0 : sProp 𝕄)))
theorem rights : bigSep scCells (fun g => (openTok ER g : sProp 𝕄))
    ⊢ bigSep Finset.univ (fun c : Dev nD => bigSep Finset.univ fun k : Option DK => (openTok ER (cel c (scK k)) : sProp 𝕄)) :=
  Entails.of_eq (by rw [bigSep_map, bigSep_univ_prod]; rfl)

theorem invs_all (κ : GSem nD τ sig → ℕ) : (bigSep (barCells ∪ scCells) fun g => (cellInv ER (sched V) (κ g) g : sProp 𝕄)) ⊢ invs V κ := by
  unfold invs
  exact bigSep_intro_persistent fun d _ => bigSep_intro_persistent fun k _ => bigSep_elim (cel_mem d k)

theorem apart_all {I : Type} [Fintype I] (Φ Ψ : I → sProp 𝕄) : bigSep Finset.univ (fun i => iprop(Φ i ∗ Ψ i)) ⊢ iprop(bigSep Finset.univ Φ ∗ bigSep Finset.univ Ψ) :=
  Entails.of_eq (bigSep_sep' _ _ _)
theorem together {I : Type} [Fintype I] (Φ Ψ : I → sProp 𝕄) : iprop(bigSep Finset.univ Φ ∗ bigSep Finset.univ Ψ) ⊢ bigSep Finset.univ (fun i => iprop(Φ i ∗ Ψ i)) :=
  Entails.of_eq (bigSep_sep' _ _ _).symm

/-- What a device is launched with but the protocol's state. -/
def plain (ρ : Dev nD → PrngReg) (c : Dev nD) : sProp 𝕄 :=
  iprop((bigSep (crs c 0 0) fun k => cred (tallyAt (cel c k) () (amt k))) ∗ owes (c : Thread nD τ) (O₀ c) ∅ ∗ prngReg c (ρ c))

/-- What a device enters its region with. -/
def arrive (c : Dev nD) : sProp 𝕄 := iprop(start V c ∗ (∃ r, prngReg c r) ∗ ∃ W, owes (c : Thread nD τ) (O₀ c) W)

theorem bar_sems (c : Dev nD) : (unscopedSems0 c : sProp 𝕄) = semVal (cel c .bar) 0 := by
  unfold unscopedSems0
  rw [show (Finset.univ.filter fun sm : SemLoc sig => ¬ sm.isScoped .tc) = {SemLoc.reg barSem} from by decide, bigSep_singleton]
  rfl

theorem enter_one (ρ : Dev nD → PrngReg) (κ : GSem nD τ sig → ℕ) (c : Dev nD) : iprop(known V κ ∗ (stock c ∗ plain ρ c)) ⊢ arrive V c := by
  unfold plain arrive start
  iintro ⟨#HK, Hs, Hc, HO, Hp⟩
  isplitl [Hs Hc]
  · isplitl [Hs]
    · iexists κ
      isplitr; · iexact HK
      iexact Hs
    iexact Hc
  isplitl [Hp]
  · iexists ρ c; iexact Hp
  iexists ∅; iexact HO

theorem sort_one (ρ : Dev nD → PrngReg) (c : Dev nD) :
    iprop(unscopedSems0 c ∗ owes (c : Thread nD τ) (O₀ c) ∅ ∗ Pipeline.launchCred O₀ c ∗ prngReg c (ρ c) ∗ Gown c)
      ⊢ (iprop(plain ρ c ∗ (semVal (cel c .bar) 0 ∗ Gown c)) : sProp 𝕄) := by
  rw [bar_sems]
  unfold plain
  iintro ⟨Hs, HO, Hc, Hp, HG⟩
  isplitl [HO Hc Hp]
  · isplitl [Hc]
    · iapply (credits c) $$ Hc
    isplitl [HO] <;> iassumption
  isplitl [Hs] <;> iassumption

theorem deal (ρ : Dev nD → PrngReg) :
    iprop((bigSep Finset.univ fun c : Dev nD => iprop(unscopedSems0 c ∗ owes (c : Thread nD τ) (O₀ c) ∅ ∗ Pipeline.launchCred O₀ c ∗ prngReg c (ρ c) ∗ Gown c)) ∗ levAts L lv)
      ⊢ (|={Set.univ}=> bigSep Finset.univ (arrive V) : sProp 𝕄) := by
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ Gown c))
      ⊢ (bigSep Finset.univ fun c : Dev nD => iprop(plain ρ c ∗ (semVal (cel c .bar) 0 ∗ Gown c)) : sProp 𝕄) from bigSep_mono fun c _ => sort_one ρ c) $$ H
  ihave H2 := (apart_all _ _) $$ H'
  icases H2 with ⟨HB, H3⟩
  ihave H4 := (apart_all _ _) $$ H3
  icases H4 with ⟨Hv, HG⟩
  ihave Hu := (show bigSep Finset.univ (Gown (F := F)) ⊢ BI.own (ER (launchOf barCells scCells tks)) from
    Entails.of_eq (parked_all (F := F) (BI.own (ER (launchOf barCells scCells tks))))) $$ HG
  imod (Rounds.fund_launch ER (sched V) cells_disjoint (fun g _ h => h) tks) $$ [Hv Hu] with ⟨%κ, -, #Hinv, #Hr, Hat, Hopen, Htok⟩
  · isplitl [Hv]
    · iapply bars_zero $$ Hv
    · iexact Hu
  imodintro
  iapply (bigSep_with_persistent (R := known V κ) (Φ := fun c => iprop(stock c ∗ plain ρ c)) fun c _ => enter_one V ρ κ c)
  isplitr
  · unfold known
    isplitr
    · iapply (invs_all V κ); iexact Hinv
    iapply bars_reached; iexact Hr
  iapply (together _ _)
  isplitr [HB]
  · unfold stock
    iapply (together _ _); isplitl [Hat]; · iapply bars_at $$ Hat
    iapply (together _ _); isplitl [Hopen]; · iapply rights $$ Hopen
    iapply tks_deal $$ Htok
  · iexact HB

/-! ## The region's record -/

variable (m : (ℓ : Loc nD τ sig) → Buf (Elt F) ℓ)

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_pos : ∀ x : PK, 0 < x.kind.lv := by decide
theorem cut0 (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · obtain ⟨x, -, rfl⟩ := owe_pos h
    exact ⟨by rw [L_tc]; exact Finset.mem_singleton_self _, by rw [lv_cel]; exact lv_pos x⟩
  · exact absurd h (Nat.lt_irrefl 0)

theorem ck_stage : ∀ (w : Fin 6) (s : Fin (spec0 w).nbuf), ckOf (.dma ((spec0 w).sem s)) = none := by decide
theorem lv_stage (c : Dev nD) (w : Fin 6) (s : Fin (spec0 w).nbuf) : lv ((c : Thread nD τ), .dma ((spec0 w).sem s)) () = 0 := by
  unfold lv
  rw [ck_stage]

/-- The buffers that are no window's array. -/
abbrev others : Finset (DevRef τ sig) := Pipeline.ucRefs τ sig \ Pipeline.arrRefs spec0

theorem region_in (c : Dev nD) : iprop(Pipeline.scopedRest (Pipeline.pin (pcfgs (F := F)) adm 0).spec c ∗ (∃ r, prngReg c r) ∗ StableHlo.held (c.tc : Thread nD τ) ∅ (V1 m c) ∗ ready (vals (XsOf m)) c)
    ⊢ (pdats m 0 c).Φ 0 := by
  rw [show (pdats m 0 c).Φ 0 = iprop(ready (vals (XsOf m)) c ∗ rest c ∗ ∃ r, prngReg c r) from rfl]
  unfold rest
  iintro ⟨Hs, Hp, -, Hr⟩
  isplitl [Hr]; · iexact Hr
  isplitl [Hs] <;> iassumption
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c) ∗ Pipeline.ownSems0 osem c ∗ semVal (cel c .bar) 0) := by
  rw [show (pdats m 0 c).Φ (Fin.last _) = iprop(over c ∗ rest c ∗ ∃ r, prngReg c r) from rfl]
  unfold rest over StableHlo.held
  rw [bigSep_empty]
  iintro ⟨⟨Hb, Hv⟩, Hs, Hp⟩
  isplitl [Hs]; · iexact Hs
  isplitl [Hp]; · iexact Hp
  isplitr; · iempintro
  isplitl [Hv] <;> iassumption

theorem arr_in (c : Dev nD) (w : Fin 6) : (pdats m 0 c).arrAt w 0 = V1 m c (Proc.devRef .tc (Pipeline.arrRef (Pipeline.pin (pcfgs (F := F)) adm 0).spec w)) := rfl
theorem arr_out (c : Dev nD) (w : Fin 6) :
    (pdats m 0 c).arrAt w (Pipeline.pin (pcfgs (F := F)) adm 0).N = V2 m (outs m) c (Proc.devRef .tc (Pipeline.arrRef (Pipeline.pin (pcfgs (F := F)) adm 0).spec w)) := by
  by_cases hw : w = 5
  · subst hw
    refine (dat0 m c).arrAt_eq_of_after_last 5 t0_0 (by decide +kernel) _ fun j => ?_
    show outv m _ = V2 m (outs m) c main_v22 _
    unfold V2
    rw [Function.update_self, outs_eq]
    congr 1
  · have hin : (cfg0.win w).isOut = false := by revert w; decide
    refine ((dat0 m c).arrAt_in w hin _).trans ?_
    show V1 m c _ = V2 m (outs m) c _
    have hne : Pipeline.arrRef spec0 w ∉ ([main_v22] : List (Ref sig .tc)) := by revert w; decide
    exact (V2_of m (outs m) c _ hne).symm

set_option backward.isDefEq.respectTransparency.types false in
/-- The region, entered from what the launch dealt and left with every counter at zero. -/
def reg0 : RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem) ∅ others
    (Finset.empty_subset _) kit0 rfl (fun c => (obligation m c).loose) (fun _ => 0) O₀ (fun c => (zero_add _).symm) (fun _ => rfl) (fun _ => rfl)
    (fun c w => by unfold Dat.share; split <;> rfl) (V1 m) (V2 m (outs m))
    (fun c b hb => by
      have hne : b ≠ Proc.devRef .tc main_v22 := by
        rintro rfl
        exact (Finset.mem_sdiff.mp (Finset.mem_sdiff.mp hb).1).2 (by decide)
      exact Function.update_of_ne hne _ _)
    (start (vals (XsOf m))) (fun c => semVal (cel c .bar) 0) (ready (vals (XsOf m))) (fun c => semVal (cel c .bar) 0)
    (opens (vals (XsOf m))) (region_in m) (region_out m) (fun c => fupd_intro) (fun _ => 0)
    ⟨fun c w s => by rw [L_tc]; exact Finset.mem_singleton_self _, fun c w s => le_of_eq (lv_stage c w s), cut0 m⟩
    (fun _ => iprop(emp)) (arr_in m) (arr_out m)

end Cert.Attn

end
-- ==== Proof.Run.lean ====
/- The whole run: the host's stretches around the region, from any memory. -/
module

public import proofs.«01_k».proof.Proof.Launch
public import Idealize.ShloMosaic.Adequacy
public import Idealize.ShloMosaic.Init

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What a device carries past the host's stretches: the launch's share before the region, its counter at zero after. -/
def carried : Fin 2 → Dev nD → sProp 𝕄
  | 0 => arrive (vals (XsOf m))
  | 1 => fun c => iprop(semVal (cel c .bar) 0 ∗ ∃ W, owes (c.tc : Thread nD τ) (0 : CellTallies nD τ sig Unit) W)

theorem arr_uc : Pipeline.arrRefs spec0 ⊆ Pipeline.ucRefs τ sig := by decide

theorem owes_zero (c : Dev nD) : (iprop(∃ W, owes (c.tc : Thread nD τ) (O₀ c) W) : sProp 𝕄) ⊢
    iprop(∃ W, owes (c.tc : Thread nD τ) (0 + O₀ c) W) := by
  rw [zero_add]

theorem enters (c : Dev nD) : iprop(StableHlo.held (c : Thread nD τ) (Pipeline.ucRefs τ sig) (V1 m c) ∗ carried m 0 c) ⊢ (reg0 m).pre c := by
  rw [StableHlo.held_sub_split (c.tc : Thread nD τ) arr_uc (V1 m c)]
  show iprop((StableHlo.held (c.tc : Thread nD τ) (Pipeline.arrRefs spec0) (V1 m c) ∗ StableHlo.held (c.tc : Thread nD τ) others (V1 m c))
      ∗ (start (vals (XsOf m)) c ∗ (∃ r, prngReg c r) ∗ ∃ W, owes (c.tc : Thread nD τ) (O₀ c) W)) ⊢
    iprop(StableHlo.held (c.tc : Thread nD τ) (Pipeline.arrRefs spec0) (V1 m c) ∗ (∃ r, prngReg c r)
      ∗ (StableHlo.held (c.tc : Thread nD τ) others (V1 m c) ∗ emp) ∗ start (vals (XsOf m)) c ∗ ∃ W, owes (c.tc : Thread nD τ) (0 + O₀ c) W)
  iintro ⟨⟨Ha, Ho⟩, Hs, Hp, Hw⟩
  isplitl [Ha]; · iexact Ha
  isplitl [Hp]; · iexact Hp
  isplitl [Ho]
  · isplitl [Ho]; · iexact Ho
    iempintro
  isplitl [Hs]; · iexact Hs
  iapply (owes_zero c); iexact Hw

theorem leaves (c : Dev nD) : (reg0 m).post c ⊢ iprop(StableHlo.held (c : Thread nD τ) (Pipeline.ucRefs τ sig) (V2 m (outs m) c) ∗ carried m 1 c) := by
  rw [StableHlo.held_sub_split (c.tc : Thread nD τ) arr_uc (V2 m (outs m) c)]
  show iprop(StableHlo.held (c.tc : Thread nD τ) (Pipeline.arrRefs spec0) (V2 m (outs m) c) ∗ (∃ r, prngReg c r)
      ∗ (StableHlo.held (c.tc : Thread nD τ) others (V2 m (outs m) c) ∗ emp) ∗ semVal (cel c .bar) 0
      ∗ ∃ W, owes (c.tc : Thread nD τ) (0 : CellTallies nD τ sig Unit) W) ⊢
    iprop((StableHlo.held (c.tc : Thread nD τ) (Pipeline.arrRefs spec0) (V2 m (outs m) c) ∗ StableHlo.held (c.tc : Thread nD τ) others (V2 m (outs m) c))
      ∗ (semVal (cel c .bar) 0 ∗ ∃ W, owes (c.tc : Thread nD τ) (0 : CellTallies nD τ sig Unit) W))
  iintro ⟨Ha, Hp, ⟨Ho, He⟩, Hs, Hw⟩
  isplitl [Ha Ho]
  · isplitl [Ha]; · iexact Ha
    iexact Ho
  isplitl [Hs]; · iexact Hs
  iexact Hw

theorem unscoped_eq : ∀ sm : SemLoc sig, sm.isScoped .tc = false → sm = .reg barSem := by decide

/-- What one device's memory says at the end. -/
def Ended (c : Dev nD) (s : MemSt nD τ sig (Elt F)) : Prop :=
  (s.mem ((c.tc : Thread nD τ).loc main_v23) = V3 m (outs m) c (Proc.devRef .tc main_v23)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem (cel c .bar) = 0

theorem last (c : Dev nD) : iprop(StableHlo.held (c : Thread nD τ) (Pipeline.ucRefs τ sig) (V3 m (outs m) c) ∗ carried m 1 c) ⊢
    iprop((StableHlo.held (c : Thread nD τ) (Pipeline.ucRefs τ sig) (V3 m (outs m) c) ∗ semVal (cel c .bar) 0)
      ∗ ∃ W, owes (c.tc : Thread nD τ) (0 : CellTallies nD τ sig Unit) W) := by
  show iprop(StableHlo.held (c : Thread nD τ) (Pipeline.ucRefs τ sig) (V3 m (outs m) c) ∗ (semVal (cel c .bar) 0
      ∗ ∃ W, owes (c.tc : Thread nD τ) (0 : CellTallies nD τ sig Unit) W)) ⊢ _
  iintro ⟨Hh, Hs, Hw⟩
  isplitl [Hh Hs]
  · isplitl [Hh]; · iexact Hh
    iexact Hs
  iexact Hw

theorem reads (c : Dev nD) (s' : Phys nD τ sig (Elt F)) :
    iprop((StableHlo.held (c : Thread nD τ) (Pipeline.ucRefs τ sig) (V3 m (outs m) c) ∗ semVal (cel c .bar) 0) ∗ SI s') ⊢
      (|={Set.univ}=> iprop(⌜Ended m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨h (Proc.devRef .tc main_v23) (Finset.mem_filter.mpr ⟨StableHlo.devRef_mem_tcRefs main_v23, by decide⟩),
      (h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c),
      (h (Proc.devRef .tc main_arg4) (Finset.mem_filter.mpr ⟨StableHlo.devRef_mem_tcRefs main_arg4, by decide⟩)).trans (V3_main_arg4 m (outs m) c)⟩,
      by simpa using hb⟩
  · iexact HSI

theorem begins_at (ρ : Dev nD → PrngReg) : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ Gown c)) ∗ levAts L lv) ⊢
    (|={Set.univ}=> bigSep Finset.univ fun c : Dev nD => iprop(StableHlo.held (c : Thread nD τ) (Pipeline.ucRefs τ sig) (V0 m c) ∗ carried m 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ Gown c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ Gown c))
          : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (deal (vals (XsOf m)) ρ) $$ [Hr Hla] with HE
  · isplitl [Hr]; · iexact Hr
    iexact Hla
  imodintro
  rw [bigSep_sep']
  isplitl [Hh]; · iexact Hh
  iexact HE

set_option backward.isDefEq.respectTransparency.types false in
/-- Every execution ends, with the result `V3` names on every device, the arguments as they were and every counter at zero. -/
theorem run_main (ρ : Dev nD → PrngReg) :
    θ_run (Cert.KernelIdeal.defs (F := F)) (onTc (τ := τ) (main (F := F))) ⟨m, fun _ => 0, ρ⟩
      (fun r => (∀ c, Ended m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (carried m) () (pdats m) (reg0 m))
    (fun c Q => by
      rewrite [main_chain c, Seg.run_eq_chain,
        show (segs m (outs m) 𝒱₀ L lv (carried m) () (pdats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne Gown (u₀ F) fund
    (T₀ := fun c => iprop(StableHlo.held (c : Thread nD τ) (Pipeline.ucRefs τ sig) (V0 m c) ∗ carried m 0 c))
    (Tₙ := fun c => iprop(StableHlo.held (c : Thread nD τ) (Pipeline.ucRefs τ sig) (V3 m (outs m) c) ∗ semVal (cel c .bar) 0))
    (hch := fun c => ⟨.rfl, enters m c, leaves m c, last m c⟩)
    (hinit := begins_at m ρ) (QY := Ended m)
    (hfin := fun c s' => reads m c s')
    (hQ := fun s h hs => ⟨h, sem_eq_zero hs fun c sm hsm => by obtain rfl := unscoped_eq sm hsm; exact (h c).2⟩)

end Cert.Attn

end
-- ==== Proof.Same.lean ====
/- The two printed texts of the kernel are one text: the same body under the same labels, the same main. -/
module

public import proofs.«01_k».proof.Proof.Gen.Kernel
public import proofs.«01_k».proof.Proof.Gen.KernelIdeal

@[expose] public section

noncomputable section

namespace Cert.Attn

open Idealize.ShloMosaic Idealize.SL.Sem

variable {F : FTy → Type} [FloatOps F]

theorem same_body : @Cert.Kernel.cc0_body F _ _ = @Cert.KernelIdeal.cc0_body F _ _ := rfl

theorem same_labels : Cert.Kernel.defs₀ (F := F) = Cert.KernelIdeal.defs₀ (F := F) := by
  unfold Cert.Kernel.defs₀ Cert.KernelIdeal.defs₀
  refine congrArg Defs.onTc (funext fun l => ?_)
  match l with
  | 0 => funext ⟨t, s⟩; rfl
  | ⟨n + 1, h⟩ => exact absurd h (Nat.not_lt.2 (Nat.le_add_left _ _))

theorem same_defs : Cert.Kernel.defs (F := F) = Cert.KernelIdeal.defs (F := F) :=
  congrArg (Pipeline.defs Cert.KernelIdeal.pcfgs) same_labels

theorem same_main : Cert.Kernel.main (F := F) = Cert.KernelIdeal.main := rfl

end Cert.Attn

end
-- ==== Proof.Soft.lean ====
/-
  Block-causal softmax over the extended reals: the reference subtracts the row's maximum and divides every weight by their sum; the kernel
  does neither, and multiplies the whole row by one reciprocal. They agree when the scores are real numbers.
-/
module

public import Idealize.ShloMosaic.PureOps.Ideal

@[expose] public section

noncomputable section

namespace Cert.Attn

open Idealize.ShloMosaic

/-- A real number. -/
def Fin1 (x : EReal) : Prop := ∃ a : ℝ, x = (a : EReal)

theorem fin1_mul {x y : EReal} (hx : Fin1 x) (hy : Fin1 y) : Fin1 (x * y) := by
  obtain ⟨a, rfl⟩ := hx; obtain ⟨b, rfl⟩ := hy; exact ⟨a * b, (EReal.coe_mul a b).symm⟩
theorem fin1_add {x y : EReal} (hx : Fin1 x) (hy : Fin1 y) : Fin1 (x + y) := by
  obtain ⟨a, rfl⟩ := hx; obtain ⟨b, rfl⟩ := hy; exact ⟨a + b, (EReal.coe_add a b).symm⟩
theorem fin1_zero : Fin1 0 := ⟨0, EReal.coe_zero.symm⟩
theorem coe_sum {ι : Type} (s : Finset ι) (f : ι → ℝ) : ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]
theorem fin1_sum {n : ℕ} {f : Fin n → EReal} (h : ∀ k, Fin1 (f k)) : Fin1 (∑ k, f k) := by
  choose g hg using h
  exact ⟨∑ k, g k, by rw [← coe_sum]; exact Finset.sum_congr rfl fun k _ => hg k⟩

/-- A nonnegative real factor goes into a sum of extended reals. -/
theorem sum_mul_real {n : ℕ} (f : Fin n → EReal) (c : ℝ) (hc : 0 ≤ c) : (∑ k, f k) * (c : EReal) = ∑ k, f k * (c : EReal) := by
  classical
  induction (Finset.univ : Finset (Fin n)) using Finset.induction_on with
  | empty => rw [Finset.sum_empty, Finset.sum_empty, zero_mul]
  | insert a s ha ih =>
    rw [Finset.sum_insert ha, Finset.sum_insert ha, ← ih]
    exact EReal.right_distrib_of_nonneg_of_ne_top (by exact_mod_cast hc) (EReal.coe_ne_top c) _ _

theorem div_real (a b : ℝ) (hb : b ≠ 0) : Ideal.div (a : EReal) (b : EReal) = ((a / b : ℝ) : EReal) := by
  have hb' : (b : EReal) ≠ 0 := by exact_mod_cast hb
  unfold Ideal.div
  rw [if_neg hb', ← EReal.coe_inv, ← EReal.coe_mul, div_eq_mul_inv]

/-- The two forms of a row. -/
theorem soft {n : ℕ} (s v : Fin n → EReal) (p : Fin n → Prop) [DecidablePred p] (hs : ∀ k, Fin1 (s k)) (k₀ : Fin n) (h₀ : p k₀) (M : EReal)
    (hM : M = Finset.univ.fold max ⊥ fun k => if p k then s k else ⊥) :
    ∑ k, v k * Ideal.div (Ideal.exp ((if p k then s k else ⊥) - M)) (∑ l, Ideal.exp ((if p l then s l else ⊥) - M)) =
      (∑ k, (if p k then Ideal.exp (s k) else 0) * v k) * Ideal.div 1 (∑ k, if p k then Ideal.exp (s k) else 0) := by
  choose σ hσ using hs
  have hlt : M < ⊤ := by
    rw [hM, Finset.fold_max_lt]
    refine ⟨bot_lt_top, fun k _ => ?_⟩
    split
    · rw [hσ]; exact EReal.coe_lt_top _
    · exact bot_lt_top
  have hgt : ⊥ < M := by
    rw [hM, Finset.lt_fold_max]
    refine .inr ⟨k₀, Finset.mem_univ _, ?_⟩
    rw [if_pos h₀, hσ]; exact EReal.bot_lt_coe _
  clear hM
  lift M to ℝ using ⟨hlt.ne, hgt.ne'⟩
  have he : ∀ k, Ideal.exp ((if p k then s k else ⊥) - (M : EReal)) = (((if p k then Real.exp (σ k) else 0) * Real.exp (-M) : ℝ) : EReal) := by
    intro k
    by_cases h : p k
    · rw [if_pos h, if_pos h, hσ, ← EReal.coe_sub, Ideal.exp_coe, ← Real.exp_add, sub_eq_add_neg]
    · rw [if_neg h, if_neg h, EReal.bot_sub, Ideal.exp_bot, zero_mul, EReal.coe_zero]
  have hw : ∀ k, (if p k then Ideal.exp (s k) else 0) = (((if p k then Real.exp (σ k) else 0) : ℝ) : EReal) := by
    intro k
    by_cases h : p k
    · rw [if_pos h, if_pos h, hσ, Ideal.exp_coe]
    · rw [if_neg h, if_neg h, EReal.coe_zero]
  simp only [he, hw]
  generalize hP : (fun k => if p k then Real.exp (σ k) else 0) = P
  have hPk : ∀ k, (if p k then Real.exp (σ k) else 0) = P k := fun k => congrFun hP k
  simp only [hPk]
  have hP0 : ∀ k, 0 ≤ P k := fun k => by rw [← hPk]; split; exacts [(Real.exp_pos _).le, le_rfl]
  have hD : 0 < ∑ k, P k := Finset.sum_pos' (fun k _ => hP0 k) ⟨k₀, Finset.mem_univ _, by rw [← hPk, if_pos h₀]; exact Real.exp_pos _⟩
  have hE : 0 < Real.exp (-M) := Real.exp_pos _
  generalize Real.exp (-M) = E at hE ⊢
  rw [coe_sum, coe_sum, ← Finset.sum_mul, ← EReal.coe_one, div_real 1 _ hD.ne', sum_mul_real _ _ (by positivity)]
  refine Finset.sum_congr rfl fun k _ => ?_
  rw [div_real _ _ (mul_pos hD hE).ne', mul_comm (P k : EReal) (v k), mul_assoc, ← EReal.coe_mul]
  congr 2
  field_simp

/-- A row of 2048 keys of which only the first `a + 512` weigh anything. -/
theorem sum_tile (a : ℕ) (ha : a + 512 ≤ 2048) (f : Fin 2048 → EReal) (hz : ∀ j : Fin 2048, a + 512 ≤ j.val → f j = 0) :
    ∑ j, f j = (∑ k : Fin a, f ⟨k.val, by omega⟩) + ∑ k : Fin 512, f ⟨a + k.val, by omega⟩ := by
  obtain ⟨b, hb⟩ : ∃ b, a + 512 + b = 2048 := ⟨2048 - (a + 512), by omega⟩
  have h1 : ∑ j, f j = ∑ j : Fin (a + 512 + b), f (Fin.cast hb j) := (Fintype.sum_equiv (finCongr hb) _ _ fun _ => rfl).symm
  rw [h1, Fin.sum_univ_add, Fin.sum_univ_add]
  have h2 : ∑ i : Fin b, f (Fin.cast hb (Fin.natAdd (a + 512) i)) = 0 := Finset.sum_eq_zero fun i _ => hz _ (Nat.le_add_right _ _)
  rw [h2, add_zero]
  rfl

end Cert.Attn
-- ==== Proof.Tile.lean ====
/-
  One head of one tile, the queries and the partial result, element by element at the reals.
-/
module

public import proofs.«01_k».proof.Proof.Values
public import proofs.«01_k».proof.Proof.Soft
public import Idealize.ShloMosaic.Lib.Pointwise

@[expose] public section

set_option maxRecDepth 16384

noncomputable section

namespace Cert.Attn

open Cert.KernelIdeal Cert.KernelIdeal.Gen
open Idealize.ShloMosaic
open Idealize.ShloMosaic.TcCoe

/-- The quotient by 64 as both programs spell it, of an index. -/
theorem fd_at : ∀ n : Fin 512,
    Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32) = BitVec.ofNat 32 (n.val / 64) := by
  decide +kernel

theorem sge_at : ∀ a b : Fin 8, IntOp.cmpi CmpIPredicate.sge (BitVec.ofNat 32 a.val) (BitVec.ofNat 32 b.val) = if b.val ≤ a.val then 1#1 else 0#1 := by
  decide +kernel

theorem mask_at (r k : Fin 512) : mask (ix2 r k) = if k.val / 64 ≤ r.val / 64 then 1#1 else 0#1 := by
  pointwise [mask, k0_pay1, k0_pay2, k0_pay3]
  rw [fd_at r, fd_at k]
  exact sge_at ⟨r.val / 64, by omega⟩ ⟨k.val / 64, by omega⟩

/-- The scale of the scores. -/
abbrev sc : EReal := Ideal.ofBits FTy.f32 0x3DB504F3#32

/-- One row of a head: the keys before the tile, and the tile's own under the mask. -/
def row {a : ℕ} (sf vf : Fin a → EReal) (m : Fin 512 → BitVec 1) (sd vd : Fin 512 → EReal) : EReal :=
  (∑ k, Ideal.exp (sf k) * vf k + ∑ k, Scalar.select (m k) (Ideal.exp (sd k) * vd k) 0) *
    Ideal.div 1 (∑ k, Ideal.exp (sf k) + ∑ k, Scalar.select (m k) (Ideal.exp (sd k)) 0)

section
variable (m : IVec S512x512 1) (q : FVec Ideal S512x128 .bf16) (k : Vec Ideal S512x128 .bf16) (v : Vec Ideal S512x128 .f32) (r : Fin 512) (e : Fin 128)
theorem pay6_at : k0_pay6 m q k v (ix2 r e) = row (a := 0) (fun _ => 0) (fun _ => 0) (fun j => m (ix2 r j))
      (fun j => (∑ l : Fin 128, q (ix2 r l) * k (ix2 j l)) * sc) (fun j => v (ix2 j e)) := by
  unfold row
  rw [Fin.sum_univ_zero, Fin.sum_univ_zero, zero_add, zero_add]
  pointwise [k0_pay6]
theorem pay42_at (kf : Vec Ideal S512x128 .bf16) (vf : Vec Ideal S512x128 .f32) :
    k0_pay42 m q k v kf vf (ix2 r e) = row (fun j : Fin 512 => (∑ l : Fin 128, q (ix2 r l) * kf (ix2 j l)) * sc) (fun j => vf (ix2 j e)) (fun j => m (ix2 r j))
      (fun j => (∑ l : Fin 128, q (ix2 r l) * k (ix2 j l)) * sc) (fun j => v (ix2 j e)) := by
  pointwise [k0_pay42, row]
theorem pay85_at (kf : Vec Ideal S1024x128 .bf16) (vf : Vec Ideal S1024x128 .f32) :
    k0_pay85 m q k v kf vf (ix2 r e) = row (fun j : Fin 1024 => (∑ l : Fin 128, q (ix2 r l) * kf (ix2 j l)) * sc) (fun j => vf (ix2 j e)) (fun j => m (ix2 r j))
      (fun j => (∑ l : Fin 128, q (ix2 r l) * k (ix2 j l)) * sc) (fun j => v (ix2 j e)) := by
  pointwise [k0_pay85, row]
theorem far3_at (kf : Vec Ideal S1536x128 .bf16) (vf : Vec Ideal S1536x128 .f32) :
    far3 m q k v kf vf (ix2 r e) = row (fun j : Fin 1536 => (∑ l : Fin 128, q (ix2 r l) * kf (ix2 j l)) * sc) (fun j => vf (ix2 j e)) (fun j => m (ix2 r j))
      (fun j => (∑ l : Fin 128, q (ix2 r l) * k (ix2 j l)) * sc) (fun j => v (ix2 j e)) := by
  pointwise [far3, row]
end

/-! ## The whole arrays -/

section
variable (X : Ins Ideal)
/-- A query entry, a score, its weight under the mask, and the context. -/
def qry (i : Fin 2048) (j : Fin 1024) : EReal := ∑ n : Fin 1024, X.x0 (ix2 i n) * X.x1 (ix2 n j)
def scr (h : Fin 8) (i j : Fin 2048) : EReal := (∑ l : Fin 128, qry X i ⟨128 * h.val + l.val, by omega⟩ * X.x2 (ix2 j ⟨128 * h.val + l.val, by omega⟩)) * sc
def wgt (h : Fin 8) (i j : Fin 2048) : EReal := if j.val / 64 ≤ i.val / 64 then Ideal.exp (scr X h i j) else 0
def ctx (h : Fin 8) (i : Fin 2048) (e : Fin 128) : EReal :=
  (∑ j, wgt X h i j * X.x3 (ix2 j ⟨128 * h.val + e.val, by omega⟩)) * Ideal.div 1 (∑ j, wgt X h i j)

theorem qT_at (t : Fin 4) (r : Fin 512) (j : Fin 1024) : qT X t (ix2 r j) = qry X ⟨512 * t.val + r.val, by omega⟩ j := by
  pointwise [qT, k0_pay4, qry]
  refine Finset.sum_congr rfl fun n _ => Ideal.mul_congr ?_ ?_
  · refine congrArg X.x0 ?_
    funext a; apply Fin.ext; fin_cases a
    · show 512 * t.val + 1 * r.val = _; exact congrArg _ (Nat.one_mul _)
    · show 0 + 1 * n.val = n.val; omega
  · refine congrArg X.x1 ?_
    funext a; apply Fin.ext; fin_cases a
    · show 0 + 1 * n.val = n.val; omega
    · show 0 + 1 * j.val = j.val; omega
theorem qH_at (t : Fin 4) (h : Fin 8) (r : Fin 512) (e : Fin 128) :
    qH X t h (ix2 r e) = qry X ⟨512 * t.val + r.val, by omega⟩ ⟨128 * h.val + e.val, by omega⟩ := by
  rw [← qT_at]; pointwise [qH]

/-- A block of rows of one head. -/
theorem sub_at {e : EltTy} {n : ℕ} (x : Vec Ideal S2048x1024 e) (o p : ℕ) (inb : ∀ a : Fin 2, (![o, p] : Fin 2 → ℕ) a + (![n, 128] : Fin 2 → ℕ) a ≤ S2048x1024.size a)
    (j : Fin n) (l : Fin 128) (hj : o + j.val < 2048) (hl : p + l.val < 1024) :
    x ((Rect.unit (s := S2048x1024) ![o, p] ![n, 128] inb).emb (ix2 j l)) = x (ix2 ⟨o + j.val, hj⟩ ⟨p + l.val, hl⟩) := by
  refine congrArg x ?_
  funext a; apply Fin.ext; fin_cases a
  · show o + 1 * j.val = o + j.val; omega
  · show p + 1 * l.val = p + l.val; omega

variable (h : Fin 8) (r : Fin 512) (e : Fin 128)

/-- A row in the kernel's pieces is a row over all the keys. -/
theorem row_eq (t : Fin 4) {a : ℕ} (ha : a = 512 * t.val) (sf vf : Fin a → EReal) (sd vd : Fin 512 → EReal)
    (hsf : ∀ k, sf k = scr X h ⟨512 * t.val + r.val, by omega⟩ ⟨k.val, by omega⟩) (hvf : ∀ k, vf k = X.x3 (ix2 ⟨k.val, by omega⟩ ⟨128 * h.val + e.val, by omega⟩))
    (hsd : ∀ k, sd k = scr X h ⟨512 * t.val + r.val, by omega⟩ ⟨512 * t.val + k.val, by omega⟩)
    (hvd : ∀ k, vd k = X.x3 (ix2 ⟨512 * t.val + k.val, by omega⟩ ⟨128 * h.val + e.val, by omega⟩)) :
    row sf vf (fun k => mask (ix2 r k)) sd vd = ctx X h ⟨512 * t.val + r.val, by omega⟩ e := by
  subst ha
  have hfar : ∀ k : Fin (512 * t.val), Ideal.exp (sf k) = wgt X h ⟨512 * t.val + r.val, by omega⟩ ⟨k.val, by omega⟩ := by
    intro k
    rw [hsf]; unfold wgt
    rw [if_pos]
    show k.val / 64 ≤ (512 * t.val + r.val) / 64
    exact Nat.div_le_div_right (by omega)
  have hown : ∀ (k : Fin 512) (z : EReal), Scalar.select (mask (ix2 r k)) (Ideal.exp (sd k) * z) 0 = wgt X h ⟨512 * t.val + r.val, by omega⟩ ⟨512 * t.val + k.val, by omega⟩ * z := by
    intro k z
    rw [hsd, mask_at]; unfold wgt
    have hiff : (k.val / 64 ≤ r.val / 64) ↔ (512 * t.val + k.val) / 64 ≤ (512 * t.val + r.val) / 64 := by omega
    by_cases hk : k.val / 64 ≤ r.val / 64
    · rw [if_pos hk, if_pos (hiff.mp hk)]; rfl
    · rw [if_neg hk, if_neg (fun hh => hk (hiff.mpr hh)), zero_mul]; rfl
  have hown' : ∀ k : Fin 512, Scalar.select (mask (ix2 r k)) (Ideal.exp (sd k)) 0 = wgt X h ⟨512 * t.val + r.val, by omega⟩ ⟨512 * t.val + k.val, by omega⟩ := by
    intro k
    have := hown k 1
    rwa [mul_one, mul_one] at this
  have hz : ∀ j : Fin 2048, 512 * t.val + 512 ≤ j.val → wgt X h ⟨512 * t.val + r.val, by omega⟩ j = 0 := by
    intro j hj
    unfold wgt
    rw [if_neg]
    show ¬ (j.val / 64 ≤ (512 * t.val + r.val) / 64)
    omega
  unfold row ctx
  rw [sum_tile (512 * t.val) (by omega) (fun j => wgt X h ⟨512 * t.val + r.val, by omega⟩ j * X.x3 (ix2 j ⟨128 * h.val + e.val, by omega⟩))
      fun j hj => by show _ * _ = _; rw [hz j hj, zero_mul],
    sum_tile (512 * t.val) (by omega) (fun j => wgt X h ⟨512 * t.val + r.val, by omega⟩ j) hz]
  refine congrArg₂ (· * ·) (congrArg₂ (· + ·) ?_ ?_) (congrArg _ (congrArg₂ (· + ·) ?_ ?_))
  · exact Finset.sum_congr rfl fun k _ => by rw [hfar, hvf]
  · exact Finset.sum_congr rfl fun k _ => by rw [hown, hvd]
  · exact Finset.sum_congr rfl fun k _ => hfar k
  · exact Finset.sum_congr rfl fun k _ => hown' k

theorem hd_at : ∀ t : Fin 4, hd X t h (ix2 r e) = ctx X h ⟨512 * t.val + r.val, by omega⟩ e
  | 0 => by
    refine (pay6_at _ _ _ _ r e).trans (row_eq X h r e 0 rfl _ _ _ _ (fun k => k.elim0) (fun k => k.elim0) (fun k => ?_) fun k => ?_)
    · exact Ideal.mul_congr (Finset.sum_congr rfl fun l _ => Ideal.mul_congr (qH_at X 0 h r l) (sub_at X.x2 _ _ (inbK 0 h) k l _ _)) rfl
    · exact sub_at X.x3 _ _ (inbK 0 h) k e _ _
  | 1 => by
    refine (pay42_at _ _ _ _ r e _ _).trans (row_eq X h r e 1 rfl _ _ _ _ (fun k => ?_) (fun k => ?_) (fun k => ?_) fun k => ?_)
    · refine Ideal.mul_congr (Finset.sum_congr rfl fun l _ => Ideal.mul_congr (qH_at X 1 h r l) ((sub_at X.x2 _ _ (inbL1 h) k l (by omega) (by omega)).trans (congrArg X.x2 (by simp only [Nat.zero_add])))) rfl
    · refine (sub_at X.x3 _ _ (inbL1 h) k e (by omega) (by omega)).trans ?_
      exact congrArg X.x3 (by simp only [Nat.zero_add])
    · exact Ideal.mul_congr (Finset.sum_congr rfl fun l _ => Ideal.mul_congr (qH_at X 1 h r l) (sub_at X.x2 _ _ (inbK 1 h) k l _ _)) rfl
    · exact sub_at X.x3 _ _ (inbK 1 h) k e _ _
  | 2 => by
    refine (pay85_at _ _ _ _ r e _ _).trans (row_eq X h r e 2 rfl _ _ _ _ (fun k => ?_) (fun k => ?_) (fun k => ?_) fun k => ?_)
    · refine Ideal.mul_congr (Finset.sum_congr rfl fun l _ => Ideal.mul_congr (qH_at X 2 h r l) ((sub_at X.x2 _ _ (inbL2 h) k l (by omega) (by omega)).trans (congrArg X.x2 (by simp only [Nat.zero_add])))) rfl
    · refine (sub_at X.x3 _ _ (inbL2 h) k e (by omega) (by omega)).trans ?_
      exact congrArg X.x3 (by simp only [Nat.zero_add])
    · exact Ideal.mul_congr (Finset.sum_congr rfl fun l _ => Ideal.mul_congr (qH_at X 2 h r l) (sub_at X.x2 _ _ (inbK 2 h) k l _ _)) rfl
    · exact sub_at X.x3 _ _ (inbK 2 h) k e _ _
  | 3 => by
    refine (far3_at _ _ _ _ r e _ _).trans (row_eq X h r e 3 rfl _ _ _ _ (fun k => ?_) (fun k => ?_) (fun k => ?_) fun k => ?_)
    · refine Ideal.mul_congr (Finset.sum_congr rfl fun l _ => Ideal.mul_congr (qH_at X 3 h r l) ((sub_at X.x2 _ _ (inbL3 h) k l (by omega) (by omega)).trans (congrArg X.x2 (by simp only [Nat.zero_add])))) rfl
    · refine (sub_at X.x3 _ _ (inbL3 h) k e (by omega) (by omega)).trans ?_
      exact congrArg X.x3 (by simp only [Nat.zero_add])
    · exact Ideal.mul_congr (Finset.sum_congr rfl fun l _ => Ideal.mul_congr (qH_at X 3 h r l) (sub_at X.x2 _ _ (inbK 3 h) k l _ _)) rfl
    · exact sub_at X.x3 _ _ (inbK 3 h) k e _ _

/-- The partial result of one tile, and of one device. -/
theorem wT_at (t : Fin 4) (n : Fin 1024) :
    wT X t (ix2 r n) = ∑ j : Fin 1024, ctx X ⟨j.val / 128, by omega⟩ ⟨512 * t.val + r.val, by omega⟩ ⟨j.val % 128, by omega⟩ * X.x4 (ix2 j n) := by
  pointwise [wT, k0_pay19]
  refine Finset.sum_congr rfl fun j _ => Ideal.mul_congr ?_ ?_
  · have e1 : (Rect.unit (s := S512x1024) ![0, 0] S512x1024.size inb_S512x1024_S512x1024_0_0).emb (ix2 r j) = ix2 r j := by
      funext a; apply Fin.ext; fin_cases a
      · show 0 + 1 * r.val = r.val; omega
      · show 0 + 1 * j.val = j.val; omega
    refine (congrArg (ctxT X t) e1).trans ?_
    rw [← hd_at X ⟨j.val / 128, by omega⟩ r ⟨j.val % 128, by omega⟩ t]
    unfold ctxT beside
    refine congrArg (hd X t _) ?_
    funext a; fin_cases a <;> rfl
  · refine congrArg X.x4 ?_
    funext a; apply Fin.ext; fin_cases a
    · show 0 + 1 * j.val = j.val; omega
    · show 0 + 1 * n.val = n.val; omega
theorem oF_at (i : Fin 2048) (n : Fin 1024) :
    oF X (ix2 i n) = ∑ j : Fin 1024, ctx X ⟨j.val / 128, by omega⟩ i ⟨j.val % 128, by omega⟩ * X.x4 (ix2 j n) := by
  have e1 : inT (ix2 i n) = ix2 (⟨i.val % 512, by omega⟩ : Fin 512) n := by funext a; fin_cases a <;> rfl
  have e2 : (⟨512 * (i.val / 512) + i.val % 512, by omega⟩ : Fin 2048) = i := Fin.ext (by show 512 * (i.val / 512) + i.val % 512 = i.val; omega)
  unfold oF
  rw [e1]
  refine (wT_at X _ _ n).trans ?_
  refine Finset.sum_congr rfl fun j _ => Ideal.mul_congr ?_ rfl
  exact congrArg (fun y => ctx X _ y _) e2
end

end Cert.Attn
-- ==== Proof.Total.lean ====
/-
  What the exchange leaves: every chunk is the sum over the sixteen devices.
-/
module

public import proofs.«01_k».proof.Proof.Tile

@[expose] public section

set_option maxRecDepth 16384

noncomputable section

namespace Cert.Attn

open Cert.KernelIdeal Cert.KernelIdeal.Gen
open Idealize.ShloMosaic
open Idealize.ShloMosaic.TcCoe

/-- The devices in the order device `c` adds them. -/
def turn (c : Dev nD) : List (Dev nD) :=
  [c, pp c 0, pp c 1, pp c 2, zp c 0, pp (zp c 0) 0, pp (zp c 0) 1, pp (zp c 0) 2, zp c 1, pp (zp c 1) 0, pp (zp c 1) 1, pp (zp c 1) 2,
    zp c 2, pp (zp c 2) 0, pp (zp c 2) 1, pp (zp c 2) 2]
theorem turn_all : ∀ c : Dev nD, (turn c).Perm (List.finRange 16) := by decide +kernel
theorem pn_zp : ∀ (c : Dev nD) (s : Fin 3), pn (zp c s) = pn c := by decide

theorem sum_turn (c : Dev nD) (f : Dev nD → EReal) :
    f c + f (pp c 0) + f (pp c 1) + f (pp c 2) + (f (zp c 0) + f (pp (zp c 0) 0) + f (pp (zp c 0) 1) + f (pp (zp c 0) 2)) +
      (f (zp c 1) + f (pp (zp c 1) 0) + f (pp (zp c 1) 1) + f (pp (zp c 1) 2)) +
      (f (zp c 2) + f (pp (zp c 2) 0) + f (pp (zp c 2) 1) + f (pp (zp c 2) 2)) = ∑ d : Dev nD, f d := by
  have h := ((turn_all c).map f).sum_eq
  rw [show ((List.finRange 16).map f).sum = ∑ d : Dev nD, f d from (Fin.sum_univ_def f).symm] at h
  rw [← h]
  simp only [turn, List.map_cons, List.map_nil, List.sum_cons, List.sum_nil, add_zero, add_assoc]

variable (X : Dev nD → Ins Ideal)

theorem un6_back (v : Chunk Ideal) : shapeCast S128x1024 (un6 v) shapeCasts_S1x1x128x1024_S128x1024 = v := by
  funext i; exact congrArg v (Equiv.symm_apply_apply _ _)
theorem un7_back (v : Chunk Ideal) : shapeCast S128x1024 (un7 v) shapeCasts_S1x128x1024_S128x1024 = v := by
  funext i; exact congrArg v (Equiv.symm_apply_apply _ _)

/-- One element of a device's partial result, by chunk. -/
def part (k : Dev nD) (r : Fin 128) (n : Fin 1024) (d : Dev nD) : EReal := oF (X d) (ix2 ⟨128 * k.val + r.val, by have : k.val < 16 := k.isLt; omega⟩ n)

theorem chunk_at (k d : Dev nD) (r : Fin 128) (n : Fin 1024) : sub (oF (X d)) (chR k) (ix2 r n) = part X k r n d := by
  refine congrArg (oF (X d)) ?_
  funext a; apply Fin.ext; fin_cases a
  · show 128 * k.val + 1 * r.val = 128 * k.val + r.val; omega
  · show 0 + 1 * n.val = n.val; omega
theorem vSB_at (k d : Dev nD) (r : Fin 128) (n : Fin 1024) : vSB X d k (ix2 r n) = part X k r n d := by
  rw [← chunk_at]
  pointwise [vSB, k0_pay20]
theorem agg_at (c : Dev nD) (t : Fin 4) (r : Fin 128) (n : Fin 1024) :
    agg X c t (ix2 r n) = part X (ck t (pn c)) r n c + part X (ck t (pn c)) r n (pp c 0) + part X (ck t (pn c)) r n (pp c 1) + part X (ck t (pn c)) r n (pp c 2) := by
  rw [← vSB_at X _ (pp c 0), ← vSB_at X _ (pp c 1), ← vSB_at X _ (pp c 2), ← chunk_at]
  unfold agg k0_pay138
  rw [un6_back, un6_back, un6_back]
  pointwise []
theorem vRD_at (c : Dev nD) (r : Fin 128) (n : Fin 1024) : vRD X c (ix2 r n) = ∑ d : Dev nD, part X c r n d := by
  have h : ∀ c' : Dev nD, pn c' = pn c → agg X c' (zn c) (ix2 r n) = part X c r n c' + part X c r n (pp c' 0) + part X c r n (pp c' 1) + part X c r n (pp c' 2) := by
    intro c' e; rw [agg_at, e, ck_self]
  rw [← sum_turn c, ← h c rfl, ← h (zp c 0) (pn_zp c 0), ← h (zp c 1) (pn_zp c 1), ← h (zp c 2) (pn_zp c 2)]
  unfold vRD k0_pay155 k0_pay154
  rw [un7_back, un7_back, un7_back]
  pointwise [acc0, k0_pay143, vAG, k0_pay144]
/-- The kernel's result on every device. -/
theorem out_at (i : Fin 2048) (n : Fin 1024) : k0_pay156 (join (vals X).RD) (ix2 i n) = ∑ d : Dev nD, oF (X d) (ix2 i n) := by
  refine (vRD_at X ⟨i.val / 128, by show _ < 16; omega⟩ ⟨i.val % 128, by omega⟩ n).trans ?_
  refine Finset.sum_congr rfl fun d _ => ?_
  unfold part
  exact congrArg (fun y => oF (X d) (ix2 y n)) (Fin.ext (by show 128 * (i.val / 128) + i.val % 128 = i.val; omega))

end Cert.Attn
-- ==== Proof.Reads.lean ====
/-
  What the kernel reads, from the arguments: the host line before it only reshapes and slices.
-/
module

public import proofs.«01_k».proof.Proof.Region
public import Idealize.ShloMosaic.Lib.Pointwise
public import Idealize.ShloMosaic.Lib.DynamicIndex

@[expose] public section

set_option maxRecDepth 16384

noncomputable section

namespace Cert.Attn

open Cert.KernelIdeal Cert.KernelIdeal.Gen
open Idealize.ShloMosaic
open Idealize.ShloMosaic.TcCoe

variable (m : (ℓ : Loc nD τ sig) → Buf (Elt Ideal) ℓ) (c : Dev nD)

theorem x0_eq : (XsOf m c).x0 = truncf (F := Ideal) .bf16 (shapeCast S2048x1024 (m ((c.tc : Thread nD τ).loc main_arg0) : FVec Ideal S1x2048x1024 .f32) shapeCasts_S1x2048x1024_S2048x1024) bitsLt_bf16_f32 := by
  show StableHlo.after (hostOps0 c) (V0 m c) (Proc.devRef .tc main_v6) = _
  after_results_simp <;> rfl
theorem x2_eq : (XsOf m c).x2 = truncf (F := Ideal) .bf16 (shapeCast S2048x1024 (m ((c.tc : Thread nD τ).loc main_arg2) : FVec Ideal S1x2048x8x128 .f32) shapeCasts_S1x2048x8x128_S2048x1024) bitsLt_bf16_f32 := by
  show StableHlo.after (hostOps0 c) (V0 m c) (Proc.devRef .tc main_v8) = _
  after_results_simp <;> rfl
theorem x3_eq : (XsOf m c).x3 = (shapeCast S2048x1024 (m ((c.tc : Thread nD τ).loc main_arg3) : FVec Ideal S1x2048x8x128 .f32) shapeCasts_S1x2048x8x128_S2048x1024) := by
  show StableHlo.after (hostOps0 c) (V0 m c) (Proc.devRef .tc main_v9) = _
  after_results_simp <;> rfl

theorem fits1 : S1024x16384.Slices ![0, 1024 * c.val] S1024x1024 := ⟨rfl, by revert c; decide +kernel⟩
theorem fits4 : S16384x1024.Slices ![1024 * c.val, 0] S1024x1024 := ⟨rfl, by revert c; decide +kernel⟩

/-- The start of a device's columns, as the host works it out. -/
def startW : IVec S_ 32 :=
  select (cmpi .slt (muli (id (Host.remui (Host.divui (constantI S_ 32 c.word) (constantI S_ 32 1#32)) (constantI S_ 32 16#32))) (constantI S_ 32 1024#32)) (constantI S_ 32 0#32))
    (addi (muli (id (Host.remui (Host.divui (constantI S_ 32 c.word) (constantI S_ 32 1#32)) (constantI S_ 32 16#32))) (constantI S_ 32 1024#32)) (constantI S_ 32 16384#32))
    (muli (id (Host.remui (Host.divui (constantI S_ 32 c.word) (constantI S_ 32 1#32)) (constantI S_ 32 16#32))) (constantI S_ 32 1024#32))
theorem startW_at : ∀ c : Dev nD, (startW c (Shape.Idx.first h_S_)).toInt = ((1024 * c.val : ℕ) : Int) := by decide +kernel
theorem start_at {w : IVec S_ 32} {c : Dev nD} (h : w = startW c) : (w (Shape.Idx.first h_S_)).toInt = ((1024 * c.val : ℕ) : Int) := by rw [h, startW_at]
theorem zeroW_at {w : IVec S_ 32} (h : w = constantI S_ 32 0#32) : (w (Shape.Idx.first h_S_)).toInt = ((0 : ℕ) : Int) := by rw [h]; rfl

theorem x1_eq : (XsOf m c).x1 = truncf (F := Ideal) .bf16 (extractStridedSlice S1024x1024 ![0, 1024 * c.val] (m ((c.tc : Thread nD τ).loc main_arg1) : FVec Ideal S1024x16384 .f32) (fits1 c)) bitsLt_bf16_f32 := by
  show StableHlo.after (hostOps0 c) (V0 m c) (Proc.devRef .tc main_v20) = _
  after_results_simp
  refine congrArg (fun y => truncf .bf16 y bitsLt_bf16_f32) ?_
  refine Host.dynamicSlice_eq_extractStridedSlice (s := S1024x16384) S1024x1024 _ _ ![0, 1024 * c.val] _ (fits1 c) fun a => ?_
  fin_cases a
  · simp only [Fin.zero_eta, Matrix.cons_val_zero]
    after_results_simp
    rfl
  · simp only [Fin.mk_one, Matrix.cons_val_one]
    refine start_at ?_
    rfl
theorem x4_eq : (XsOf m c).x4 = truncf (F := Ideal) .bf16 (extractStridedSlice S1024x1024 ![1024 * c.val, 0] (m ((c.tc : Thread nD τ).loc main_arg4) : FVec Ideal S16384x1024 .f32) (fits4 c)) bitsLt_bf16_f32 := by
  show StableHlo.after (hostOps0 c) (V0 m c) (Proc.devRef .tc main_v21) = _
  after_results_simp
  refine congrArg (fun y => truncf .bf16 y bitsLt_bf16_f32) ?_
  refine Host.dynamicSlice_eq_extractStridedSlice (s := S16384x1024) S1024x1024 _ _ ![1024 * c.val, 0] _ (fits4 c) fun a => ?_
  fin_cases a
  · simp only [Fin.zero_eta, Matrix.cons_val_zero]
    refine start_at ?_
    rfl
  · refine zeroW_at ?_
    rfl
theorem last_eq : V3 m (outs m) c (Proc.devRef .tc main_v23) = shapeCast S1x2048x1024 (outv m) shapeCasts_S2048x1024_S1x2048x1024 := by
  rw [← outs_eq m c]
  show StableHlo.after hostOps1 (V2 m (outs m) c) (Proc.devRef .tc main_v23) = _
  after_results_simp
  rfl

theorem x0_at (i : Fin 2048) (n : Fin 1024) : (XsOf m c).x0 (ix2 i n) = (m ((c.tc : Thread nD τ).loc main_arg0) : FVec Ideal S1x2048x1024 .f32) (ix3 0 i n) := by
  rw [x0_eq]
  exact shapeCast_apply _ _ (ix2 i n) (ix3 0 i n) (by rw [Shape.rowMajor_val_two, Shape.rowMajor_val_three]; show (0 * 2048 + i.val) * 1024 + n.val = i.val * 1024 + n.val; omega)
theorem x1_at (n j : Fin 1024) : (XsOf m c).x1 (ix2 n j) = (m ((c.tc : Thread nD τ).loc main_arg1) : FVec Ideal S1024x16384 .f32) (ix2 n ⟨1024 * c.val + j.val, by have := c.isLt; simp only [nD] at this; omega⟩) := by
  rw [x1_eq]
  pointwise
theorem heads_at (x : FVec Ideal S1x2048x8x128 .f32) (j : Fin 2048) (h : Fin 8) (l : Fin 128) :
    shapeCast S2048x1024 x shapeCasts_S1x2048x8x128_S2048x1024 (ix2 j ⟨128 * h.val + l.val, by omega⟩) = x (ix4 0 j h l) :=
  shapeCast_apply _ _ _ _ (by rw [Shape.rowMajor_val_two, Shape.rowMajor_val_four]; show ((0 * 2048 + j.val) * 8 + h.val) * 128 + l.val = j.val * 1024 + (128 * h.val + l.val); omega)
theorem x2_at (j : Fin 2048) (h : Fin 8) (l : Fin 128) : (XsOf m c).x2 (ix2 j ⟨128 * h.val + l.val, by omega⟩) = (m ((c.tc : Thread nD τ).loc main_arg2) : FVec Ideal S1x2048x8x128 .f32) (ix4 0 j h l) := by
  rw [x2_eq]
  exact heads_at _ j h l
theorem x3_at (j : Fin 2048) (h : Fin 8) (l : Fin 128) : (XsOf m c).x3 (ix2 j ⟨128 * h.val + l.val, by omega⟩) = (m ((c.tc : Thread nD τ).loc main_arg3) : FVec Ideal S1x2048x8x128 .f32) (ix4 0 j h l) := by
  rw [x3_eq]
  exact heads_at _ j h l
theorem x4_at (j n : Fin 1024) : (XsOf m c).x4 (ix2 j n) = (m ((c.tc : Thread nD τ).loc main_arg4) : FVec Ideal S16384x1024 .f32) (ix2 ⟨1024 * c.val + j.val, by have := c.isLt; simp only [nD] at this; omega⟩ n) := by
  rw [x4_eq]
  pointwise
theorem last_at (i : Fin 2048) (n : Fin 1024) : (V3 m (outs m) c (Proc.devRef .tc main_v23) : FVec Ideal S1x2048x1024 .f32) (ix3 0 i n) = outv m (ix2 i n) := by
  rw [last_eq]
  exact shapeCast_apply _ _ (ix3 0 i n) (ix2 i n) (by rw [Shape.rowMajor_val_two, Shape.rowMajor_val_three]; show i.val * 1024 + n.val = (0 * 2048 + i.val) * 1024 + n.val; omega)

end Cert.Attn
-- ==== Proof.Refer.lean ====
/-
  The reference, piece by piece, and each piece element by element at the reals.
-/
module

public import proofs.«01_k».proof.Proof.Gen.ReferenceIdeal.Run
public import proofs.«01_k».proof.Proof.Soft
public import Idealize.ShloMosaic.Lib.Pointwise
public import Idealize.ShloMosaic.Lib.Tactic.CleanTypes
public import Idealize.ShloMosaic.Lib.IdealHost

@[expose] public section

set_option maxRecDepth 16384

noncomputable section

namespace Cert.Attn.Refer

open Cert.ReferenceIdeal Cert.ReferenceIdeal.Gen Cert.ReferenceIdeal.Value
open Idealize.ShloMosaic
open Idealize.ShloMosaic.TcCoe

/-- The block of every position. -/
def blk : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
/-- The mask, and whether a row keeps any key. -/
def msk : IVec S2048x2048 1 :=
  cmpi .sle (broadcastInDim S2048x2048 ![0, 1] bcast_S1x2048_S2048x2048_0_1 (broadcastInDim S1x2048 ![1] bcast_S2048_S1x2048_1 blk)) (broadcastInDim S2048x2048 ![0, 1] bcast_S2048x1_S2048x2048_0_1 (broadcastInDim S2048x1 ![0] bcast_S2048_S2048x1_0 blk))
def any : IVec S1x1x2048x1 1 := broadcastInDim S1x1x2048x1 ![2] bcast_S2048_S1x1x2048x1_2 (Host.reduce IntOp.ori msk (constantI S_ 1 0#1) reducesTo_S2048x2048_S2048_d1 h_S_)

variable (x : FVec Ideal S1x2048x1024 .f32) (w : FVec Ideal S1024x16384 .f32) (k v : FVec Ideal S1x2048x128x128 .f32) (o : FVec Ideal S16384x1024 .f32)
/-- The masked scores. -/
def raw : FVec Ideal S1x128x2048x2048 .f32 :=
  mulf (Host.dotGeneral dot_S1x2048x128x128_S1x2048x128x128_S1x128x2048x2048_3_3_1_1_02_02 none (shapeCast _ (Host.dotGeneral dot_S1x2048x1024_S1024x16384_S1x2048x16384_2_0_01_1_n_n none x w) shapeCasts_S1x2048x16384_S1x2048x128x128) k) (broadcastInDim S1x128x2048x2048 ![] bcast_S_S1x128x2048x2048 (constant S_ .f32 0x3DB504F3#32))
def scores : FVec Ideal S1x128x2048x2048 .f32 :=
  select (broadcastInDim S1x128x2048x2048 ![0, 1, 2, 3] bcast_S1x1x2048x2048_S1x128x2048x2048_0_1_2_3 (broadcastInDim S1x1x2048x2048 ![2, 3] bcast_S2048x2048_S1x1x2048x2048_2_3 msk)) (raw x w k) (broadcastInDim S1x128x2048x2048 ![] bcast_S_S1x128x2048x2048 (id (constant S_ .f32 0xFF800000#32)))
/-- The maximum of each row. -/
def top (s : FVec Ideal S1x128x2048x2048 .f32) : FVec Ideal S1x128x2048 .f32 :=
  Host.reduce FloatOps.maximumf s (constant S_ .f32 0xFF800000#32) reducesTo_S1x128x2048x2048_S1x128x2048_d3 h_S_
/-- The exponentials, and the weights. -/
def expd (s : FVec Ideal S1x128x2048x2048 .f32) : FVec Ideal S1x128x2048x2048 .f32 :=
  Host.exp (subf s (broadcastInDim S1x128x2048x2048 ![0, 1, 2, 3] bcast_S1x128x2048x1_S1x128x2048x2048_0_1_2_3 (broadcastInDim S1x128x2048x1 ![0, 1, 2] bcast_S1x128x2048_S1x128x2048x1_0_1_2 (top s))))
def sums (y : FVec Ideal S1x128x2048x2048 .f32) : FVec Ideal S1x128x2048 .f32 :=
  Host.reduceAdd y (constant S_ .f32 0x00000000#32) reducesTo_S1x128x2048x2048_S1x128x2048_d3 h_S_
def dens (y : FVec Ideal S1x128x2048 .f32) : FVec Ideal S1x128x2048x1 .f32 :=
  select (broadcastInDim S1x128x2048x1 ![0, 1, 2, 3] bcast_S1x1x2048x1_S1x128x2048x1_0_1_2_3 any)
    (broadcastInDim S1x128x2048x1 ![0, 1, 2] bcast_S1x128x2048_S1x128x2048x1_0_1_2 y)
    (broadcastInDim S1x128x2048x1 ![] bcast_S_S1x128x2048x1 (id (constant S_ .f32 0x3F800000#32)))
def wts (y : FVec Ideal S1x128x2048x2048 .f32) : FVec Ideal S1x128x2048x2048 .f32 :=
  select (broadcastInDim S1x128x2048x2048 ![0, 1, 2, 3] bcast_S1x1x2048x1_S1x128x2048x2048_0_1_2_3 any)
    (Host.divf y (broadcastInDim S1x128x2048x2048 ![0, 1, 2, 3] bcast_S1x128x2048x1_S1x128x2048x2048_0_1_2_3 (dens (sums y))))
    (broadcastInDim S1x128x2048x2048 ![] bcast_S_S1x128x2048x2048 (id (constant S_ .f32 0x00000000#32)))
/-- The result of given weights. -/
def res (y : FVec Ideal S1x128x2048x2048 .f32) : FVec Ideal S1x2048x1024 .f32 :=
  Host.dotGeneral dot_S1x2048x16384_S16384x1024_S1x2048x1024_2_0_01_1_n_n none (shapeCast _ (transpose S1x2048x128x128 [0, 3, 1, 2] (Host.dotGeneral dot_S1x2048x128x128_S1x128x2048x2048_S1x128x128x2048_1_3_3_2_02_01 none v y) transposes_S1x128x128x2048_S1x2048x128x128_0_3_1_2) shapeCasts_S1x2048x128x128_S1x2048x16384) o

theorem res_eq (m : (ℓ : Loc nD τ sig) → Buf (Elt Ideal) ℓ) (c : Dev nD) :
    res_main_v33 m c = res (m ((c.tc : Thread nD τ).loc main_arg3)) (m ((c.tc : Thread nD τ).loc main_arg4))
      (wts (expd (scores (m ((c.tc : Thread nD τ).loc main_arg0)) (m ((c.tc : Thread nD τ).loc main_arg1)) (m ((c.tc : Thread nD τ).loc main_arg2))))) := by
  unfold res_main_v33
  rfl

end Cert.Attn.Refer
-- ==== Proof.ReferAt.lean ====
/-
  The reference's pieces, element by element at the reals.
-/
module

public import proofs.«01_k».proof.Proof.Refer

@[expose] public section

set_option maxRecDepth 16384

noncomputable section

namespace Cert.Attn.Refer

open Cert.ReferenceIdeal Cert.ReferenceIdeal.Gen Cert.ReferenceIdeal.Value
open Idealize.ShloMosaic
open Idealize.ShloMosaic.TcCoe

theorem fd_at : ∀ i : Fin 2048,
   Scalar.select
      (IntOp.andi
        (IntOp.cmpi CmpIPredicate.ne
          (if BitVec.ofNat 32 i.val = 0 then 0 else if (BitVec.ofNat 32 i.val).msb = true then -1 else (1 : BitVec 32))
          (if (64#32) = 0 then 0
          else if (64#32).msb = true then -1 else (1 : BitVec 32)))
        (IntOp.cmpi CmpIPredicate.ne (IntOp.remsi ArithUnit.host (BitVec.ofNat 32 i.val) (64#32))
          0#32))
      (IntOp.subi (IntOp.divsi ArithUnit.host (BitVec.ofNat 32 i.val) (64#32)) 1#32)
      (IntOp.divsi ArithUnit.host (BitVec.ofNat 32 i.val) (64#32)) =
    BitVec.ofNat 32 (i.val / 64) := by decide +kernel
theorem blk_at (i : Fin 2048) : blk (ix1 i) = BitVec.ofNat 32 (i.val / 64) := by
  pointwise [blk]
  exact fd_at i
theorem sle_at : ∀ a b : Fin 32, IntOp.cmpi CmpIPredicate.sle (BitVec.ofNat 32 a.val) (BitVec.ofNat 32 b.val) = if a.val ≤ b.val then 1#1 else 0#1 := by
  decide +kernel
theorem msk_at (i j : Fin 2048) : msk (ix2 i j) = if j.val / 64 ≤ i.val / 64 then 1#1 else 0#1 := by
  pointwise [msk]
  rw [blk_at, blk_at]
  exact sle_at ⟨j.val / 64, by omega⟩ ⟨i.val / 64, by omega⟩
theorem fold_ori_one {n : ℕ} (f : Fin n → BitVec 1) (j : Fin n) (h : f j = 1#1) : Finset.univ.fold IntOp.ori (0#1) f = 1#1 := by
  classical
  rw [← Finset.insert_erase (Finset.mem_univ j), Finset.fold_insert (Finset.notMem_erase j _), h]
  generalize Finset.fold IntOp.ori (0#1) f (Finset.univ.erase j) = y
  revert y; decide
theorem any_at (i : Fin 2048) : any (ix4 0 0 i 0) = 1#1 := by
  pointwise [any]
  exact fold_ori_one _ i (by rw [msk_at, if_pos le_rfl])

variable (x : FVec Ideal S1x2048x1024 .f32) (w : FVec Ideal S1024x16384 .f32) (k v : FVec Ideal S1x2048x128x128 .f32) (o : FVec Ideal S16384x1024 .f32)
theorem raw_at (h : Fin 128) (i j : Fin 2048) :
    raw x w k (ix4 0 h i j) = (∑ l : Fin 128, (∑ n : Fin 1024, x (ix3 0 i n) * w (ix2 n ⟨h.val * 128 + l.val, by omega⟩)) * k (ix4 0 j h l)) * Ideal.ofBits FTy.f32 0x3DB504F3#32 := by
  pointwise [raw]
theorem inf_bits : Ideal.ofBits FTy.f32 0xFF800000#32 = ⊥ := by simp [Ideal.ofBits, Ideal.ieee]
theorem pos_bits : Ideal.ofBits FTy.f32 0x7F800000#32 = ⊤ := by simp [Ideal.ofBits, Ideal.ieee]
theorem sc_real : Fin1 (Ideal.ofBits FTy.f32 0x3DB504F3#32) := by
  simp only [Ideal.ofBits, Ideal.ieee]
  rw [if_neg (by decide), if_neg (by decide)]
  exact ⟨_, rfl⟩
theorem scores_at (h : Fin 128) (i j : Fin 2048) : scores x w k (ix4 0 h i j) = if j.val / 64 ≤ i.val / 64 then raw x w k (ix4 0 h i j) else ⊥ := by
  pointwise [scores]
  rw [msk_at]
  split
  · rfl
  · exact inf_bits
theorem expd_at (s : FVec Ideal S1x128x2048x2048 .f32) (h : Fin 128) (i j : Fin 2048) :
    expd s (ix4 0 h i j) = Ideal.exp (s (ix4 0 h i j) - Finset.univ.fold max ⊥ fun j' : Fin 2048 => s (ix4 0 h i j')) := by
  pointwise [expd, top]
  rw [inf_bits]
theorem sums_at (s : FVec Ideal S1x128x2048x2048 .f32) (h : Fin 128) (i : Fin 2048) : sums s (ix3 0 h i) = ∑ j : Fin 2048, s (ix4 0 h i j) := by
  pointwise [sums]
theorem dens_at (s : FVec Ideal S1x128x2048 .f32) (h : Fin 128) (i : Fin 2048) : dens s (ix4 0 h i 0) = s (ix3 0 h i) := by
  pointwise [dens]
  rw [any_at]; rfl
theorem select_one {s : Shape} (c : IVec s 1) (a b : FVec Ideal s .f32) (i : s.Idx) (h : c i = 1#1) : select c a b i = a i := by
  unfold select Scalar.select
  rw [h]; exact if_pos (by decide)
theorem divf_at {s : Shape} (a b : FVec Ideal s .f32) (i : s.Idx) : Host.divf a b i = Ideal.div (a i) (b i) := rfl
theorem spread_any (a : IVec S1x1x2048x1 1) (h : Fin 128) (i j : Fin 2048) :
    broadcastInDim S1x128x2048x2048 ![0, 1, 2, 3] bcast_S1x1x2048x1_S1x128x2048x2048_0_1_2_3 a (ix4 0 h i j) = a (ix4 0 0 i 0) := by
  pointwise []
theorem spread_col (a : FVec Ideal S1x128x2048x1 .f32) (h : Fin 128) (i j : Fin 2048) :
    broadcastInDim S1x128x2048x2048 ![0, 1, 2, 3] bcast_S1x128x2048x1_S1x128x2048x2048_0_1_2_3 a (ix4 0 h i j) = a (ix4 0 h i 0) := by
  pointwise []
theorem wts_at (s : FVec Ideal S1x128x2048x2048 .f32) (h : Fin 128) (i j : Fin 2048) : wts s (ix4 0 h i j) = Ideal.div (s (ix4 0 h i j)) (∑ l : Fin 2048, s (ix4 0 h i l)) := by
  unfold wts
  refine (select_one _ _ _ _ ((spread_any _ h i j).trans (any_at i))).trans ?_
  refine (divf_at _ _ _).trans (congrArg (Ideal.div _) ((spread_col _ h i j).trans ((dens_at _ h i).trans (sums_at s h i))))
theorem res_at (s : FVec Ideal S1x128x2048x2048 .f32) (i : Fin 2048) (n : Fin 1024) :
    res v o s (ix3 0 i n) = ∑ c : Fin 16384, (∑ j : Fin 2048, v (ix4 0 j ⟨c.val / 128, by omega⟩ ⟨c.val % 128, by omega⟩) * s (ix4 0 ⟨c.val / 128, by omega⟩ i j)) * o (ix2 c n) := by
  pointwise [res]

/-- The weight of a key under the mask, and a row of the context. -/
def wgt (h : Fin 128) (i j : Fin 2048) : EReal := if j.val / 64 ≤ i.val / 64 then Ideal.exp (raw x w k (ix4 0 h i j)) else 0
def ctx (h : Fin 128) (i : Fin 2048) (e : Fin 128) : EReal := (∑ j, wgt x w k h i j * v (ix4 0 j h e)) * Ideal.div 1 (∑ j, wgt x w k h i j)

theorem raw_real (hx : ∀ i n, Fin1 (x (ix3 0 i n))) (hw : ∀ n c, Fin1 (w (ix2 n c))) (hk : ∀ j h e, Fin1 (k (ix4 0 j h e))) (h : Fin 128) (i j : Fin 2048) :
    Fin1 (raw x w k (ix4 0 h i j)) := by
  rw [raw_at]
  exact fin1_mul (fin1_sum fun l => fin1_mul (fin1_sum fun n => fin1_mul (hx i n) (hw n _)) (hk j h l)) sc_real

theorem ctx_at (hx : ∀ i n, Fin1 (x (ix3 0 i n))) (hw : ∀ n c, Fin1 (w (ix2 n c))) (hk : ∀ j h e, Fin1 (k (ix4 0 j h e))) (h : Fin 128) (i : Fin 2048) (e : Fin 128) :
    ∑ j : Fin 2048, v (ix4 0 j h e) * wts (expd (scores x w k)) (ix4 0 h i j) = ctx x w k v h i e := by
  have hs := soft (fun j => raw x w k (ix4 0 h i j)) (fun j => v (ix4 0 j h e)) (fun j => j.val / 64 ≤ i.val / 64) (fun j => raw_real x w k hx hw hk h i j) i le_rfl _ rfl
  refine Eq.trans (Finset.sum_congr rfl fun j _ => Ideal.mul_congr rfl ?_) hs
  have he : ∀ j, expd (scores x w k) (ix4 0 h i j) = _ := fun j => expd_at (scores x w k) h i j
  rw [wts_at]
  simp only [he, scores_at]

theorem res_ctx (hx : ∀ i n, Fin1 (x (ix3 0 i n))) (hw : ∀ n c, Fin1 (w (ix2 n c))) (hk : ∀ j h e, Fin1 (k (ix4 0 j h e))) (i : Fin 2048) (n : Fin 1024) :
    res v o (wts (expd (scores x w k))) (ix3 0 i n) = ∑ c : Fin 16384, ctx x w k v ⟨c.val / 128, by omega⟩ i ⟨c.val % 128, by omega⟩ * o (ix2 c n) := by
  rw [res_at]
  exact Finset.sum_congr rfl fun c _ => Ideal.mul_congr (ctx_at x w k v hx hw hk _ i _) rfl

end Cert.Attn.Refer
-- ==== Proof.Finite.lean ====
/-
  The precondition, element by element: where it holds, every input that enters a score is a real number.
-/
module

public import proofs.«01_k».proof.Defs
public import proofs.«01_k».proof.Proof.Soft
public import Idealize.ShloMosaic.Lib.ReduceAll
public import Idealize.ShloMosaic.Lib.Pointwise

@[expose] public section

set_option maxRecDepth 16384

noncomputable section

namespace Cert.Attn

open Idealize.ShloMosaic

instance factsPreKernel : Cert.Pre_finite_scores_KernelIdeal.Facts where
  bcast_S_S1x2048x1024 := by decide
  reducesTo_S1x2048x1024_S_d0_1_2 := by decide
  h_S_ := by decide
  bcast_S_S1024x16384 := by decide
  reducesTo_S1024x16384_S_d0_1 := by decide
  bcast_S_S1x2048x8x128 := by decide
  reducesTo_S1x2048x8x128_S_d0_1_2_3 := by decide

instance factsPreReference : Cert.Pre_finite_scores_ReferenceIdeal.Facts where
  bcast_S_S1x2048x1024 := by decide
  reducesTo_S1x2048x1024_S_d0_1_2 := by decide
  h_S_ := by decide
  bcast_S_S1024x16384 := by decide
  reducesTo_S1024x16384_S_d0_1 := by decide
  bcast_S_S1x2048x128x128 := by decide
  reducesTo_S1x2048x128x128_S_d0_1_2_3 := by decide

/-- A number whose absolute value is below infinity is real. -/
theorem real_of (x : EReal) (h : Ideal.cmp .olt (max x (-x)) (Ideal.ofBits .f32 0x7F800000#32) = 1#1) : Fin1 x := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe a => exact ⟨a, rfl⟩
  | top => simp at hlt

theorem real_all {s : Shape} (x : FVec Ideal s .f32) {a : List (Fin s.rank)} (hb : (⟨0, ![]⟩ : Shape).BroadcastsInDim s (![] : Fin 0 → Fin s.rank)) (hr : s.ReducesTo a ⟨0, ![]⟩) (hu) (j : (⟨0, ![]⟩ : Shape).Idx)
    (e : Host.reduce IntOp.andi (cmpf .olt (Host.absf x) (broadcastInDim s ![] hb (constant ⟨0, ![]⟩ .f32 0x7F800000#32))) (constantI ⟨0, ![]⟩ 1 1#1) hr hu j = 1#1) (i : s.Idx) : Fin1 (x i) :=
  real_of (x i) (Host.reduce_andi_all _ _ _ _ j e i)

theorem and_one : ∀ a b : BitVec 1, IntOp.andi a b = 1#1 → a = 1#1 ∧ b = 1#1 := by decide

theorem pre_real (a0 : FVec Ideal ⟨3, ![1, 2048, 1024]⟩ .f32) (a1 : FVec Ideal ⟨2, ![1024, 16384]⟩ .f32) (a2 a3 : FVec Ideal ⟨4, ![1, 2048, 8, 128]⟩ .f32) (a4 : FVec Ideal ⟨2, ![16384, 1024]⟩ .f32)
    (h : Cert.Pre_finite_scores_KernelIdeal.fn (F := Ideal) a0 a1 a2 a3 a4 = fun _ => 1#1) :
    (∀ i, Fin1 (a0 i)) ∧ (∀ i, Fin1 (a1 i)) ∧ ∀ i, Fin1 (a2 i) := by
  have j : (⟨0, ![]⟩ : Shape).Idx := Shape.Idx.first (by decide)
  have h3 := and_one _ _ (congrFun h j)
  have h2 := and_one _ _ h3.1
  exact ⟨real_all a0 _ _ _ j h2.1, real_all a1 _ _ _ j h2.2, real_all a2 _ _ _ j h3.2⟩

end Cert.Attn
-- ==== Proof.Agree.lean ====
/-
  The two results are one: the devices' heads laid side by side are the reference's heads, and the sum over the devices of
  their products with their rows of the output matrix is the reference's one product.
-/
module

public import proofs.«01_k».proof.Proof.Total
public import proofs.«01_k».proof.Proof.Reads
public import proofs.«01_k».proof.Proof.ReferAt
public import proofs.«01_k».proof.Proof.Finite
public import Idealize.ShloMosaic.Lib.Layout

@[expose] public section

set_option maxRecDepth 16384

noncomputable section

namespace Cert.Attn

open Cert.KernelIdeal Cert.KernelIdeal.Gen
open Idealize.ShloMosaic
open Idealize.ShloMosaic.TcCoe

/-- A head of a device, and a column of a device, in the whole arrays. -/
def hdG (c : Dev nD) (h : Fin 8) : Fin 128 := ⟨8 * c.val + h.val, by have : c.val < 16 := c.isLt; omega⟩
def colG (c : Dev nD) (j : Fin 1024) : Fin 16384 := ⟨1024 * c.val + j.val, by have : c.val < 16 := c.isLt; omega⟩

section Whole
variable (x : FVec Ideal ⟨3, ![1, 2048, 1024]⟩ .f32) (w : FVec Ideal ⟨2, ![1024, 16384]⟩ .f32)
  (k v : FVec Ideal ⟨4, ![1, 2048, 128, 128]⟩ .f32) (o : FVec Ideal ⟨2, ![16384, 1024]⟩ .f32)

/-- A device's inputs are its parts of the whole arrays. -/
structure Parts (X : Ins Ideal) (c : Dev nD) : Prop where
  p0 : ∀ i n, X.x0 (ix2 i n) = x (ix3 0 i n)
  p1 : ∀ n j, X.x1 (ix2 n j) = w (ix2 n (colG c j))
  p2 : ∀ (j : Fin 2048) (h : Fin 8) (l : Fin 128), X.x2 (ix2 j ⟨128 * h.val + l.val, by omega⟩) = k (ix4 0 j (hdG c h) l)
  p3 : ∀ (j : Fin 2048) (h : Fin 8) (l : Fin 128), X.x3 (ix2 j ⟨128 * h.val + l.val, by omega⟩) = v (ix4 0 j (hdG c h) l)
  p4 : ∀ j n, X.x4 (ix2 j n) = o (ix2 (colG c j) n)

variable {x w k v o}

theorem scr_eq {X : Ins Ideal} {c : Dev nD} (p : Parts x w k v o X c) (h : Fin 8) (i j : Fin 2048) :
    scr X h i j = Refer.raw x w k (ix4 0 (hdG c h) i j) := by
  rw [Refer.raw_at]
  refine Ideal.mul_congr (Finset.sum_congr rfl fun l _ => Ideal.mul_congr (Finset.sum_congr rfl fun n _ => Ideal.mul_congr (p.p0 i n) ?_) (p.p2 j h l)) rfl
  rw [p.p1]
  exact congrArg (fun a => w (ix2 n a)) (Fin.ext (by show 1024 * c.val + (128 * h.val + l.val) = (8 * c.val + h.val) * 128 + l.val; omega))

theorem wgt_eq {X : Ins Ideal} {c : Dev nD} (p : Parts x w k v o X c) (h : Fin 8) (i j : Fin 2048) :
    wgt X h i j = Refer.wgt x w k (hdG c h) i j := by
  unfold wgt Refer.wgt
  rw [scr_eq p]

theorem ctx_eq {X : Ins Ideal} {c : Dev nD} (p : Parts x w k v o X c) (h : Fin 8) (i : Fin 2048) (e : Fin 128) :
    ctx X h i e = Refer.ctx x w k v (hdG c h) i e := by
  unfold ctx Refer.ctx
  simp only [wgt_eq p, p.p3]

theorem part_eq {X : Ins Ideal} {c : Dev nD} (p : Parts x w k v o X c) (i : Fin 2048) (n : Fin 1024) :
    oF X (ix2 i n) = ∑ j : Fin 1024, Refer.ctx x w k v ⟨(colG c j).val / 128, by omega⟩ i ⟨(colG c j).val % 128, by omega⟩ * o (ix2 (colG c j) n) := by
  rw [oF_at]
  refine Finset.sum_congr rfl fun j _ => Ideal.mul_congr ?_ (p.p4 j n)
  rw [ctx_eq p]
  have e1 : (colG c j).val / 128 = 8 * c.val + j.val / 128 := by show (1024 * c.val + j.val) / 128 = _; omega
  have e2 : (colG c j).val % 128 = j.val % 128 := by show (1024 * c.val + j.val) % 128 = _; omega
  exact congrArg₂ (fun a b => Refer.ctx x w k v a i b) (Fin.ext e1.symm) (Fin.ext e2.symm)

/-- The kernel's result is the reference's, where the inputs that enter a score are real. -/
theorem whole_eq {X : Dev nD → Ins Ideal} (p : ∀ c, Parts x w k v o (X c) c)
    (hx : ∀ i n, Fin1 (x (ix3 0 i n))) (hw : ∀ n c, Fin1 (w (ix2 n c))) (hk : ∀ j h e, Fin1 (k (ix4 0 j h e))) (i : Fin 2048) (n : Fin 1024) :
    k0_pay156 (join (vals X).RD) (ix2 i n) = Refer.res v o (Refer.wts (Refer.expd (Refer.scores x w k))) (ix3 0 i n) := by
  rw [out_at, Refer.res_ctx x w k v o hx hw hk]
  refine Eq.trans ?_ (Fin.sum_univ_tiles 16 1024 rfl fun c : Fin 16384 => Refer.ctx x w k v ⟨c.val / 128, by omega⟩ i ⟨c.val % 128, by omega⟩ * o (ix2 c n)).symm
  refine Finset.sum_congr rfl fun d _ => (part_eq (p d) i n).trans (Finset.sum_congr rfl fun j _ => ?_)
  have e : colG d j = ⟨d.val * 1024 + j.val, by have : d.val < 16 := d.isLt; omega⟩ := Fin.ext (by show 1024 * d.val + j.val = d.val * 1024 + j.val; omega)
  exact congrArg (fun c : Fin 16384 => Refer.ctx x w k v ⟨c.val / 128, by omega⟩ i ⟨c.val % 128, by omega⟩ * o (ix2 c n)) e
end Whole

/-- A device's block of the heads, at an index. -/
theorem block_at (K : FVec Ideal ⟨4, ![1, 2048, 128, 128]⟩ .f32) (c : Dev nD) (h) (j : Fin 2048) (a : Fin 8) (l : Fin 128) :
    (Layout.block ⟨4, ![1, 2048, 8, 128]⟩ ⟨4, ![1, 2048, 128, 128]⟩ 2 16 c K h : FVec Ideal ⟨4, ![1, 2048, 8, 128]⟩ .f32) (ix4 0 j a l) = K (ix4 0 j (hdG c a) l) := by
  rw [Layout.block_apply]
  refine congrArg K (funext fun b => Fin.ext ?_)
  fin_cases b
  · rfl
  · rfl
  · show c.val * 8 + a.val = 8 * c.val + a.val
    omega
  · rfl

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The devices' buffers hold their parts of the reference's arrays. -/
def Laid : Prop :=
  ∀ c : Dev nD,
    m ((c.tc : Thread nD τ).loc main_arg0) = m' (((0 : Dev Cert.ReferenceIdeal.nD).tc : Thread Cert.ReferenceIdeal.nD Cert.ReferenceIdeal.τ).loc Cert.ReferenceIdeal.main_arg0)
    ∧ m ((c.tc : Thread nD τ).loc main_arg1) = m' (((0 : Dev Cert.ReferenceIdeal.nD).tc : Thread Cert.ReferenceIdeal.nD Cert.ReferenceIdeal.τ).loc Cert.ReferenceIdeal.main_arg1)
    ∧ m ((c.tc : Thread nD τ).loc main_arg2) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg2))
    ∧ m ((c.tc : Thread nD τ).loc main_arg3) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg3))
    ∧ m ((c.tc : Thread nD τ).loc main_arg4) = m' (((0 : Dev Cert.ReferenceIdeal.nD).tc : Thread Cert.ReferenceIdeal.nD Cert.ReferenceIdeal.τ).loc Cert.ReferenceIdeal.main_arg4)

variable {m m'}

theorem parts (h : Laid m m') (c : Dev nD) :
    Parts (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) (XsOf m c) c := by
  obtain ⟨h0, h1, h2, h3, h4⟩ := h c
  refine ⟨fun i n => (x0_at m c i n).trans (congrFun h0 _), fun n j => (x1_at m c n j).trans (congrFun h1 _),
    fun j a l => (x2_at m c j a l).trans ((congrFun h2 _).trans (block_at _ c _ j a l)),
    fun j a l => (x3_at m c j a l).trans ((congrFun h3 _).trans (block_at _ c _ j a l)),
    fun j n => (x4_at m c j n).trans (congrFun h4 _)⟩

/-- A head of the whole arrays belongs to a device. -/
theorem hdG_all (h : Fin 128) : ∃ (c : Dev nD) (a : Fin 8), hdG c a = h :=
  ⟨(⟨h.val / 8, by omega⟩ : Fin 16), ⟨h.val % 8, by omega⟩, Fin.ext (by show 8 * (h.val / 8) + h.val % 8 = h.val; omega)⟩

/-- On every device the kernel's result is the reference's. -/
theorem result_eq (hp : Cert.Pre_KernelIdeal_finite_scores_KernelIdeal m) (h : Laid m m') (c : Dev nD) :
    V3 m (outs m) c (Proc.devRef .tc main_v23) = Cert.ReferenceIdeal.Value.res_main_v33 m' 0 := by
  rw [Refer.res_eq]
  have hr := fun c => pre_real _ _ _ _ _ (hp c)
  refine funext fun idx => ?_
  obtain ⟨z, i, n, rfl⟩ : ∃ (z : Fin 1) (i : Fin 2048) (n : Fin 1024), idx = ix3 z i n := ⟨idx 0, idx 1, idx 2, by funext a; fin_cases a <;> rfl⟩
  obtain rfl : z = 0 := Subsingleton.elim _ _
  refine (last_at m c i n).trans (whole_eq (fun c => parts h c) (fun i n => ?_) (fun n j => ?_) (fun j a e => ?_) i n)
  · exact (congrArg Fin1 (congrFun (h 0).1 (ix3 0 i n))).mp ((hr 0).1 _)
  · exact (congrArg Fin1 (congrFun (h 0).2.1 (ix2 n j))).mp ((hr 0).2.1 _)
  · obtain ⟨d, b, rfl⟩ := hdG_all a
    exact (congrArg Fin1 ((congrFun (h d).2.2.1 (ix4 0 j b e)).trans (block_at _ d _ j b e))).mp ((hr d).2.2 _)

end Cert.Attn
-- ==== Proof.lean ====
/- The claims, put together from the run of the kernel and the run of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem

/-- The run with the result dropped: over any floats, the arguments are kept and every counter ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1.2, h.2⟩) (Cert.Attn.run_main (F := F) m ρ)

/-- The kernel as printed has the text of the program the run was proved of. -/
theorem frame_kernel : Cert.quiescent_Kernel := fun m ρ _ => by
  rw [Cert.Attn.same_defs]
  exact frame_any (F := Bits) m ρ

theorem frame_kernelIdeal : Cert.quiescent_KernelIdeal := fun m ρ _ => frame_any (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories laid out alike, with every input of a score real, each device's result is the reference's. -/
theorem value : Cert.algebraic_KernelIdeal_ReferenceIdeal_pre_finite_scores_KernelIdeal := fun m g m' g' hp h =>
  ⟨Cert.ReferenceIdeal.Value.res_main_v33 m' 0,
    (θ_run Cert.KernelIdeal.defs _ _).mono (fun _ r c => ⟨(r.1 c).1.1.trans (Cert.Attn.result_eq hp h c), (r.1 c).1.2⟩)
      (Cert.Attn.run_main (F := Ideal) m g),
    (θ_run Cert.ReferenceIdeal.defs _ _).mono (fun _ r => r 0) (Cert.ReferenceIdeal.Value.run (F := Ideal) m' g')⟩

theorem claim : Cert.Claim := ⟨Cert.Kernel.Gen.facts, Cert.KernelIdeal.Gen.facts, Cert.ReferenceIdeal.Gen.facts,
  Cert.Attn.factsPreKernel, Cert.Attn.factsPreReference,
  frame_kernel, frame_kernelIdeal, fun m g _ => frame_kernelIdeal m g trivial,
  frame_referenceIdeal, fun m g _ => frame_referenceIdeal m g trivial, trivial, value⟩

end Cert.Proof

end
